-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_mix [hPre_finite_mix : Cert.Pre_finite_mix.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_mix.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_mix [hPre_finite_mix : Cert.Pre_finite_mix.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_mix.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_wide_mix [hPre_finite_wide_mix : Cert.Pre_finite_wide_mix.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_wide_mix.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_wide_mix [hPre_finite_wide_mix : Cert.Pre_finite_wide_mix.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_wide_mix.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_greatest [hPre_finite_greatest : Cert.Pre_finite_greatest.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_greatest.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_greatest [hPre_finite_greatest : Cert.Pre_finite_greatest.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_greatest.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite_mix [hKernel6Ideal : Cert.Kernel6Ideal.Facts] [hPre_finite_mix : Cert.Pre_finite_mix.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_mix m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite_mix [hReference6Ideal : Cert.Reference6Ideal.Facts] [hPre_finite_mix : Cert.Pre_finite_mix.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_mix m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite_wide_mix [hKernel7Ideal : Cert.Kernel7Ideal.Facts] [hPre_finite_wide_mix : Cert.Pre_finite_wide_mix.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_wide_mix m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite_wide_mix [hReference7Ideal : Cert.Reference7Ideal.Facts] [hPre_finite_wide_mix : Cert.Pre_finite_wide_mix.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_wide_mix m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite_greatest [hKernel8Ideal : Cert.Kernel8Ideal.Facts] [hPre_finite_greatest : Cert.Pre_finite_greatest.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_greatest m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite_greatest [hReference8Ideal : Cert.Reference8Ideal.Facts] [hPre_finite_greatest : Cert.Pre_finite_greatest.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_greatest m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite_mix [hKernel6Ideal : Cert.Kernel6Ideal.Facts] [hReference6Ideal : Cert.Reference6Ideal.Facts] [hPre_finite_mix : Cert.Pre_finite_mix.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_mix m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v108) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_wide_mix [hKernel7Ideal : Cert.Kernel7Ideal.Facts] [hReference7Ideal : Cert.Reference7Ideal.Facts] [hPre_finite_wide_mix : Cert.Pre_finite_wide_mix.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_wide_mix m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_v108) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite_greatest [hKernel8Ideal : Cert.Kernel8Ideal.Facts] [hReference8Ideal : Cert.Reference8Ideal.Facts] [hPre_finite_greatest : Cert.Pre_finite_greatest.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_greatest m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v82)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v82) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v94) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_args : Cert.Pre_finite_args.Facts) (hPre_finite_mix : Cert.Pre_finite_mix.Facts) (hPre_finite_wide_mix : Cert.Pre_finite_wide_mix.Facts) (hPre_finite_greatest : Cert.Pre_finite_greatest.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_mix (hKernel6Ideal := hKernel6Ideal) (hPre_finite_mix := hPre_finite_mix)
    ∧ quiescent_Reference6Ideal (hReference6Ideal := hReference6Ideal)
    ∧ quiescent_Reference6Ideal_pre_finite_mix (hReference6Ideal := hReference6Ideal) (hPre_finite_mix := hPre_finite_mix)
    ∧ quiescent_Kernel7 (hKernel7 := hKernel7)
    ∧ quiescent_Kernel7Ideal (hKernel7Ideal := hKernel7Ideal)
    ∧ quiescent_Kernel7Ideal_pre_finite_wide_mix (hKernel7Ideal := hKernel7Ideal) (hPre_finite_wide_mix := hPre_finite_wide_mix)
    ∧ quiescent_Reference7Ideal (hReference7Ideal := hReference7Ideal)
    ∧ quiescent_Reference7Ideal_pre_finite_wide_mix (hReference7Ideal := hReference7Ideal) (hPre_finite_wide_mix := hPre_finite_wide_mix)
    ∧ quiescent_Kernel8 (hKernel8 := hKernel8)
    ∧ quiescent_Kernel8Ideal (hKernel8Ideal := hKernel8Ideal)
    ∧ quiescent_Kernel8Ideal_pre_finite_greatest (hKernel8Ideal := hKernel8Ideal) (hPre_finite_greatest := hPre_finite_greatest)
    ∧ quiescent_Reference8Ideal (hReference8Ideal := hReference8Ideal)
    ∧ quiescent_Reference8Ideal_pre_finite_greatest (hReference8Ideal := hReference8Ideal) (hPre_finite_greatest := hPre_finite_greatest)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_mix (hKernel6Ideal := hKernel6Ideal) (hReference6Ideal := hReference6Ideal) (hPre_finite_mix := hPre_finite_mix)
    ∧ preserves_Kernel7_Kernel7Ideal
    ∧ algebraic_Kernel7Ideal_Reference7Ideal_pre_finite_wide_mix (hKernel7Ideal := hKernel7Ideal) (hReference7Ideal := hReference7Ideal) (hPre_finite_wide_mix := hPre_finite_wide_mix)
    ∧ preserves_Kernel8_Kernel8Ideal
    ∧ algebraic_Kernel8Ideal_Reference8Ideal_pre_finite_greatest (hKernel8Ideal := hKernel8Ideal) (hReference8Ideal := hReference8Ideal) (hPre_finite_greatest := hPre_finite_greatest)
    ∧ preserves_Kernel9_Kernel9Ideal
    ∧ algebraic_Kernel9Ideal_Reference9Ideal (hKernel9Ideal := hKernel9Ideal) (hReference9Ideal := hReference9Ideal)
-- ==== Pre_finite_args.lean ====
abbrev S16384x6144 : Shape := ⟨2, ![16384, 6144]⟩
abbrev S16384x128 : Shape := ⟨2, ![16384, 128]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S_ : Shape := ⟨0, ![]⟩

class Facts : Prop where
  bcast_S_S16384x6144 : S_.BroadcastsInDim S16384x6144 (![] : Fin 0 → Fin S16384x6144.rank)
  reducesTo_S16384x6144_S_d0_1 : S16384x6144.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S4x4096 : S_.BroadcastsInDim S4x4096 (![] : Fin 0 → Fin S4x4096.rank)
  reducesTo_S4x4096_S_d0_1 : S4x4096.ReducesTo [0, 1] S_
  bcast_S_S4096 : S_.BroadcastsInDim S4096 (![] : Fin 0 → Fin S4096.rank)
  reducesTo_S4096_S_d0 : S4096.ReducesTo [0] S_
  bcast_S_S32 : S_.BroadcastsInDim S32 (![] : Fin 0 → Fin S32.rank)
  reducesTo_S32_S_d0 : S32.ReducesTo [0] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S32 .f32) (main_arg5 : FVec F S32 .f32) (main_arg6 : FVec F S32 .f32) (main_arg7 : FVec F S2048 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_v33

def fn {F : FTy → Type} [FloatOps F] (main_arg0 : FVec F S16384x6144 .bf16) (main_arg1 : FVec F S16384x128 .f32) (main_arg2 : FVec F S4x4096 .f32) (main_arg3 : FVec F S4096 .f32) (main_arg4 : FVec F S32 .f32) (main_arg5 : FVec F S32 .f32) (main_arg6 : FVec F S32 .f32) (main_arg7 : FVec F S2048 .f32) : IVec S_ 1 :=
  let main_v0 : FVec F S16384x6144 .bf16 := Host.absf main_arg0
  let main_cst : FVec F S_ .bf16 := constant S_ .bf16 0x7F80#16
  let main_v1 : FVec F S16384x6144 .bf16 := broadcastInDim S16384x6144 ![] bcast_S_S16384x6144 main_cst
  let main_v2 : IVec S16384x6144 1 := cmpf .olt main_v0 main_v1
  let main_c : IVec S_ 1 := constantI S_ 1 1#1
  let main_v3 : IVec S_ 1 := (fun x v => Host.reduce IntOp.andi x v reducesTo_S16384x6144_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S4x4096 .f32 := Host.absf main_arg2
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_c_3 : IVec S_ 1 := constantI S_ 1 1#1
  let main_v12 : IVec S_ 1 := (fun x v => Host.reduce IntOp.andi x v reducesTo_S4x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Pre_finite_greatest.lean ====
abbrev S16384x1024 : Shape := ⟨2, ![16384, 1024]⟩
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x1024 .bf16) (main_arg1 : FVec F S16384x1024 .bf16) (main_arg2 : FVec F S16384x1024 .bf16) (main_arg3 : FVec F S16384x128 .f32) (main_arg4 : FVec F S16384x128 .f32) (main_arg5 : FVec F S16384x128 .f32) : IVec S_ 1 :=
  let main_v0 : FVec F S16384x128 .f32 := maximumf main_arg3 main_arg4
  let main_v1 : FVec F S16384x128 .f32 := maximumf main_v0 main_arg5
  let main_v2 : FVec F S16384x128 .f32 := Host.absf main_v1
  let main_cst : FVec F S_ .f32 := constant S_ .f32 0x7F800000#32
  let main_v3 : FVec F S16384x128 .f32 := broadcastInDim S16384x128 ![] bcast_S_S16384x128 main_cst
  let main_v4 : IVec S16384x128 1 := cmpf .olt main_v2 main_v3
  let main_c : IVec S_ 1 := constantI S_ 1 1#1
  let main_v5 : IVec S_ 1 := (fun x v => Host.reduce IntOp.andi x v reducesTo_S16384x128_S_d0_1 h_S_) main_v4 main_c
  main_v5
-- ==== Pre_finite_mix.lean ====
abbrev S16384x1024 : Shape := ⟨2, ![16384, 1024]⟩
abbrev S1024x1024 : Shape := ⟨2, ![1024, 1024]⟩
abbrev S1x1024 : Shape := ⟨2, ![1, 1024]⟩
abbrev S1024x8 : Shape := ⟨2, ![1024, 8]⟩
abbrev S1024x64 : Shape := ⟨2, ![1024, 64]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x8 : S_.BroadcastsInDim S1024x8 (![] : Fin 0 → Fin S1024x8.rank)
  reducesTo_S1024x8_S_d0_1 : S1024x8.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S1x1024 .f32) (main_arg5 : FVec F S1024x8 .f32) (main_arg6 : FVec F S1024x64 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x8 .f32 := Host.absf main_arg5
  let main_cst_8 : FVec F S_ .f32 := constant S_ .f32 0x7F800000#32
  let main_v25 : FVec F S1024x8 .f32 := broadcastInDim S1024x8 ![] bcast_S_S1024x8 main_cst_8
  let main_v26 : IVec S1024x8 1 := cmpf .olt main_v24 main_v25
  let main_c_9 : IVec S_ 1 := constantI S_ 1 1#1
  let main_v27 : IVec S_ 1 := (fun x v => Host.reduce IntOp.andi x v reducesTo_S1024x8_S_d0_1 h_S_) main_v26 main_c_9
  let main_v28 : IVec S_ 1 := andi main_v23 main_v27
  let main_v29 : FVec F S1024x64 .f32 := Host.absf main_arg6
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  main_v33

def fn {F : FTy → Type} [FloatOps F] (main_arg0 : FVec F S16384x1024 .bf16) (main_arg1 : FVec F S1024x1024 .bf16) (main_arg2 : FVec F S16384x1024 .f32) (main_arg3 : FVec F S1x1024 .f32) (main_arg4 : FVec F S1x1024 .f32) (main_arg5 : FVec F S1024x8 .f32) (main_arg6 : FVec F S1024x64 .f32) : IVec S_ 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_finite_wide_mix.lean ====
abbrev S16384x2048 : Shape := ⟨2, ![16384, 2048]⟩
abbrev S2048x1024 : Shape := ⟨2, ![2048, 1024]⟩
abbrev S16384x1024 : Shape := ⟨2, ![16384, 1024]⟩
abbrev S1x1024 : Shape := ⟨2, ![1, 1024]⟩
abbrev S1024x8 : Shape := ⟨2, ![1024, 8]⟩
abbrev S1024x64 : Shape := ⟨2, ![1024, 64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x8 : S_.BroadcastsInDim S1024x8 (![] : Fin 0 → Fin S1024x8.rank)
  reducesTo_S1024x8_S_d0_1 : S1024x8.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S1x1024 .f32) (main_arg5 : FVec F S1024x8 .f32) (main_arg6 : FVec F S1024x64 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x8 .f32 := Host.absf main_arg5
  let main_cst_8 : FVec F S_ .f32 := constant S_ .f32 0x7F800000#32
  let main_v25 : FVec F S1024x8 .f32 := broadcastInDim S1024x8 ![] bcast_S_S1024x8 main_cst_8
  let main_v26 : IVec S1024x8 1 := cmpf .olt main_v24 main_v25
  let main_c_9 : IVec S_ 1 := constantI S_ 1 1#1
  let main_v27 : IVec S_ 1 := (fun x v => Host.reduce IntOp.andi x v reducesTo_S1024x8_S_d0_1 h_S_) main_v26 main_c_9
  let main_v28 : IVec S_ 1 := andi main_v23 main_v27
  let main_v29 : FVec F S1024x64 .f32 := Host.absf main_arg6
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  main_v33

def fn {F : FTy → Type} [FloatOps F] (main_arg0 : FVec F S16384x2048 .bf16) (main_arg1 : FVec F S2048x1024 .bf16) (main_arg2 : FVec F S16384x1024 .f32) (main_arg3 : FVec F S1x1024 .f32) (main_arg4 : FVec F S1x1024 .f32) (main_arg5 : FVec F S1024x8 .f32) (main_arg6 : FVec F S1024x64 .f32) : IVec S_ 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1024 .bf16 := Host.absf main_arg1
  let main_cst_0 : FVec F S_ .bf16 := constant S_ .bf16 0x7F80#16
  let main_v5 : FVec F S2048x1024 .bf16 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Kernel.lean ====
abbrev S16384x6144 : Shape := ⟨2, ![16384, 6144]⟩
abbrev S16384x128 : Shape := ⟨2, ![16384, 128]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S1x4096 : Shape := ⟨2, ![1, 4096]⟩
abbrev S32x64 : Shape := ⟨2, ![32, 64]⟩
abbrev S1x2048 : Shape := ⟨2, ![1, 2048]⟩
abbrev S_ : Shape := ⟨0, ![]⟩
abbrev S128 : Shape := ⟨1, ![128]⟩
abbrev S1x128 : Shape := ⟨2, ![1, 128]⟩
abbrev S4x2048 : Shape := ⟨2, ![4, 2048]⟩
abbrev S16384x2048 : Shape := ⟨2, ![16384, 2048]⟩
abbrev S128x2048 : Shape := ⟨2, ![128, 2048]⟩
abbrev S8x2048 : Shape := ⟨2, ![8, 2048]⟩
abbrev S128x128 : Shape := ⟨2, ![128, 128]⟩
abbrev S8x128x256 : Shape := ⟨3, ![8, 128, 256]⟩
abbrev S120x2048 : Shape := ⟨2, ![120, 2048]⟩
abbrev S128x384 : Shape := ⟨2, ![128, 384]⟩
abbrev S384x128 : Shape := ⟨2, ![384, 128]⟩
abbrev S384x2048 : Shape := ⟨2, ![384, 2048]⟩
abbrev S384x384 : Shape := ⟨2, ![384, 384]⟩
abbrev S1x128x256 : Shape := ⟨3, ![1, 128, 256]⟩
abbrev S128x256 : Shape := ⟨2, ![128, 256]⟩
abbrev S128x1 : Shape := ⟨2, ![128, 1]⟩
abbrev S128x64 : Shape := ⟨2, ![128, 64]⟩
abbrev S1x256 : Shape := ⟨2, ![1, 256]⟩

abbrev nBuf : Space → Nat
  | .hbm => 28
  | .vmem => 23
  | .smem => 0
  | _ => 0

abbrev bufTy : (tb : Table) → Fin (tcTables nBuf tb) → BufTy
  | .hbm, ⟨0, _⟩ => ⟨S16384x6144, .bf16⟩
  | .hbm, ⟨1, _⟩ => ⟨S16384x128, .f32⟩
  | .hbm, ⟨2, _⟩ => ⟨S4x4096, .f32⟩
  | .hbm, ⟨3, _⟩ => ⟨S4096, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S1x4096, .f32⟩
  | .hbm, ⟨9, _⟩ => ⟨S32x64, .f32⟩
  | .hbm, ⟨10, _⟩ => ⟨S2048, .f32⟩
  | .hbm, ⟨11, _⟩ => ⟨S1x2048, .f32⟩
  | .hbm, ⟨12, _⟩ => ⟨S32, .f32⟩
  | .hbm, ⟨13, _⟩ => ⟨S32, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S4x2048, .f32⟩
  | .hbm, ⟨19, _⟩ => ⟨S1x2048, .f32⟩
  | .hbm, ⟨20, _⟩ => ⟨S4x2048, .f32⟩
  | .hbm, ⟨21, _⟩ => ⟨S1x2048, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S1x2048, .f32⟩
  | .hbm, ⟨27, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S8x2048, .bf16⟩
  | .local _ .vmem, ⟨7, _⟩ => ⟨S8x2048, .bf16⟩
  | .local _ .vmem, ⟨8, _⟩ => ⟨S8x2048, .bf16⟩
  | .local _ .vmem, ⟨9, _⟩ => ⟨S8x2048, .bf16⟩
  | .local _ .vmem, ⟨10, _⟩ => ⟨S128x128, .f32⟩
  | .local _ .vmem, ⟨11, _⟩ => ⟨S128x128, .f32⟩
  | .local _ .vmem, ⟨12, _⟩ => ⟨S4x2048, .f32⟩
  | .local _ .vmem, ⟨13, _⟩ => ⟨S1x2048, .f32⟩
  | .local _ .vmem, ⟨14, _⟩ => ⟨S4x2048, .f32⟩
  | .local _ .vmem, ⟨15, _⟩ => ⟨S1x2048, .f32⟩
  | .local _ .vmem, ⟨16, _⟩ => ⟨S1x128, .f32⟩
  | .local _ .vmem, ⟨17, _⟩ => ⟨S1x128, .f32⟩
  | .local _ .vmem, ⟨18, _⟩ => ⟨S1x2048, .f32⟩
  | .local _ .vmem, ⟨19, _⟩ => ⟨S1x2048, .f32⟩
  | .local _ .vmem, ⟨20, _⟩ => ⟨S128x2048, .bf16⟩
  | .local _ .vmem, ⟨21, _⟩ => ⟨S128x2048, .bf16⟩
  | .local _ .vmem, ⟨22, _⟩ => ⟨S8x128x256, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S16384x6144 : Shape := ⟨2, ![16384, 6144]⟩
abbrev S16384x128 : Shape := ⟨2, ![16384, 128]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S16384x2048 : Shape := ⟨2, ![16384, 2048]⟩
abbrev S16384x4096 : Shape := ⟨2, ![16384, 4096]⟩
abbrev S16384x32 : Shape := ⟨2, ![16384, 32]⟩
abbrev S_ : Shape := ⟨0, ![]⟩
abbrev S16387x4096 : Shape := ⟨2, ![16387, 4096]⟩
abbrev S1x4096 : Shape := ⟨2, ![1, 4096]⟩
abbrev S16384x32x64 : Shape := ⟨3, ![16384, 32, 64]⟩
abbrev S16384x1024 : Shape := ⟨2, ![16384, 1024]⟩
abbrev S1x32 : Shape := ⟨2, ![1, 32]⟩
abbrev S16384x32x1 : Shape := ⟨3, ![16384, 32, 1]⟩
abbrev S128x128x8x4x64 : Shape := ⟨5, ![128, 128, 8, 4, 64]⟩
abbrev S128x128x8x4 : Shape := ⟨4, ![128, 128, 8, 4]⟩
abbrev S128x8x4x128 : Shape := ⟨4, ![128, 8, 4, 128]⟩
abbrev S128x128x8x128 : Shape := ⟨4, ![128, 128, 8, 128]⟩
abbrev S128x128 : Shape := ⟨2, ![128, 128]⟩
abbrev S128x8x4x128x1 : Shape := ⟨5, ![128, 8, 4, 128, 1]⟩
abbrev S128x8x4x1x128 : Shape := ⟨5, ![128, 8, 4, 1, 128]⟩
abbrev S128x8x4x128x128 : Shape := ⟨5, ![128, 8, 4, 128, 128]⟩
abbrev S128x8x128x128 : Shape := ⟨4, ![128, 8, 128, 128]⟩
abbrev S128x8x1x128x128 : Shape := ⟨5, ![128, 8, 1, 128, 128]⟩
abbrev S128x8x4x64x128 : Shape := ⟨5, ![128, 8, 4, 64, 128]⟩
abbrev S128x8x4x1 : Shape := ⟨4, ![128, 8, 4, 1]⟩
abbrev S128x128x8x4x1 : Shape := ⟨5, ![128, 128, 8, 4, 1]⟩
abbrev S128x8x4 : Shape := ⟨3, ![128, 8, 4]⟩
abbrev S128x128x1x1 : Shape := ⟨4, ![128, 128, 1, 1]⟩
abbrev S128x1x8x4 : Shape := ⟨4, ![128, 1, 8, 4]⟩
abbrev S1x128x8x4 : Shape := ⟨4, ![1, 128, 8, 4]⟩
abbrev S8x4x64x128x128 : Shape := ⟨5, ![8, 4, 64, 128, 128]⟩
abbrev S32x1 : Shape := ⟨2, ![32, 1]⟩
abbrev S1x32x1 : Shape := ⟨3, ![1, 32, 1]⟩
abbrev S16384x8x256 : Shape := ⟨3, ![16384, 8, 256]⟩
abbrev S16384x8 : Shape := ⟨2, ![16384, 8]⟩
abbrev S16384x8x1 : Shape := ⟨3, ![16384, 8, 1]⟩
abbrev S1x2048 : Shape := ⟨2, ![1, 2048]⟩

abbrev nBuf : Space → Nat
  | .hbm => 195
  | .vmem => 0
  | .smem => 0
  | _ => 0

abbrev hbmTy0_0 (i : Nat) : BufTy := match i % 128 with
  | 0 => ⟨S16384x6144, .bf16⟩
  | 1 => ⟨S16384x128, .f32⟩
  | 2 => ⟨S4x4096, .f32⟩
  | 3 => ⟨S4096, .f32⟩
  | 4 => ⟨S32, .f32⟩
  | 5 => ⟨S32, .f32⟩
  | 6 => ⟨S32, .f32⟩
  | 7 => ⟨S2048, .f32⟩
  | 8 => ⟨S16384x6144, .f32⟩
  | 9 => ⟨S16384x2048, .f32⟩
  | 10 => ⟨S16384x4096, .f32⟩
  | 11 => ⟨S16384x32, .f32⟩
  | 12 => ⟨S_, .i32⟩
  | 13 => ⟨S_, .f32⟩
  | 14 => ⟨S16387x4096, .f32⟩
  | 15 => ⟨S16384x4096, .f32⟩
  | 16 => ⟨S1x4096, .f32⟩
  | 17 => ⟨S16384x4096, .f32⟩
  | 18 => ⟨S16384x4096, .f32⟩
  | 19 => ⟨S16384x4096, .f32⟩
  | 20 => ⟨S1x4096, .f32⟩
  | 21 => ⟨S16384x4096, .f32⟩
  | 22 => ⟨S16384x4096, .f32⟩
  | 23 => ⟨S16384x4096, .f32⟩
  | 24 => ⟨S16384x4096, .f32⟩
  | 25 => ⟨S1x4096, .f32⟩
  | 26 => ⟨S16384x4096, .f32⟩
  | 27 => ⟨S16384x4096, .f32⟩
  | 28 => ⟨S16384x4096, .f32⟩
  | 29 => ⟨S16384x4096, .f32⟩
  | 30 => ⟨S1x4096, .f32⟩
  | 31 => ⟨S16384x4096, .f32⟩
  | 32 => ⟨S16384x4096, .f32⟩
  | 33 => ⟨S16384x4096, .f32⟩
  | 34 => ⟨S1x4096, .f32⟩
  | 35 => ⟨S16384x4096, .f32⟩
  | 36 => ⟨S16384x4096, .f32⟩
  | 37 => ⟨S16384x4096, .f32⟩
  | 38 => ⟨S16384x4096, .f32⟩
  | 39 => ⟨S_, .f32⟩
  | 40 => ⟨S16384x4096, .f32⟩
  | 41 => ⟨S16384x4096, .f32⟩
  | 42 => ⟨S_, .f32⟩
  | 43 => ⟨S16384x4096, .f32⟩
  | 44 => ⟨S16384x4096, .f32⟩
  | 45 => ⟨S16384x4096, .f32⟩
  | 46 => ⟨S16384x2048, .f32⟩
  | 47 => ⟨S16384x32x64, .f32⟩
  | 48 => ⟨S16384x1024, .f32⟩
  | 49 => ⟨S16384x1024, .f32⟩
  | 50 => ⟨S1x32, .f32⟩
  | 51 => ⟨S16384x32, .f32⟩
  | 52 => ⟨S16384x32, .f32⟩
  | 53 => ⟨S_, .f32⟩
  | 54 => ⟨S16384x32, .f32⟩
  | 55 => ⟨S16384x32, .f32⟩
  | 56 => ⟨S16384x32, .f32⟩
  | 57 => ⟨S16384x32, .f32⟩
  | 58 => ⟨S16384x32, .i1⟩
  | 59 => ⟨S16384x32, .f32⟩
  | 60 => ⟨S16384x32, .f32⟩
  | 61 => ⟨S16384x32, .f32⟩
  | 62 => ⟨S16384x32, .f32⟩
  | 63 => ⟨S16384x32, .f32⟩
  | 64 => ⟨S16384x32, .f32⟩
  | 65 => ⟨S16384x32, .f32⟩
  | 66 => ⟨S16384x32, .f32⟩
  | 67 => ⟨S32, .f32⟩
  | 68 => ⟨S32, .f32⟩
  | 69 => ⟨S1x32, .f32⟩
  | 70 => ⟨S16384x32, .f32⟩
  | 71 => ⟨S16384x32, .f32⟩
  | 72 => ⟨S16384x32x1, .f32⟩
  | 73 => ⟨S16384x32x64, .f32⟩
  | 74 => ⟨S16384x32x64, .f32⟩
  | 75 => ⟨S128x128x8x4x64, .f32⟩
  | 76 => ⟨S128x128x8x4, .f32⟩
  | 77 => ⟨S128x8x4x128, .f32⟩
  | 78 => ⟨S128x128x8x128, .f32⟩
  | 79 => ⟨S128x128x8x128, .f32⟩
  | 80 => ⟨S_, .f32⟩
  | 81 => ⟨S_, .f32⟩
  | 82 => ⟨S128x8x4x128, .f32⟩
  | 83 => ⟨S_, .i1⟩
  | 84 => ⟨S128x128, .i1⟩
  | 85 => ⟨S128x128, .i32⟩
  | 86 => ⟨S_, .i32⟩
  | 87 => ⟨S128x128, .i32⟩
  | 88 => ⟨S128x128, .i32⟩
  | 89 => ⟨S128x128, .i32⟩
  | 90 => ⟨S128x128, .i1⟩
  | 91 => ⟨S_, .i1⟩
  | 92 => ⟨S128x128, .i1⟩
  | 93 => ⟨S128x128, .i1⟩
  | 94 => ⟨S128x8x4x128x1, .f32⟩
  | 95 => ⟨S128x8x4x1x128, .f32⟩
  | 96 => ⟨S128x8x4x128x128, .f32⟩
  | 97 => ⟨S128x8x4x128x128, .f32⟩
  | 98 => ⟨S128x8x4x128x128, .f32⟩
  | 99 => ⟨S_, .f32⟩
  | 100 => ⟨S_, .f32⟩
  | 101 => ⟨S128x8x4x128x128, .i1⟩
  | 102 => ⟨S128x8x4x128x128, .f32⟩
  | 103 => ⟨S128x8x4x128x128, .f32⟩
  | 104 => ⟨S128x8x4x128x128, .f32⟩
  | 105 => ⟨S128x8x128x128, .f32⟩
  | 106 => ⟨S128x8x1x128x128, .f32⟩
  | 107 => ⟨S128x8x4x128x128, .f32⟩
  | 108 => ⟨S128x8x4x128x128, .f32⟩
  | 109 => ⟨S128x8x4x64x128, .f32⟩
  | 110 => ⟨S128x128x8x4x64, .f32⟩
  | 111 => ⟨S128x8x4x1, .f32⟩
  | 112 => ⟨S128x8x4x128, .f32⟩
  | 113 => ⟨S128x8x4x128, .f32⟩
  | 114 => ⟨S128x8x4x128, .f32⟩
  | 115 => ⟨S128x128x8x4, .f32⟩
  | 116 => ⟨S128x128x8x4x1, .f32⟩
  | 117 => ⟨S128x128x8x4x64, .f32⟩
  | 118 => ⟨S128x128x8x4x64, .f32⟩
  | 119 => ⟨S128x8x4x64x128, .f32⟩
  | 120 => ⟨S128x8x4x1, .f32⟩
  | 121 => ⟨S128x8x4, .f32⟩
  | 122 => ⟨S_, .f32⟩
  | 123 => ⟨S_, .f32⟩
  | 124 => ⟨S128x8x4, .f32⟩
  | 125 => ⟨S_, .i1⟩
  | 126 => ⟨S128x128, .i1⟩
  | 127 => ⟨S128x128, .i32⟩
  | _ => ⟨S16384x6144, .bf16⟩

abbrev hbmTy0_1 (i : Nat) : BufTy := match i % 128 with
  | 0 => ⟨S_, .i32⟩
  | 1 => ⟨S128x128, .i32⟩
  | 2 => ⟨S128x128, .i32⟩
  | 3 => ⟨S128x128, .i32⟩
  | 4 => ⟨S128x128, .i1⟩
  | 5 => ⟨S_, .i1⟩
  | 6 => ⟨S128x128, .i1⟩
  | 7 => ⟨S128x128, .i1⟩
  | 8 => ⟨S128x128x1x1, .i1⟩
  | 9 => ⟨S128x8x4, .f32⟩
  | 10 => ⟨S128x1x8x4, .f32⟩
  | 11 => ⟨S1x128x8x4, .f32⟩
  | 12 => ⟨S128x128x8x4, .f32⟩
  | 13 => ⟨S128x128x8x4, .f32⟩
  | 14 => ⟨S128x128x8x4, .f32⟩
  | 15 => ⟨S_, .f32⟩
  | 16 => ⟨S_, .f32⟩
  | 17 => ⟨S128x128x8x4, .i1⟩
  | 18 => ⟨S128x128x8x4, .f32⟩
  | 19 => ⟨S128x128x8x4, .f32⟩
  | 20 => ⟨S128x128x8x4, .f32⟩
  | 21 => ⟨S8x4x64x128x128, .f32⟩
  | 22 => ⟨S128x8x4x64x128, .f32⟩
  | 23 => ⟨S128x8x4x64x128, .f32⟩
  | 24 => ⟨S128x128x8x4x64, .f32⟩
  | 25 => ⟨S128x8x4x128, .f32⟩
  | 26 => ⟨S128x128x8x4, .f32⟩
  | 27 => ⟨S128x128x8x4x1, .f32⟩
  | 28 => ⟨S128x128x8x4x64, .f32⟩
  | 29 => ⟨S128x128x8x4x64, .f32⟩
  | 30 => ⟨S128x128x8x4x64, .f32⟩
  | 31 => ⟨S16384x32x64, .f32⟩
  | 32 => ⟨S32x1, .f32⟩
  | 33 => ⟨S1x32x1, .f32⟩
  | 34 => ⟨S16384x32x64, .f32⟩
  | 35 => ⟨S16384x32x64, .f32⟩
  | 36 => ⟨S16384x32x64, .f32⟩
  | 37 => ⟨S16384x2048, .f32⟩
  | 38 => ⟨S16384x2048, .f32⟩
  | 39 => ⟨S16384x2048, .f32⟩
  | 40 => ⟨S_, .f32⟩
  | 41 => ⟨S16384x2048, .f32⟩
  | 42 => ⟨S16384x2048, .f32⟩
  | 43 => ⟨S_, .f32⟩
  | 44 => ⟨S16384x2048, .f32⟩
  | 45 => ⟨S16384x2048, .f32⟩
  | 46 => ⟨S16384x2048, .f32⟩
  | 47 => ⟨S16384x2048, .f32⟩
  | 48 => ⟨S16384x8x256, .f32⟩
  | 49 => ⟨S16384x8x256, .f32⟩
  | 50 => ⟨S_, .f32⟩
  | 51 => ⟨S16384x8, .f32⟩
  | 52 => ⟨S16384x8x1, .f32⟩
  | 53 => ⟨S_, .f32⟩
  | 54 => ⟨S16384x8x1, .f32⟩
  | 55 => ⟨S16384x8x1, .f32⟩
  | 56 => ⟨S_, .f32⟩
  | 57 => ⟨S16384x8x1, .f32⟩
  | 58 => ⟨S16384x8x1, .f32⟩
  | 59 => ⟨S16384x8x1, .f32⟩
  | 60 => ⟨S16384x8x256, .f32⟩
  | 61 => ⟨S16384x8x256, .f32⟩
  | 62 => ⟨S16384x2048, .f32⟩
  | 63 => ⟨S1x2048, .f32⟩
  | 64 => ⟨S16384x2048, .f32⟩
  | 65 => ⟨S16384x2048, .f32⟩
  | 66 => ⟨S16384x2048, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_cst_0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call2_call0_cst : Ref sig .tc := ⟨.hbm, 80, rfl⟩
abbrev main_call2_call0_v0 : Ref sig .tc := ⟨.hbm, 81, rfl⟩
abbrev main_v55 : Ref sig .tc := ⟨.hbm, 82, rfl⟩
abbrev main_c_1 : Ref sig .tc := ⟨.hbm, 83, rfl⟩
abbrev main_v56 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_c_0 : Ref sig .tc := ⟨.hbm, 91, rfl⟩
abbrev main_call3_v5 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_2 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_call5_call0_cst : Ref sig .tc := ⟨.hbm, 122, rfl⟩
abbrev main_call5_call0_v0 : Ref sig .tc := ⟨.hbm, 123, rfl⟩
abbrev main_v82 : Ref sig .tc := ⟨.hbm, 124, rfl⟩
abbrev main_c_3 : Ref sig .tc := ⟨.hbm, 125, rfl⟩
abbrev main_v83 : Ref sig .tc := ⟨.hbm, 126, rfl⟩
abbrev main_call6_v0 : Ref sig .tc := ⟨.hbm, 127, rfl⟩
abbrev main_call6_c : Ref sig .tc := ⟨.hbm, 128, rfl⟩
abbrev main_call6_v1 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_call6_c_0 : Ref sig .tc := ⟨.hbm, 133, rfl⟩
abbrev main_call6_v5 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_4 : Ref sig .tc := ⟨.hbm, 143, rfl⟩
abbrev main_call7_v0 : Ref sig .tc := ⟨.hbm, 144, rfl⟩
abbrev main_call7_v1 : Ref sig .tc := ⟨.hbm, 145, rfl⟩
abbrev main_call7_v2 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_5 : Ref sig .tc := ⟨.hbm, 168, rfl⟩
abbrev main_v113 : Ref sig .tc := ⟨.hbm, 169, rfl⟩
abbrev main_v114 : Ref sig .tc := ⟨.hbm, 170, rfl⟩
abbrev main_cst_6 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_7 : Ref sig .tc := ⟨.hbm, 178, rfl⟩
abbrev main_v121 : Ref sig .tc := ⟨.hbm, 179, rfl⟩
abbrev main_v122 : Ref sig .tc := ⟨.hbm, 180, rfl⟩
abbrev main_cst_8 : Ref sig .tc := ⟨.hbm, 181, rfl⟩
abbrev main_v123 : Ref sig .tc := ⟨.hbm, 182, rfl⟩
abbrev main_v124 : Ref sig .tc := ⟨.hbm, 183, rfl⟩
abbrev main_cst_9 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩

abbrev nD : Nat := 1
abbrev τ : Topo := Topo.v7x

variable {F : FTy → Type} [FloatOps F]
-- ==== Kernel2.lean ====
abbrev S16384x1024 : Shape := ⟨2, ![16384, 1024]⟩
abbrev S1024x3072 : Shape := ⟨2, ![1024, 3072]⟩
abbrev S16384x3072 : Shape := ⟨2, ![16384, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x1024, .f32⟩
  | .hbm, ⟨3, _⟩ => ⟨S1024x3072, .f32⟩
  | .hbm, ⟨4, _⟩ => ⟨S16384x3072, .f32⟩
  | .hbm, ⟨5, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S16384x1024 : Shape := ⟨2, ![16384, 1024]⟩
abbrev S1024x6144 : Shape := ⟨2, ![1024, 6144]⟩
abbrev S16384x6144 : Shape := ⟨2, ![16384, 6144]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .bf16⟩
  | .hbm, ⟨2, _⟩ => ⟨S16384x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x1024 : Shape := ⟨2, ![16384, 1024]⟩
abbrev S1024x6144 : Shape := ⟨2, ![1024, 6144]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .bf16⟩
  | .hbm, ⟨2, _⟩ => ⟨S16384x1024, .f32⟩
  | .hbm, ⟨3, _⟩ => ⟨S1024x6144, .f32⟩
  | .hbm, ⟨4, _⟩ => ⟨S16384x6144, .f32⟩
  | .hbm, ⟨5, _⟩ => ⟨S16384x6144, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S16384x1024 : Shape := ⟨2, ![16384, 1024]⟩
abbrev S1024x128 : Shape := ⟨2, ![1024, 128]⟩
abbrev S16384x128 : Shape := ⟨2, ![16384, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x128, .bf16⟩
  | .hbm, ⟨2, _⟩ => ⟨S16384x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .bf16⟩
  | .local _ .vmem, ⟨3, _⟩ => ⟨S2048x128, .f32⟩
  | .local _ .vmem, ⟨4, _⟩ => ⟨S2048x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x1024 : Shape := ⟨2, ![16384, 1024]⟩
abbrev S1024x128 : Shape := ⟨2, ![1024, 128]⟩
abbrev S16384x128 : Shape := ⟨2, ![16384, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x128, .bf16⟩
  | .hbm, ⟨2, _⟩ => ⟨S16384x1024, .f32⟩
  | .hbm, ⟨3, _⟩ => ⟨S1024x128, .f32⟩
  | .hbm, ⟨4, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S1x1024 : Shape := ⟨2, ![1, 1024]⟩
abbrev S1024x8 : Shape := ⟨2, ![1024, 8]⟩
abbrev S1024x64 : Shape := ⟨2, ![1024, 64]⟩
abbrev S1024x72 : Shape := ⟨2, ![1024, 72]⟩
abbrev S_ : Shape := ⟨0, ![]⟩
abbrev S1024x128 : Shape := ⟨2, ![1024, 128]⟩
abbrev S1024x256 : Shape := ⟨2, ![1024, 256]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 18
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1024x8, .f32⟩
  | .hbm, ⟨6, _⟩ => ⟨S1024x64, .f32⟩
  | .hbm, ⟨7, _⟩ => ⟨S1024x72, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1024x128, .f32⟩
  | .hbm, ⟨13, _⟩ => ⟨S1024x128, .f32⟩
  | .hbm, ⟨14, _⟩ => ⟨S1024x128, .bf16⟩
  | .hbm, ⟨15, _⟩ => ⟨S1024x256, .bf16⟩
  | .hbm, ⟨16, _⟩ => ⟨S16384x1024, .f32⟩
  | .hbm, ⟨17, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x256, .bf16⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel6Ideal.lean ====
abbrev S16384x1024 : Shape := ⟨2, ![16384, 1024]⟩
abbrev S1024x1024 : Shape := ⟨2, ![1024, 1024]⟩
abbrev S1x1024 : Shape := ⟨2, ![1, 1024]⟩
abbrev S1024x8 : Shape := ⟨2, ![1024, 8]⟩
abbrev S1024x64 : Shape := ⟨2, ![1024, 64]⟩
abbrev S1024x72 : Shape := ⟨2, ![1024, 72]⟩
abbrev S_ : Shape := ⟨0, ![]⟩
abbrev S1024x128 : Shape := ⟨2, ![1024, 128]⟩
abbrev S1024x256 : Shape := ⟨2, ![1024, 256]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 18
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1024x8, .f32⟩
  | .hbm, ⟨6, _⟩ => ⟨S1024x64, .f32⟩
  | .hbm, ⟨7, _⟩ => ⟨S1024x72, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1024x128, .f32⟩
  | .hbm, ⟨13, _⟩ => ⟨S1024x128, .f32⟩
  | .hbm, ⟨14, _⟩ => ⟨S1024x128, .bf16⟩
  | .hbm, ⟨15, _⟩ => ⟨S1024x256, .bf16⟩
  | .hbm, ⟨16, _⟩ => ⟨S16384x1024, .f32⟩
  | .hbm, ⟨17, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x256, .bf16⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16384x1024 : Shape := ⟨2, ![16384, 1024]⟩
abbrev S1024x1024 : Shape := ⟨2, ![1024, 1024]⟩
abbrev S1x1024 : Shape := ⟨2, ![1, 1024]⟩
abbrev S1024x8 : Shape := ⟨2, ![1024, 8]⟩
abbrev S1024x64 : Shape := ⟨2, ![1024, 64]⟩
abbrev S_ : Shape := ⟨0, ![]⟩
abbrev S16384 : Shape := ⟨1, ![16384]⟩
abbrev S16384x1 : Shape := ⟨2, ![16384, 1]⟩
abbrev S8 : Shape := ⟨1, ![8]⟩
abbrev S16384x8 : Shape := ⟨2, ![16384, 8]⟩
abbrev S1x8 : Shape := ⟨2, ![1, 8]⟩
abbrev S16384x64 : Shape := ⟨2, ![16384, 64]⟩
abbrev S16384x8x8 : Shape := ⟨3, ![16384, 8, 8]⟩
abbrev S8x1 : Shape := ⟨2, ![8, 1]⟩
abbrev S16384x1x1 : Shape := ⟨3, ![16384, 1, 1]⟩
abbrev S1x8x1 : Shape := ⟨3, ![1, 8, 1]⟩
abbrev S16384x8x1 : Shape := ⟨3, ![16384, 8, 1]⟩
abbrev S16384x2 : Shape := ⟨2, ![16384, 2]⟩
abbrev S16384x124 : Shape := ⟨2, ![16384, 124]⟩
abbrev S16384x128 : Shape := ⟨2, ![16384, 128]⟩

abbrev nBuf : Space → Nat
  | .hbm => 162
  | .vmem => 0
  | .smem => 0
  | _ => 0

abbrev hbmTy0_0 (i : Nat) : BufTy := match i % 128 with
  | 0 => ⟨S16384x1024, .bf16⟩
  | 1 => ⟨S1024x1024, .bf16⟩
  | 2 => ⟨S16384x1024, .f32⟩
  | 3 => ⟨S1x1024, .f32⟩
  | 4 => ⟨S1x1024, .f32⟩
  | 5 => ⟨S1024x8, .f32⟩
  | 6 => ⟨S1024x64, .f32⟩
  | 7 => ⟨S16384x1024, .f32⟩
  | 8 => ⟨S1024x1024, .f32⟩
  | 9 => ⟨S16384x1024, .f32⟩
  | 10 => ⟨S_, .f32⟩
  | 11 => ⟨S16384x1024, .f32⟩
  | 12 => ⟨S16384x1024, .f32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S16384x1024, .f32⟩
  | 21 => ⟨S16384x1024, .f32⟩
  | 22 => ⟨S16384x1024, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x1, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S8, .f32⟩
  | 40 => ⟨S16384x8, .f32⟩
  | 41 => ⟨S_, .f32⟩
  | 42 => ⟨S16384, .f32⟩
  | 43 => ⟨S_, .f32⟩
  | 44 => ⟨S16384, .f32⟩
  | 45 => ⟨S16384, .f32⟩
  | 46 => ⟨S16384x1, .f32⟩
  | 47 => ⟨S16384x8, .f32⟩
  | 48 => ⟨S16384x8, .f32⟩
  | 49 => ⟨S16384x8, .f32⟩
  | 50 => ⟨S_, .f32⟩
  | 51 => ⟨S16384, .f32⟩
  | 52 => ⟨S16384x1, .f32⟩
  | 53 => ⟨S16384x8, .f32⟩
  | 54 => ⟨S16384x8, .f32⟩
  | 55 => ⟨S_, .f32⟩
  | 56 => ⟨S16384, .f32⟩
  | 57 => ⟨S16384x1, .f32⟩
  | 58 => ⟨S16384x8, .f32⟩
  | 59 => ⟨S16384x8, .i1⟩
  | 60 => ⟨S_, .f32⟩
  | 61 => ⟨S_, .f32⟩
  | 62 => ⟨S16384x8, .f32⟩
  | 63 => ⟨S16384x8, .f32⟩
  | 64 => ⟨S16384x8, .f32⟩
  | 65 => ⟨S_, .f32⟩
  | 66 => ⟨S16384, .f32⟩
  | 67 => ⟨S16384x1, .f32⟩
  | 68 => ⟨S1x8, .f32⟩
  | 69 => ⟨S16384x8, .f32⟩
  | 70 => ⟨S16384x8, .f32⟩
  | 71 => ⟨S16384x8, .i1⟩
  | 72 => ⟨S_, .f32⟩
  | 73 => ⟨S_, .f32⟩
  | 74 => ⟨S16384x8, .f32⟩
  | 75 => ⟨S16384x8, .f32⟩
  | 76 => ⟨S_, .f32⟩
  | 77 => ⟨S16384, .f32⟩
  | 78 => ⟨S16384x64, .f32⟩
  | 79 => ⟨S16384x8x8, .f32⟩
  | 80 => ⟨S8x1, .f32⟩
  | 81 => ⟨S16384x1x1, .f32⟩
  | 82 => ⟨S1x8x1, .f32⟩
  | 83 => ⟨S16384x8x1, .f32⟩
  | 84 => ⟨S16384x8x1, .f32⟩
  | 85 => ⟨S16384x8x1, .i1⟩
  | 86 => ⟨S_, .f32⟩
  | 87 => ⟨S_, .f32⟩
  | 88 => ⟨S16384x8x8, .i1⟩
  | 89 => ⟨S16384x8x8, .f32⟩
  | 90 => ⟨S16384x8x8, .f32⟩
  | 91 => ⟨S_, .f32⟩
  | 92 => ⟨S16384x8, .f32⟩
  | 93 => ⟨S_, .f32⟩
  | 94 => ⟨S16384, .f32⟩
  | 95 => ⟨S16384x1, .f32⟩
  | 96 => ⟨S16384x8, .f32⟩
  | 97 => ⟨S16384x8, .i1⟩
  | 98 => ⟨S_, .f32⟩
  | 99 => ⟨S_, .f32⟩
  | 100 => ⟨S16384x8, .f32⟩
  | 101 => ⟨S16384x8, .f32⟩
  | 102 => ⟨S16384x8, .f32⟩
  | 103 => ⟨S_, .f32⟩
  | 104 => ⟨S16384, .f32⟩
  | 105 => ⟨S16384x1, .f32⟩
  | 106 => ⟨S1x8, .f32⟩
  | 107 => ⟨S16384x8, .f32⟩
  | 108 => ⟨S16384x8, .f32⟩
  | 109 => ⟨S16384x8, .i1⟩
  | 110 => ⟨S_, .f32⟩
  | 111 => ⟨S_, .f32⟩
  | 112 => ⟨S16384x8, .f32⟩
  | 113 => ⟨S16384x8, .f32⟩
  | 114 => ⟨S_, .f32⟩
  | 115 => ⟨S16384, .f32⟩
  | 116 => ⟨S16384x1, .f32⟩
  | 117 => ⟨S16384x8, .f32⟩
  | 118 => ⟨S16384x8, .i1⟩
  | 119 => ⟨S_, .f32⟩
  | 120 => ⟨S_, .f32⟩
  | 121 => ⟨S16384x8, .f32⟩
  | 122 => ⟨S16384x8, .f32⟩
  | 123 => ⟨S16384x8, .f32⟩
  | 124 => ⟨S_, .f32⟩
  | 125 => ⟨S16384, .f32⟩
  | 126 => ⟨S_, .f32⟩
  | 127 => ⟨S16384, .f32⟩
  | _ => ⟨S16384x1024, .bf16⟩

abbrev hbmTy0_1 (i : Nat) : BufTy := match i % 128 with
  | 0 => ⟨S_, .f32⟩
  | 1 => ⟨S16384, .f32⟩
  | 2 => ⟨S16384x1, .f32⟩
  | 3 => ⟨S16384x1, .f32⟩
  | 4 => ⟨S16384x2, .f32⟩
  | 5 => ⟨S16384x1, .f32⟩
  | 6 => ⟨S16384x1, .f32⟩
  | 7 => ⟨S16384x2, .f32⟩
  | 8 => ⟨S_, .f32⟩
  | 9 => ⟨S16384, .f32⟩
  | 10 => ⟨S_, .f32⟩
  | 11 => ⟨S16384, .f32⟩
  | 12 => ⟨S16384, .f32⟩
  | 13 => ⟨S16384x1, .f32⟩
  | 14 => ⟨S16384x2, .f32⟩
  | 15 => ⟨S16384x2, .f32⟩
  | 16 => ⟨S16384x2, .f32⟩
  | 17 => ⟨S_, .f32⟩
  | 18 => ⟨S16384, .f32⟩
  | 19 => ⟨S16384x1, .f32⟩
  | 20 => ⟨S16384x2, .f32⟩
  | 21 => ⟨S16384x2, .f32⟩
  | 22 => ⟨S16384x1, .f32⟩
  | 23 => ⟨S_, .f32⟩
  | 24 => ⟨S16384x1, .f32⟩
  | 25 => ⟨S16384x1, .f32⟩
  | 26 => ⟨S16384x2, .f32⟩
  | 27 => ⟨S16384x2, .f32⟩
  | 28 => ⟨S16384x1, .f32⟩
  | 29 => ⟨S16384x2, .f32⟩
  | 30 => ⟨S16384x2, .f32⟩
  | 31 => ⟨S_, .f32⟩
  | 32 => ⟨S16384x124, .f32⟩
  | 33 => ⟨S16384x128, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_call1_v0 : Ref sig .tc := ⟨.hbm, 73, rfl⟩
abbrev main_call1_v1 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_16 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v66 : Ref sig .tc := ⟨.hbm, 102, rfl⟩
abbrev main_cst_17 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_18 : Ref sig .tc := ⟨.hbm, 110, rfl⟩
abbrev main_call4_v0 : Ref sig .tc := ⟨.hbm, 111, rfl⟩
abbrev main_call4_v1 : Ref sig .tc := ⟨.hbm, 112, rfl⟩
abbrev main_v73 : Ref sig .tc := ⟨.hbm, 113, rfl⟩
abbrev main_cst_19 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_20 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v78 : Ref sig .tc := ⟨.hbm, 123, rfl⟩
abbrev main_cst_21 : Ref sig .tc := ⟨.hbm, 124, rfl⟩
abbrev main_v79 : Ref sig .tc := ⟨.hbm, 125, rfl⟩
abbrev main_cst_22 : Ref sig .tc := ⟨.hbm, 126, rfl⟩
abbrev main_v80 : Ref sig .tc := ⟨.hbm, 127, rfl⟩
abbrev main_cst_23 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_24 : Ref sig .tc := ⟨.hbm, 136, rfl⟩
abbrev main_v88 : Ref sig .tc := ⟨.hbm, 137, rfl⟩
abbrev main_cst_25 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_26 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_27 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_28 : Ref sig .tc := ⟨.hbm, 159, rfl⟩
abbrev main_v107 : Ref sig .tc := ⟨.hbm, 160, rfl⟩
abbrev main_v108 : Ref sig .tc := ⟨.hbm, 161, rfl⟩

abbrev nD : Nat := 1
abbrev τ : Topo := Topo.v7x

variable {F : FTy → Type} [FloatOps F]
-- ==== Kernel7.lean ====
abbrev S16384x2048 : Shape := ⟨2, ![16384, 2048]⟩
abbrev S2048x1024 : Shape := ⟨2, ![2048, 1024]⟩
abbrev S16384x1024 : Shape := ⟨2, ![16384, 1024]⟩
abbrev S1x1024 : Shape := ⟨2, ![1, 1024]⟩
abbrev S1024x8 : Shape := ⟨2, ![1024, 8]⟩
abbrev S1024x64 : Shape := ⟨2, ![1024, 64]⟩
abbrev S1024x72 : Shape := ⟨2, ![1024, 72]⟩
abbrev S_ : Shape := ⟨0, ![]⟩
abbrev S1024x128 : Shape := ⟨2, ![1024, 128]⟩
abbrev S1024x256 : Shape := ⟨2, ![1024, 256]⟩
abbrev S16384x128 : Shape := ⟨2, ![16384, 128]⟩
abbrev S512x2048 : Shape := ⟨2, ![512, 2048]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 18
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1024x8, .f32⟩
  | .hbm, ⟨6, _⟩ => ⟨S1024x64, .f32⟩
  | .hbm, ⟨7, _⟩ => ⟨S1024x72, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1024x128, .f32⟩
  | .hbm, ⟨13, _⟩ => ⟨S1024x128, .f32⟩
  | .hbm, ⟨14, _⟩ => ⟨S1024x128, .bf16⟩
  | .hbm, ⟨15, _⟩ => ⟨S1024x256, .bf16⟩
  | .hbm, ⟨16, _⟩ => ⟨S16384x1024, .f32⟩
  | .hbm, ⟨17, _⟩ => ⟨S16384x128, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x256, .bf16⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S16384x2048 : Shape := ⟨2, ![16384, 2048]⟩
abbrev S2048x1024 : Shape := ⟨2, ![2048, 1024]⟩
abbrev S16384x1024 : Shape := ⟨2, ![16384, 1024]⟩
abbrev S1x1024 : Shape := ⟨2, ![1, 1024]⟩
abbrev S1024x8 : Shape := ⟨2, ![1024, 8]⟩
abbrev S1024x64 : Shape := ⟨2, ![1024, 64]⟩
abbrev S_ : Shape := ⟨0, ![]⟩
abbrev S16384 : Shape := ⟨1, ![16384]⟩
abbrev S16384x1 : Shape := ⟨2, ![16384, 1]⟩
abbrev S8 : Shape := ⟨1, ![8]⟩
abbrev S16384x8 : Shape := ⟨2, ![16384, 8]⟩
abbrev S1x8 : Shape := ⟨2, ![1, 8]⟩
abbrev S16384x64 : Shape := ⟨2, ![16384, 64]⟩
abbrev S16384x8x8 : Shape := ⟨3, ![16384, 8, 8]⟩
abbrev S8x1 : Shape := ⟨2, ![8, 1]⟩
abbrev S16384x1x1 : Shape := ⟨3, ![16384, 1, 1]⟩
abbrev S1x8x1 : Shape := ⟨3, ![1, 8, 1]⟩
abbrev S16384x8x1 : Shape := ⟨3, ![16384, 8, 1]⟩
abbrev S16384x2 : Shape := ⟨2, ![16384, 2]⟩
abbrev S16384x124 : Shape := ⟨2, ![16384, 124]⟩
abbrev S16384x128 : Shape := ⟨2, ![16384, 128]⟩

abbrev nBuf : Space → Nat
  | .hbm => 162
  | .vmem => 0
  | .smem => 0
  | _ => 0

abbrev hbmTy0_0 (i : Nat) : BufTy := match i % 128 with
  | 0 => ⟨S16384x2048, .bf16⟩
  | 1 => ⟨S2048x1024, .bf16⟩
  | 2 => ⟨S16384x1024, .f32⟩
  | 3 => ⟨S1x1024, .f32⟩
  | 4 => ⟨S1x1024, .f32⟩
  | 5 => ⟨S1024x8, .f32⟩
  | 6 => ⟨S1024x64, .f32⟩
  | 7 => ⟨S16384x2048, .f32⟩
  | 8 => ⟨S2048x1024, .f32⟩
  | 9 => ⟨S16384x1024, .f32⟩
  | 10 => ⟨S_, .f32⟩
  | 11 => ⟨S16384x1024, .f32⟩
  | 12 => ⟨S16384x1024, .f32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S16384x1024, .f32⟩
  | 21 => ⟨S16384x1024, .f32⟩
  | 22 => ⟨S16384x1024, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x1, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S8, .f32⟩
  | 40 => ⟨S16384x8, .f32⟩
  | 41 => ⟨S_, .f32⟩
  | 42 => ⟨S16384, .f32⟩
  | 43 => ⟨S_, .f32⟩
  | 44 => ⟨S16384, .f32⟩
  | 45 => ⟨S16384, .f32⟩
  | 46 => ⟨S16384x1, .f32⟩
  | 47 => ⟨S16384x8, .f32⟩
  | 48 => ⟨S16384x8, .f32⟩
  | 49 => ⟨S16384x8, .f32⟩
  | 50 => ⟨S_, .f32⟩
  | 51 => ⟨S16384, .f32⟩
  | 52 => ⟨S16384x1, .f32⟩
  | 53 => ⟨S16384x8, .f32⟩
  | 54 => ⟨S16384x8, .f32⟩
  | 55 => ⟨S_, .f32⟩
  | 56 => ⟨S16384, .f32⟩
  | 57 => ⟨S16384x1, .f32⟩
  | 58 => ⟨S16384x8, .f32⟩
  | 59 => ⟨S16384x8, .i1⟩
  | 60 => ⟨S_, .f32⟩
  | 61 => ⟨S_, .f32⟩
  | 62 => ⟨S16384x8, .f32⟩
  | 63 => ⟨S16384x8, .f32⟩
  | 64 => ⟨S16384x8, .f32⟩
  | 65 => ⟨S_, .f32⟩
  | 66 => ⟨S16384, .f32⟩
  | 67 => ⟨S16384x1, .f32⟩
  | 68 => ⟨S1x8, .f32⟩
  | 69 => ⟨S16384x8, .f32⟩
  | 70 => ⟨S16384x8, .f32⟩
  | 71 => ⟨S16384x8, .i1⟩
  | 72 => ⟨S_, .f32⟩
  | 73 => ⟨S_, .f32⟩
  | 74 => ⟨S16384x8, .f32⟩
  | 75 => ⟨S16384x8, .f32⟩
  | 76 => ⟨S_, .f32⟩
  | 77 => ⟨S16384, .f32⟩
  | 78 => ⟨S16384x64, .f32⟩
  | 79 => ⟨S16384x8x8, .f32⟩
  | 80 => ⟨S8x1, .f32⟩
  | 81 => ⟨S16384x1x1, .f32⟩
  | 82 => ⟨S1x8x1, .f32⟩
  | 83 => ⟨S16384x8x1, .f32⟩
  | 84 => ⟨S16384x8x1, .f32⟩
  | 85 => ⟨S16384x8x1, .i1⟩
  | 86 => ⟨S_, .f32⟩
  | 87 => ⟨S_, .f32⟩
  | 88 => ⟨S16384x8x8, .i1⟩
  | 89 => ⟨S16384x8x8, .f32⟩
  | 90 => ⟨S16384x8x8, .f32⟩
  | 91 => ⟨S_, .f32⟩
  | 92 => ⟨S16384x8, .f32⟩
  | 93 => ⟨S_, .f32⟩
  | 94 => ⟨S16384, .f32⟩
  | 95 => ⟨S16384x1, .f32⟩
  | 96 => ⟨S16384x8, .f32⟩
  | 97 => ⟨S16384x8, .i1⟩
  | 98 => ⟨S_, .f32⟩
  | 99 => ⟨S_, .f32⟩
  | 100 => ⟨S16384x8, .f32⟩
  | 101 => ⟨S16384x8, .f32⟩
  | 102 => ⟨S16384x8, .f32⟩
  | 103 => ⟨S_, .f32⟩
  | 104 => ⟨S16384, .f32⟩
  | 105 => ⟨S16384x1, .f32⟩
  | 106 => ⟨S1x8, .f32⟩
  | 107 => ⟨S16384x8, .f32⟩
  | 108 => ⟨S16384x8, .f32⟩
  | 109 => ⟨S16384x8, .i1⟩
  | 110 => ⟨S_, .f32⟩
  | 111 => ⟨S_, .f32⟩
  | 112 => ⟨S16384x8, .f32⟩
  | 113 => ⟨S16384x8, .f32⟩
  | 114 => ⟨S_, .f32⟩
  | 115 => ⟨S16384, .f32⟩
  | 116 => ⟨S16384x1, .f32⟩
  | 117 => ⟨S16384x8, .f32⟩
  | 118 => ⟨S16384x8, .i1⟩
  | 119 => ⟨S_, .f32⟩
  | 120 => ⟨S_, .f32⟩
  | 121 => ⟨S16384x8, .f32⟩
  | 122 => ⟨S16384x8, .f32⟩
  | 123 => ⟨S16384x8, .f32⟩
  | 124 => ⟨S_, .f32⟩
  | 125 => ⟨S16384, .f32⟩
  | 126 => ⟨S_, .f32⟩
  | 127 => ⟨S16384, .f32⟩
  | _ => ⟨S16384x2048, .bf16⟩

abbrev hbmTy0_1 (i : Nat) : BufTy := match i % 128 with
  | 0 => ⟨S_, .f32⟩
  | 1 => ⟨S16384, .f32⟩
  | 2 => ⟨S16384x1, .f32⟩
  | 3 => ⟨S16384x1, .f32⟩
  | 4 => ⟨S16384x2, .f32⟩
  | 5 => ⟨S16384x1, .f32⟩
  | 6 => ⟨S16384x1, .f32⟩
  | 7 => ⟨S16384x2, .f32⟩
  | 8 => ⟨S_, .f32⟩
  | 9 => ⟨S16384, .f32⟩
  | 10 => ⟨S_, .f32⟩
  | 11 => ⟨S16384, .f32⟩
  | 12 => ⟨S16384, .f32⟩
  | 13 => ⟨S16384x1, .f32⟩
  | 14 => ⟨S16384x2, .f32⟩
  | 15 => ⟨S16384x2, .f32⟩
  | 16 => ⟨S16384x2, .f32⟩
  | 17 => ⟨S_, .f32⟩
  | 18 => ⟨S16384, .f32⟩
  | 19 => ⟨S16384x1, .f32⟩
  | 20 => ⟨S16384x2, .f32⟩
  | 21 => ⟨S16384x2, .f32⟩
  | 22 => ⟨S16384x1, .f32⟩
  | 23 => ⟨S_, .f32⟩
  | 24 => ⟨S16384x1, .f32⟩
  | 25 => ⟨S16384x1, .f32⟩
  | 26 => ⟨S16384x2, .f32⟩
  | 27 => ⟨S16384x2, .f32⟩
  | 28 => ⟨S16384x1, .f32⟩
  | 29 => ⟨S16384x2, .f32⟩
  | 30 => ⟨S16384x2, .f32⟩
  | 31 => ⟨S_, .f32⟩
  | 32 => ⟨S16384x124, .f32⟩
  | 33 => ⟨S16384x128, .f32⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_call1_v0 : Ref sig .tc := ⟨.hbm, 73, rfl⟩
abbrev main_call1_v1 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_16 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v66 : Ref sig .tc := ⟨.hbm, 102, rfl⟩
abbrev main_cst_17 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_18 : Ref sig .tc := ⟨.hbm, 110, rfl⟩
abbrev main_call4_v0 : Ref sig .tc := ⟨.hbm, 111, rfl⟩
abbrev main_call4_v1 : Ref sig .tc := ⟨.hbm, 112, rfl⟩
abbrev main_v73 : Ref sig .tc := ⟨.hbm, 113, rfl⟩
abbrev main_cst_19 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_20 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v78 : Ref sig .tc := ⟨.hbm, 123, rfl⟩
abbrev main_cst_21 : Ref sig .tc := ⟨.hbm, 124, rfl⟩
abbrev main_v79 : Ref sig .tc := ⟨.hbm, 125, rfl⟩
abbrev main_cst_22 : Ref sig .tc := ⟨.hbm, 126, rfl⟩
abbrev main_v80 : Ref sig .tc := ⟨.hbm, 127, rfl⟩
abbrev main_cst_23 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_24 : Ref sig .tc := ⟨.hbm, 136, rfl⟩
abbrev main_v88 : Ref sig .tc := ⟨.hbm, 137, rfl⟩
abbrev main_cst_25 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_26 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_27 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_28 : Ref sig .tc := ⟨.hbm, 159, rfl⟩
abbrev main_v107 : Ref sig .tc := ⟨.hbm, 160, rfl⟩
abbrev main_v108 : Ref sig .tc := ⟨.hbm, 161, rfl⟩

abbrev nD : Nat := 1
abbrev τ : Topo := Topo.v7x

variable {F : FTy → Type} [FloatOps F]
-- ==== Kernel8.lean ====
abbrev S16384x1024 : Shape := ⟨2, ![16384, 1024]⟩
abbrev S16384x128 : Shape := ⟨2, ![16384, 128]⟩
abbrev S512x1024 : Shape := ⟨2, ![512, 1024]⟩
abbrev S512x128 : Shape := ⟨2, ![512, 128]⟩
abbrev S128x1024 : Shape := ⟨2, ![128, 1024]⟩
abbrev S384x1024 : Shape := ⟨2, ![384, 1024]⟩
abbrev S512x384 : Shape := ⟨2, ![512, 384]⟩

abbrev nBuf : Space → Nat
  | .hbm => 7
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S16384x1024 : Shape := ⟨2, ![16384, 1024]⟩
abbrev S16384x128 : Shape := ⟨2, ![16384, 128]⟩
abbrev S16384x2x8x8 : Shape := ⟨4, ![16384, 2, 8, 8]⟩
abbrev S16384x2x8x1 : Shape := ⟨4, ![16384, 2, 8, 1]⟩
abbrev S16384x2x8 : Shape := ⟨3, ![16384, 2, 8]⟩
abbrev S16384x8x2 : Shape := ⟨3, ![16384, 8, 2]⟩
abbrev S16384x8x2x1 : Shape := ⟨4, ![16384, 8, 2, 1]⟩
abbrev S16384x8x2x64 : Shape := ⟨4, ![16384, 8, 2, 64]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x2x8x8, .f32⟩
  | .hbm, ⟨7, _⟩ => ⟨S16384x2x8x1, .f32⟩
  | .hbm, ⟨8, _⟩ => ⟨S16384x2x8, .f32⟩
  | .hbm, ⟨9, _⟩ => ⟨S16384x8x2, .f32⟩
  | .hbm, ⟨10, _⟩ => ⟨S16384x2x8x8, .f32⟩
  | .hbm, ⟨11, _⟩ => ⟨S16384x2x8x1, .f32⟩
  | .hbm, ⟨12, _⟩ => ⟨S16384x2x8, .f32⟩
  | .hbm, ⟨13, _⟩ => ⟨S16384x8x2, .f32⟩
  | .hbm, ⟨14, _⟩ => ⟨S16384x2x8x8, .f32⟩
  | .hbm, ⟨15, _⟩ => ⟨S16384x2x8x1, .f32⟩
  | .hbm, ⟨16, _⟩ => ⟨S16384x2x8, .f32⟩
  | .hbm, ⟨17, _⟩ => ⟨S16384x8x2, .f32⟩
  | .hbm, ⟨18, _⟩ => ⟨S16384x8x2, .f32⟩
  | .hbm, ⟨19, _⟩ => ⟨S16384x8x2, .f32⟩
  | .hbm, ⟨20, _⟩ => ⟨S16384x8x2, .f32⟩
  | .hbm, ⟨21, _⟩ => ⟨S16384x8x2, .f32⟩
  | .hbm, ⟨22, _⟩ => ⟨S16384x8x2, .f32⟩
  | .hbm, ⟨23, _⟩ => ⟨S16384x8x2, .f32⟩
  | .hbm, ⟨24, _⟩ => ⟨S16384x8x2, .f32⟩
  | .hbm, ⟨25, _⟩ => ⟨S16384x8x2, .f32⟩
  | .hbm, ⟨26, _⟩ => ⟨S16384x8x2, .f32⟩
  | .hbm, ⟨27, _⟩ => ⟨S16384x8x2, .f32⟩
  | .hbm, ⟨28, _⟩ => ⟨S16384x8x2, .f32⟩
  | .hbm, ⟨29, _⟩ => ⟨S16384x8x2x1, .f32⟩
  | .hbm, ⟨30, _⟩ => ⟨S16384x1024, .f32⟩
  | .hbm, ⟨31, _⟩ => ⟨S16384x8x2x64, .f32⟩
  | .hbm, ⟨32, _⟩ => ⟨S16384x8x2x64, .f32⟩
  | .hbm, ⟨33, _⟩ => ⟨S16384x8x2x64, .f32⟩
  | .hbm, ⟨34, _⟩ => ⟨S16384x8x2, .f32⟩
  | .hbm, ⟨35, _⟩ => ⟨S16384x8x2x1, .f32⟩
  | .hbm, ⟨36, _⟩ => ⟨S16384x1024, .f32⟩
  | .hbm, ⟨37, _⟩ => ⟨S16384x8x2x64, .f32⟩
  | .hbm, ⟨38, _⟩ => ⟨S16384x8x2x64, .f32⟩
  | .hbm, ⟨39, _⟩ => ⟨S16384x8x2x64, .f32⟩
  | .hbm, ⟨40, _⟩ => ⟨S16384x8x2x64, .f32⟩
  | .hbm, ⟨41, _⟩ => ⟨S16384x8x2, .f32⟩
  | .hbm, ⟨42, _⟩ => ⟨S16384x8x2x1, .f32⟩
  | .hbm, ⟨43, _⟩ => ⟨S16384x1024, .f32⟩
  | .hbm, ⟨44, _⟩ => ⟨S16384x8x2x64, .f32⟩
  | .hbm, ⟨45, _⟩ => ⟨S16384x8x2x64, .f32⟩
  | .hbm, ⟨46, _⟩ => ⟨S16384x8x2x64, .f32⟩
  | .hbm, ⟨47, _⟩ => ⟨S16384x8x2x64, .f32⟩
  | .hbm, ⟨48, _⟩ => ⟨S16384x1024, .f32⟩
  | .hbm, ⟨49, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩

abbrev nD : Nat := 1
abbrev τ : Topo := Topo.v7x

variable {F : FTy → Type} [FloatOps F]
-- ==== Kernel9.lean ====
abbrev S32x3x16 : Shape := ⟨3, ![32, 3, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S3x128x256 : Shape := ⟨3, ![3, 128, 256]⟩
abbrev S3x1x32768 : Shape := ⟨3, ![3, 1, 32768]⟩
abbrev S3x16x32 : Shape := ⟨3, ![3, 16, 32]⟩
abbrev S3x16x32768 : Shape := ⟨3, ![3, 16, 32768]⟩
abbrev S1x1x32768 : Shape := ⟨3, ![1, 1, 32768]⟩
abbrev S1x16x32 : Shape := ⟨3, ![1, 16, 32]⟩
abbrev S1x16x32768 : Shape := ⟨3, ![1, 16, 32768]⟩
abbrev S1x32768 : Shape := ⟨2, ![1, 32768]⟩
abbrev S16x32 : Shape := ⟨2, ![16, 32]⟩
abbrev S16x32768 : Shape := ⟨2, ![16, 32768]⟩
abbrev S16x1 : Shape := ⟨2, ![16, 1]⟩
abbrev S3x16x128x256 : Shape := ⟨4, ![3, 16, 128, 256]⟩

abbrev nBuf : Space → Nat
  | .hbm => 112
  | .vmem => 6
  | .smem => 0
  | _ => 0

abbrev bufTy : (tb : Table) → Fin (tcTables nBuf tb) → BufTy
  | .hbm, ⟨0, _⟩ => ⟨S32x3x16, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i32⟩
  | .hbm, ⟨48, _⟩ => ⟨S_, .i32⟩
  | .hbm, ⟨49, _⟩ => ⟨S128x256, .i32⟩
  | .hbm, ⟨50, _⟩ => ⟨S128x256, .i32⟩
  | .hbm, ⟨51, _⟩ => ⟨S128x256, .f32⟩
  | .hbm, ⟨52, _⟩ => ⟨S_, .f32⟩
  | .hbm, ⟨53, _⟩ => ⟨S128x256, .f32⟩
  | .hbm, ⟨54, _⟩ => ⟨S128x256, .f32⟩
  | .hbm, ⟨55, _⟩ => ⟨S128x256, .f32⟩
  | .hbm, ⟨56, _⟩ => ⟨S_, .f32⟩
  | .hbm, ⟨57, _⟩ => ⟨S128x256, .f32⟩
  | .hbm, ⟨58, _⟩ => ⟨S128x256, .f32⟩
  | .hbm, ⟨59, _⟩ => ⟨S_, .f32⟩
  | .hbm, ⟨60, _⟩ => ⟨S128x256, .f32⟩
  | .hbm, ⟨61, _⟩ => ⟨S128x256, .f32⟩
  | .hbm, ⟨62, _⟩ => ⟨S128x256, .i32⟩
  | .hbm, ⟨63, _⟩ => ⟨S_, .i32⟩
  | .hbm, ⟨64, _⟩ => ⟨S128x256, .i32⟩
  | .hbm, ⟨65, _⟩ => ⟨S128x256, .i32⟩
  | .hbm, ⟨66, _⟩ => ⟨S_, .i32⟩
  | .hbm, ⟨67, _⟩ => ⟨S128x256, .i32⟩
  | .hbm, ⟨68, _⟩ => ⟨S128x256, .i32⟩
  | .hbm, ⟨69, _⟩ => ⟨S_, .i32⟩
  | .hbm, ⟨70, _⟩ => ⟨S128x256, .i32⟩
  | .hbm, ⟨71, _⟩ => ⟨S128x256, .i1⟩
  | .hbm, ⟨72, _⟩ => ⟨S128x256, .i32⟩
  | .hbm, ⟨73, _⟩ => ⟨S_, .i32⟩
  | .hbm, ⟨74, _⟩ => ⟨S128x256, .i32⟩
  | .hbm, ⟨75, _⟩ => ⟨S128x256, .i32⟩
  | .hbm, ⟨76, _⟩ => ⟨S_, .i32⟩
  | .hbm, ⟨77, _⟩ => ⟨S128x256, .i32⟩
  | .hbm, ⟨78, _⟩ => ⟨S128x256, .i32⟩
  | .hbm, ⟨79, _⟩ => ⟨S_, .i32⟩
  | .hbm, ⟨80, _⟩ => ⟨S128x256, .i32⟩
  | .hbm, ⟨81, _⟩ => ⟨S128x256, .i32⟩
  | .hbm, ⟨82, _⟩ => ⟨S128x256, .f32⟩
  | .hbm, ⟨83, _⟩ => ⟨S_, .f32⟩
  | .hbm, ⟨84, _⟩ => ⟨S128x256, .f32⟩
  | .hbm, ⟨85, _⟩ => ⟨S128x256, .f32⟩
  | .hbm, ⟨86, _⟩ => ⟨S128x256, .f32⟩
  | .hbm, ⟨87, _⟩ => ⟨S_, .f32⟩
  | .hbm, ⟨88, _⟩ => ⟨S128x256, .f32⟩
  | .hbm, ⟨89, _⟩ => ⟨S128x256, .f32⟩
  | .hbm, ⟨90, _⟩ => ⟨S_, .f32⟩
  | .hbm, ⟨91, _⟩ => ⟨S128x256, .f32⟩
  | .hbm, ⟨92, _⟩ => ⟨S128x256, .f32⟩
  | .hbm, ⟨93, _⟩ => ⟨S128x256, .i32⟩
  | .hbm, ⟨94, _⟩ => ⟨S_, .i32⟩
  | .hbm, ⟨95, _⟩ => ⟨S128x256, .i32⟩
  | .hbm, ⟨96, _⟩ => ⟨S128x256, .i32⟩
  | .hbm, ⟨97, _⟩ => ⟨S_, .i32⟩
  | .hbm, ⟨98, _⟩ => ⟨S128x256, .i32⟩
  | .hbm, ⟨99, _⟩ => ⟨S128x256, .i32⟩
  | .hbm, ⟨100, _⟩ => ⟨S_, .i32⟩
  | .hbm, ⟨101, _⟩ => ⟨S128x256, .i32⟩
  | .hbm, ⟨102, _⟩ => ⟨S128x256, .i1⟩
  | .hbm, ⟨103, _⟩ => ⟨S128x256, .i32⟩
  | .hbm, ⟨104, _⟩ => ⟨S1x128x256, .i32⟩
  | .hbm, ⟨105, _⟩ => ⟨S1x128x256, .i32⟩
  | .hbm, ⟨106, _⟩ => ⟨S1x128x256, .i32⟩
  | .hbm, ⟨107, _⟩ => ⟨S3x128x256, .i32⟩
  | .hbm, ⟨108, _⟩ => ⟨S3x1x32768, .i32⟩
  | .hbm, ⟨109, _⟩ => ⟨S3x16x32, .f32⟩
  | .hbm, ⟨110, _⟩ => ⟨S3x16x32768, .f32⟩
  | .hbm, ⟨111, _⟩ => ⟨S3x16x128x256, .f32⟩
  | .local _ .vmem, ⟨0, _⟩ => ⟨S1x1x32768, .i32⟩
  | .local _ .vmem, ⟨1, _⟩ => ⟨S1x1x32768, .i32⟩
  | .local _ .vmem, ⟨2, _⟩ => ⟨S1x16x32, .f32⟩
  | .local _ .vmem, ⟨3, _⟩ => ⟨S1x16x32, .f32⟩
  | .local _ .vmem, ⟨4, _⟩ => ⟨S1x16x32768, .f32⟩
  | .local _ .vmem, ⟨5, _⟩ => ⟨S1x16x32768, .f32⟩
  | _, _ => ⟨S32x3x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_c_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_c_9 : Ref sig .tc := ⟨.hbm, 45, rfl⟩
abbrev main_v33 : Ref sig .tc := ⟨.hbm, 46, rfl⟩
abbrev main_v34 : Ref sig .tc := ⟨.hbm, 47, rfl⟩
abbrev main_c_10 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_14 : Ref sig .tc := ⟨.hbm, 63, rfl⟩
abbrev main_v46 : Ref sig .tc := ⟨.hbm, 64, rfl⟩
abbrev main_v47 : Ref sig .tc := ⟨.hbm, 65, rfl⟩
abbrev main_c_15 : Ref sig .tc := ⟨.hbm, 66, rfl⟩
abbrev main_v48 : Ref sig .tc := ⟨.hbm, 67, rfl⟩
abbrev main_v49 : Ref sig .tc := ⟨.hbm, 68, rfl⟩
abbrev main_c_16 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_17 : Ref sig .tc := ⟨.hbm, 73, rfl⟩
abbrev main_v53 : Ref sig .tc := ⟨.hbm, 74, rfl⟩
abbrev main_v54 : Ref sig .tc := ⟨.hbm, 75, rfl⟩
abbrev main_c_18 : Ref sig .tc := ⟨.hbm, 76, rfl⟩
abbrev main_v55 : Ref sig .tc := ⟨.hbm, 77, rfl⟩
abbrev main_v56 : Ref sig .tc := ⟨.hbm, 78, rfl⟩
abbrev main_c_19 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_20 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_21 : Ref sig .tc := ⟨.hbm, 87, rfl⟩
abbrev main_v63 : Ref sig .tc := ⟨.hbm, 88, rfl⟩
abbrev main_v64 : Ref sig .tc := ⟨.hbm, 89, rfl⟩
abbrev main_cst_22 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_23 : Ref sig .tc := ⟨.hbm, 94, rfl⟩
abbrev main_v68 : Ref sig .tc := ⟨.hbm, 95, rfl⟩
abbrev main_v69 : Ref sig .tc := ⟨.hbm, 96, rfl⟩
abbrev main_c_24 : Ref sig .tc := ⟨.hbm, 97, rfl⟩
abbrev main_v70 : Ref sig .tc := ⟨.hbm, 98, rfl⟩
abbrev main_v71 : Ref sig .tc := ⟨.hbm, 99, rfl⟩
abbrev main_c_25 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x32768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S32x3x16 : Shape := ⟨3, ![32, 3, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S3x128x256 : Shape := ⟨3, ![3, 128, 256]⟩
abbrev S3x16x32 : Shape := ⟨3, ![3, 16, 32]⟩
abbrev S3x16x1x1x32 : Shape := ⟨5, ![3, 16, 1, 1, 32]⟩
abbrev S3x1x128x256x1 : Shape := ⟨5, ![3, 1, 128, 256, 1]⟩
abbrev S32 : Shape := ⟨1, ![32]⟩
abbrev S1x1x1x1x32 : Shape := ⟨5, ![1, 1, 1, 1, 32]⟩
abbrev S3x1x128x256x32 : Shape := ⟨5, ![3, 1, 128, 256, 32]⟩
abbrev S3x16x128x256x32 : Shape := ⟨5, ![3, 16, 128, 256, 32]⟩
abbrev S3x16x128x256 : Shape := ⟨4, ![3, 16, 128, 256]⟩

abbrev nBuf : Space → Nat
  | .hbm => 136
  | .vmem => 0
  | .smem => 0
  | _ => 0

abbrev hbmTy0_0 (i : Nat) : BufTy := match i % 128 with
  | 0 => ⟨S32x3x16, .f32⟩
  | 1 => ⟨S128, .i32⟩
  | 2 => ⟨S128x1, .i32⟩
  | 3 => ⟨S256, .i32⟩
  | 4 => ⟨S1x256, .i32⟩
  | 5 => ⟨S_, .i32⟩
  | 6 => ⟨S128x1, .i32⟩
  | 7 => ⟨S128x1, .i32⟩
  | 8 => ⟨S128x256, .i32⟩
  | 9 => ⟨S128x256, .i32⟩
  | 10 => ⟨S128x256, .i32⟩
  | 11 => ⟨S_, .i32⟩
  | 12 => ⟨S128x256, .i32⟩
  | 13 => ⟨S128x256, .i32⟩
  | 14 => ⟨S_, .i32⟩
  | 15 => ⟨S128x256, .i32⟩
  | 16 => ⟨S128x256, .i32⟩
  | 17 => ⟨S_, .i32⟩
  | 18 => ⟨S128x256, .i32⟩
  | 19 => ⟨S128x256, .i32⟩
  | 20 => ⟨S128x256, .f32⟩
  | 21 => ⟨S_, .f32⟩
  | 22 => ⟨S128x256, .f32⟩
  | 23 => ⟨S128x256, .f32⟩
  | 24 => ⟨S128x256, .f32⟩
  | 25 => ⟨S_, .f32⟩
  | 26 => ⟨S128x256, .f32⟩
  | 27 => ⟨S128x256, .f32⟩
  | 28 => ⟨S_, .f32⟩
  | 29 => ⟨S128x256, .f32⟩
  | 30 => ⟨S128x256, .f32⟩
  | 31 => ⟨S128x256, .i32⟩
  | 32 => ⟨S_, .i32⟩
  | 33 => ⟨S128x256, .i32⟩
  | 34 => ⟨S128x256, .i32⟩
  | 35 => ⟨S_, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S128x256, .i32⟩
  | 42 => ⟨S_, .i32⟩
  | 43 => ⟨S128x256, .i32⟩
  | 44 => ⟨S128x256, .i32⟩
  | 45 => ⟨S_, .i32⟩
  | 46 => ⟨S128x256, .i32⟩
  | 47 => ⟨S128x256, .i32⟩
  | 48 => ⟨S_, .i32⟩
  | 49 => ⟨S128x256, .i32⟩
  | 50 => ⟨S128x256, .i32⟩
  | 51 => ⟨S128x256, .f32⟩
  | 52 => ⟨S_, .f32⟩
  | 53 => ⟨S128x256, .f32⟩
  | 54 => ⟨S128x256, .f32⟩
  | 55 => ⟨S128x256, .f32⟩
  | 56 => ⟨S_, .f32⟩
  | 57 => ⟨S128x256, .f32⟩
  | 58 => ⟨S128x256, .f32⟩
  | 59 => ⟨S_, .f32⟩
  | 60 => ⟨S128x256, .f32⟩
  | 61 => ⟨S128x256, .f32⟩
  | 62 => ⟨S128x256, .i32⟩
  | 63 => ⟨S_, .i32⟩
  | 64 => ⟨S128x256, .i32⟩
  | 65 => ⟨S128x256, .i32⟩
  | 66 => ⟨S_, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S128x256, .i32⟩
  | 73 => ⟨S_, .i32⟩
  | 74 => ⟨S128x256, .i32⟩
  | 75 => ⟨S128x256, .i32⟩
  | 76 => ⟨S_, .i32⟩
  | 77 => ⟨S128x256, .i32⟩
  | 78 => ⟨S128x256, .i32⟩
  | 79 => ⟨S_, .i32⟩
  | 80 => ⟨S128x256, .i32⟩
  | 81 => ⟨S128x256, .i32⟩
  | 82 => ⟨S128x256, .f32⟩
  | 83 => ⟨S_, .f32⟩
  | 84 => ⟨S128x256, .f32⟩
  | 85 => ⟨S128x256, .f32⟩
  | 86 => ⟨S128x256, .f32⟩
  | 87 => ⟨S_, .f32⟩
  | 88 => ⟨S128x256, .f32⟩
  | 89 => ⟨S128x256, .f32⟩
  | 90 => ⟨S_, .f32⟩
  | 91 => ⟨S128x256, .f32⟩
  | 92 => ⟨S128x256, .f32⟩
  | 93 => ⟨S128x256, .i32⟩
  | 94 => ⟨S_, .i32⟩
  | 95 => ⟨S128x256, .i32⟩
  | 96 => ⟨S128x256, .i32⟩
  | 97 => ⟨S_, .i32⟩
  | 98 => ⟨S128x256, .i32⟩
  | 99 => ⟨S128x256, .i32⟩
  | 100 => ⟨S_, .i32⟩
  | 101 => ⟨S128x256, .i32⟩
  | 102 => ⟨S128x256, .i1⟩
  | 103 => ⟨S128x256, .i32⟩
  | 104 => ⟨S1x128x256, .i32⟩
  | 105 => ⟨S1x128x256, .i32⟩
  | 106 => ⟨S1x128x256, .i32⟩
  | 107 => ⟨S3x128x256, .i32⟩
  | 108 => ⟨S3x16x32, .f32⟩
  | 109 => ⟨S3x16x1x1x32, .f32⟩
  | 110 => ⟨S3x1x128x256x1, .i32⟩
  | 111 => ⟨S32, .i32⟩
  | 112 => ⟨S1x1x1x1x32, .i32⟩
  | 113 => ⟨S3x1x128x256x32, .i32⟩
  | 114 => ⟨S3x1x128x256x32, .i32⟩
  | 115 => ⟨S3x1x128x256x32, .i1⟩
  | 116 => ⟨S_, .f32⟩
  | 117 => ⟨S_, .f32⟩
  | 118 => ⟨S3x16x128x256x32, .i1⟩
  | 119 => ⟨S3x16x128x256x32, .f32⟩
  | 120 => ⟨S3x16x128x256x32, .f32⟩
  | 121 => ⟨S3x16x128x256x32, .f32⟩
  | 122 => ⟨S_, .f32⟩
  | 123 => ⟨S3x16x128x256, .f32⟩
  | 124 => ⟨S_, .i32⟩
  | 125 => ⟨S128x256, .i32⟩
  | 126 => ⟨S128x256, .i1⟩
  | 127 => ⟨S_, .i32⟩
  | _ => ⟨S32x3x16, .f32⟩

abbrev hbmTy0_1 (i : Nat) : BufTy := match i % 128 with
  | 0 => ⟨S128x256, .i32⟩
  | 1 => ⟨S128x256, .i1⟩
  | 2 => ⟨S128x256, .i1⟩
  | 3 => ⟨S_, .f32⟩
  | 4 => ⟨S_, .f32⟩
  | 5 => ⟨S3x16x128x256, .i1⟩
  | 6 => ⟨S3x16x128x256, .f32⟩
  | 7 => ⟨S3x16x128x256, .f32⟩
  | _ => ⟨S32x3x16, .f32⟩

abbrev hbmTy (i : Nat) : BufTy := match i / 128 with
  | 0 => hbmTy0_0 i
  | 1 => hbmTy0_1 i
  | _ => ⟨S32x3x16, .f32⟩

abbrev bufTy : (tb : Table) → Fin (tcTables nBuf tb) → BufTy
  | .hbm, ⟨i, _⟩ => hbmTy i
  | _, _ => ⟨S32x3x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_c_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_c_9 : Ref sig .tc := ⟨.hbm, 45, rfl⟩
abbrev main_v33 : Ref sig .tc := ⟨.hbm, 46, rfl⟩
abbrev main_v34 : Ref sig .tc := ⟨.hbm, 47, rfl⟩
abbrev main_c_10 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_14 : Ref sig .tc := ⟨.hbm, 63, rfl⟩
abbrev main_v46 : Ref sig .tc := ⟨.hbm, 64, rfl⟩
abbrev main_v47 : Ref sig .tc := ⟨.hbm, 65, rfl⟩
abbrev main_c_15 : Ref sig .tc := ⟨.hbm, 66, rfl⟩
abbrev main_v48 : Ref sig .tc := ⟨.hbm, 67, rfl⟩
abbrev main_v49 : Ref sig .tc := ⟨.hbm, 68, rfl⟩
abbrev main_c_16 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_17 : Ref sig .tc := ⟨.hbm, 73, rfl⟩
abbrev main_v53 : Ref sig .tc := ⟨.hbm, 74, rfl⟩
abbrev main_v54 : Ref sig .tc := ⟨.hbm, 75, rfl⟩
abbrev main_c_18 : Ref sig .tc := ⟨.hbm, 76, rfl⟩
abbrev main_v55 : Ref sig .tc := ⟨.hbm, 77, rfl⟩
abbrev main_v56 : Ref sig .tc := ⟨.hbm, 78, rfl⟩
abbrev main_c_19 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_20 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_21 : Ref sig .tc := ⟨.hbm, 87, rfl⟩
abbrev main_v63 : Ref sig .tc := ⟨.hbm, 88, rfl⟩
abbrev main_v64 : Ref sig .tc := ⟨.hbm, 89, rfl⟩
abbrev main_cst_22 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_23 : Ref sig .tc := ⟨.hbm, 94, rfl⟩
abbrev main_v68 : Ref sig .tc := ⟨.hbm, 95, rfl⟩
abbrev main_v69 : Ref sig .tc := ⟨.hbm, 96, rfl⟩
abbrev main_c_24 : Ref sig .tc := ⟨.hbm, 97, rfl⟩
abbrev main_v70 : Ref sig .tc := ⟨.hbm, 98, rfl⟩
abbrev main_v71 : Ref sig .tc := ⟨.hbm, 99, rfl⟩
abbrev main_c_25 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_26 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_v87 : Ref sig .tc := ⟨.hbm, 121, rfl⟩
abbrev main_cst_27 : Ref sig .tc := ⟨.hbm, 122, rfl⟩
abbrev main_v88 : Ref sig .tc := ⟨.hbm, 123, rfl⟩
abbrev main_c_28 : Ref sig .tc := ⟨.hbm, 124, rfl⟩
abbrev main_v89 : Ref sig .tc := ⟨.hbm, 125, rfl⟩
abbrev main_v90 : Ref sig .tc := ⟨.hbm, 126, rfl⟩
abbrev main_c_29 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_30 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_v94 : Ref sig .tc := ⟨.hbm, 135, rfl⟩

abbrev nD : Nat := 1
abbrev τ : Topo := Topo.v7x

variable {F : FTy → Type} [FloatOps F]
-- ==== Proof.SsdBody.lean ====
/- The body of the chunked scan at one point, as one expression over its input blocks and the state the scratch holds.
   The eight groups (and the four heads of a group) are written once, at a group number. -/
module

public import proofs.«01_k».proof.Proof.Gen.KernelIdeal.Value
public import Idealize.ShloMosaic.Lib.Pipeline.Value
public import Idealize.ShloMosaic.Lib.Pointwise

@[expose] public section

set_option maxRecDepth 16384

noncomputable section

namespace Cert.Proof.Ssd

open Idealize.ShloMosaic Idealize.ShloMosaic.TcCoe Idealize.SL.Sem
open Cert.KernelIdeal Cert.KernelIdeal.Gen

variable {F : FTy → Type} [FloatOps F]

/-! ## Where a group and a head lie in the arrays -/

theorem sl_lane : ∀ h : Fin 32, S128x128.Slices ![0, h.val] S128x1 := by decide
theorem sl_row : ∀ h : Fin 32, S128x128.Slices ![h.val, 0] S1x128 := by decide
theorem sl_head : ∀ h : Fin 32, S128x2048.Slices ![0, 64 * h.val] S128x64 := by decide
theorem sl_group : ∀ g : Fin 8, S128x2048.Slices ![0, 256 * g.val] S128x256 := by decide
theorem sl_grow : ∀ g : Fin 8, S1x2048.Slices ![0, 256 * g.val] S1x256 := by decide
theorem sl_B : ∀ g : Fin 8, S128x2048.Slices ![0, 128 * g.val] S128x128 := by decide
theorem sl_C : ∀ g : Fin 8, S128x2048.Slices ![0, 1024 + 128 * g.val] S128x128 := by decide
theorem inb_slot : ∀ g : Fin 8, ∀ a : Fin 3, (![g.val, 0, 0] : Fin 3 → Nat) a + (![1, 128, 256] : Fin 3 → Nat) a ≤ S8x128x256.size a := by decide

/-- Head `k` of group `g`. -/
abbrev headOf (g : Fin 8) (k : Fin 4) : Fin 32 := ⟨4 * g.val + k.val, by omega⟩

/-- A group's slot of the state. -/
def slot (st : Vec F S8x128x256 .f32) (g : Fin 8) : Vec F S1x128x256 .f32 :=
  View.ld st (Rect.unit (s := S8x128x256) ![g.val, 0, 0] ![1, 128, 256] (inb_slot g))

/-! ## One group -/

/-- A group's columns of B. -/
def Bg (bc : FVec F S128x2048 .f32) (g : Fin 8) : FVec F S128x128 .f32 :=
  extractStridedSlice S128x128 ![0, 128 * g.val] bc (sl_B g)

/-- A group's columns of C. -/
def Cg (bc : FVec F S128x2048 .f32) (g : Fin 8) : FVec F S128x128 .bf16 :=
  truncf .bf16 (extractStridedSlice S128x128 ![0, 1024 + 128 * g.val] bc (sl_C g)) bitsLt_bf16_f32

/-- C times B transposed, over the chunk's rows. -/
def CB (bc : FVec F S128x2048 .f32) (g : Fin 8) : FVec F S128x128 .f32 :=
  matmul dot_S128x128_S128x128_S128x128_1_1_0_0_n_n none (Cg bc g) (truncf .bf16 (Bg bc g) bitsLt_bf16_f32)
    (constant S128x128 .f32 0x00000000#32)

/-- One head's rows inside the chunk. -/
def headY (cb cs csT : FVec F S128x128 .f32) (xd : FVec F S128x2048 .bf16) (h : Fin 32) : FVec F S128x64 .f32 :=
  matmul dot_S128x128_S128x64_S128x64_1_0_0_1_n_n none
    (truncf .bf16 (mulf cb (exp (select k0_pay19
      (subf (broadcastTo S128x128 (extractStridedSlice S128x1 ![0, h.val] cs (sl_lane h)) broadcasts_S128x1_S128x128)
        (broadcastTo S128x128 (extractStridedSlice S1x128 ![h.val, 0] csT (sl_row h)) broadcasts_S1x128_S128x128))
      (broadcast S128x128 (Scalar.ofBits .f32 0xFF800000#32))))) bitsLt_bf16_f32)
    (extractStridedSlice S128x64 ![0, 64 * h.val] xd (sl_head h)) (constant S128x64 .f32 0x00000000#32)

/-- A group's rows: its four heads inside the chunk, and what the state sends in. -/
def groupY (bc : FVec F S128x2048 .f32) (cs csT : FVec F S128x128 .f32) (dec : FVec F S128x2048 .f32)
    (xd : FVec F S128x2048 .bf16) (st : Vec F S8x128x256 .f32) (g : Fin 8) : FVec F S128x256 .f32 :=
  addf (concatenate S128x256 1 [⟨S128x64, headY (CB bc g) cs csT xd (headOf g 0)⟩, ⟨S128x64, headY (CB bc g) cs csT xd (headOf g 1)⟩,
      ⟨S128x64, headY (CB bc g) cs csT xd (headOf g 2)⟩, ⟨S128x64, headY (CB bc g) cs csT xd (headOf g 3)⟩]
      concatenates_S128x64_S128x64_S128x64_S128x64_S128x256_d1)
    (mulf (matmul dot_S128x128_S128x256_S128x256_1_0_0_1_n_n none (Cg bc g)
        (truncf .bf16 (shapeCast S128x256 (slot st g) shapeCasts_S1x128x256_S128x256) bitsLt_bf16_f32) (constant S128x256 .f32 0x00000000#32))
      (extractStridedSlice S128x256 ![0, 256 * g.val] dec (sl_group g)))

/-- A group's next state. -/
def groupS (bc : FVec F S128x2048 .f32) (row : FVec F S1x2048 .f32) (xe : FVec F S128x2048 .bf16) (st : Vec F S8x128x256 .f32) (g : Fin 8) :
    FVec F S1x128x256 .f32 :=
  shapeCast S1x128x256
    (addf (mulf (shapeCast S128x256 (slot st g) shapeCasts_S1x128x256_S128x256)
        (broadcastTo S128x256 (extractStridedSlice S1x256 ![0, 256 * g.val] row (sl_grow g)) broadcasts_S1x256_S128x256))
      (matmul dot_S128x128_S128x256_S128x256_1_0_0_1_n_n none
        (truncf .bf16 (transpose S128x128 [1, 0] (Bg bc g) transposes_S128x128_p1_0_S128x128) bitsLt_bf16_f32)
        (extractStridedSlice S128x256 ![0, 256 * g.val] xe (sl_group g)) (constant S128x256 .f32 0x00000000#32)))
    shapeCasts_S128x256_S1x128x256

/-- One group of the norm. -/
def normG (v : FVec F S128x2048 .f32) (g : Fin 8) : FVec F S128x256 .f32 :=
  mulf (extractStridedSlice S128x256 ![0, 256 * g.val] v (sl_group g))
    (broadcastTo S128x256 (rsqrt (addf (divf (shapeCast S128x1 (multiReduction .add [1] S128
        (mulf (extractStridedSlice S128x256 ![0, 256 * g.val] v (sl_group g)) (extractStridedSlice S128x256 ![0, 256 * g.val] v (sl_group g)))
        0x00000000#32 reduces_S128x256_S128 (.inl rfl) rfl) shapeCasts_S128_S128x1)
      (broadcast S128x1 (Scalar.ofBits .f32 0x43800000#32))) (broadcast S128x1 (Scalar.ofBits .f32 0x3727C5AC#32)))) broadcasts_S128x1_S128x256)

/-- Eight groups side by side. -/
def join8 (f : Fin 8 → FVec F S128x256 .f32) : FVec F S128x2048 .f32 :=
  concatenate S128x2048 1 [⟨S128x256, f 0⟩, ⟨S128x256, f 1⟩, ⟨S128x256, f 2⟩, ⟨S128x256, f 3⟩, ⟨S128x256, f 4⟩, ⟨S128x256, f 5⟩,
    ⟨S128x256, f 6⟩, ⟨S128x256, f 7⟩] concatenates_S128x256_S128x256_S128x256_S128x256_S128x256_S128x256_S128x256_S128x256_S128x2048_d1

/-! ## The body -/

/-- The convolved and activated x columns. -/
def xsOf (i : grid0.Coords) (x1 : Vec F S128x2048 .bf16) (x3 : Vec F S8x2048 .bf16) (x6 : Vec F S4x2048 .f32) (x7 : Vec F S1x2048 .f32) :
    FVec F S128x2048 .f32 :=
  k0_pay10 (k0_pay3 i x3) (k0_pay5 x1) (k0_pay6 x6) (iota .tc S8x2048 32 [0] iota_S8x2048_d0_w32) (k0_pay7 i x3 x1 x6 x7) (k0_pay8 x1) k0_pay9

/-- The convolved and activated B and C columns: the same expression over their own blocks. -/
def bcOf (i : grid0.Coords) (x2 : Vec F S128x2048 .bf16) (x4 : Vec F S8x2048 .bf16) (x8 : Vec F S4x2048 .f32) (x9 : Vec F S1x2048 .f32) :
    FVec F S128x2048 .f32 := xsOf i x2 x4 x8 x9

/-- The heads' rows, the skip and the gate, before the norm. -/
def gated (xs bc : FVec F S128x2048 .f32) (dt : FVec F S128x128 .f32) (x0 : Vec F S128x2048 .bf16) (x11 : Vec F S1x128 .f32)
    (x12 : Vec F S1x2048 .f32) (st : Vec F S8x128x256 .f32) : FVec F S128x2048 .f32 :=
  mulf (addf (join8 (groupY bc (k0_pay20 dt x11) (k0_pay21 dt x11) (k0_pay24 (k0_pay22 dt x11)) (k0_pay27 xs (k0_pay23 dt x11)) st))
      (mulf xs (broadcastTo S128x2048 (shapeCast S1x2048 x12 shapeCasts_S1x2048_S1x2048) broadcasts_S1x2048_S128x2048)))
    (addf (mulf (broadcast S128x2048 (Scalar.ofBits .f32 0x3F000000#32)) (extf .f32 x0 bitsLt_bf16_f32))
      (mulf (mulf (broadcast S128x2048 (Scalar.ofBits .f32 0x3F000000#32)) (extf .f32 x0 bitsLt_bf16_f32))
        (tanh (mulf (broadcast S128x2048 (Scalar.ofBits .f32 0x3F000000#32)) (extf .f32 x0 bitsLt_bf16_f32)))))

/-- The output block. -/
def bodyOut (i : grid0.Coords) (x0 : Vec F S128x2048 .bf16) (x1 : Vec F S128x2048 .bf16) (x2 : Vec F S128x2048 .bf16) (x3 : Vec F S8x2048 .bf16)
    (x4 : Vec F S8x2048 .bf16) (x5 : Vec F S128x128 .f32) (x6 : Vec F S4x2048 .f32) (x7 : Vec F S1x2048 .f32) (x8 : Vec F S4x2048 .f32)
    (x9 : Vec F S1x2048 .f32) (x10 : Vec F S1x128 .f32) (x11 : Vec F S1x128 .f32) (x12 : Vec F S1x2048 .f32) (x13 : Vec F S1x2048 .f32)
    (st : Vec F S8x128x256 .f32) : FVec F S128x2048 .bf16 :=
  truncf .bf16 (mulf (join8 (normG (gated (xsOf i x1 x3 x6 x7) (bcOf i x2 x4 x8 x9) (k0_pay18 x5 x10) x0 x11 x12 st)))
    (broadcastTo S128x2048 (shapeCast S1x2048 x13 shapeCasts_S1x2048_S1x2048) broadcasts_S1x2048_S128x2048)) bitsLt_bf16_f32

/-- A group's slot of the state the body leaves. -/
def bodySlot (i : grid0.Coords) (x1 : Vec F S128x2048 .bf16) (x2 : Vec F S128x2048 .bf16) (x3 : Vec F S8x2048 .bf16)
    (x4 : Vec F S8x2048 .bf16) (x5 : Vec F S128x128 .f32) (x6 : Vec F S4x2048 .f32) (x7 : Vec F S1x2048 .f32) (x8 : Vec F S4x2048 .f32)
    (x9 : Vec F S1x2048 .f32) (x10 : Vec F S1x128 .f32) (x11 : Vec F S1x128 .f32)
    (st : Vec F S8x128x256 .f32) (g : Fin 8) : FVec F S1x128x256 .f32 :=
  groupS (bcOf i x2 x4 x8 x9) (k0_pay25 (k0_pay22 (k0_pay18 x5 x10) x11))
    (k0_pay28 (xsOf i x1 x3 x6 x7) (k0_pay22 (k0_pay18 x5 x10) x11) (k0_pay23 (k0_pay18 x5 x10) x11)) st g

/-! ## The generated run's contents are this expression -/

theorem hz : (![0, 0] : Fin 2 → Nat) = fun _ => 0 := funext fun a => by fin_cases a <;> rfl
theorem hz3 : (![0, 0, 0] : Fin 3 → Nat) = fun _ => 0 := funext fun a => by fin_cases a <;> rfl

section Slots
variable (v : View sig .tc .vmem S8x128x256 .f32)

/-- A load of one slot passes over a store of another. -/
theorem slot_skip (j k : Nat) (h : j ≠ k) (hj : ∀ a : Fin 3, (![j, 0, 0] : Fin 3 → Nat) a + (![1, 128, 256] : Fin 3 → Nat) a ≤ S8x128x256.size a)
    (hk : ∀ a : Fin 3, (![k, 0, 0] : Fin 3 → Nat) a + (![1, 128, 256] : Fin 3 → Nat) a ≤ S8x128x256.size a)
    (w : Vec F S1x128x256 .f32) (L : List (View.Piece (Elt F) S8x128x256 .f32)) :
    v.readCov (⟨Rect.unit (s := S8x128x256) ![j, 0, 0] ![1, 128, 256] hj, w⟩ :: L) (Rect.unit (s := S8x128x256) ![k, 0, 0] ![1, 128, 256] hk).toLoadRect
      = v.readCov L (Rect.unit (s := S8x128x256) ![k, 0, 0] ![1, 128, 256] hk).toLoadRect := by
  rw [View.readCov_eq_canon', View.readCov_eq_canon']
  funext x
  refine View.canon_cons_of_not_mem _ L fun hm => ?_
  change _ ∈ (Rect.unit (s := S8x128x256) ![j, 0, 0] ![1, 128, 256] hj).set at hm
  rw [Rect.mem_set_unit] at hm
  have h0 := hm 0
  have hx : (x 0).val < 1 := (x 0).isLt
  have e : (((Rect.unit (s := S8x128x256) ![k, 0, 0] ![1, 128, 256] hk).toLoadRect.idx x) 0).val = k + 1 * (x 0).val := rfl
  have e1 : (![j, 0, 0] : Fin 3 → Nat) 0 = j := rfl
  have e2 : (![1, 128, 256] : Fin 3 → Nat) 0 = 1 := rfl
  rw [e, e1, e2] at h0
  omega

/-- A load of one slot of a buffer stored whole reads that value's slot. -/
theorem slot_zero (k : Nat) (h : ∀ a : Fin 3, (![0, 0, 0] : Fin 3 → Nat) a + (![8, 128, 256] : Fin 3 → Nat) a ≤ S8x128x256.size a)
    (hk : ∀ a : Fin 3, (![k, 0, 0] : Fin 3 → Nat) a + (![1, 128, 256] : Fin 3 → Nat) a ≤ S8x128x256.size a)
    (w : Vec F S8x128x256 .f32) :
    v.readCov [⟨Rect.unit (s := S8x128x256) ![0, 0, 0] ![8, 128, 256] h, w⟩] (Rect.unit (s := S8x128x256) ![k, 0, 0] ![1, 128, 256] hk).toLoadRect
      = View.ld w (Rect.unit (s := S8x128x256) ![k, 0, 0] ![1, 128, 256] hk) := by
  rw [View.readCov_eq_canon']
  funext x
  have e := View.canon_unit_zero (Val := Elt F) (S := S8x128x256) hz3 h w
  exact congrFun e _

end Slots

theorem out_B (c : Dev nD) (i : grid0.Coords) (arg1 : Memref sig .tc .vmem S128x2048 .bf16) (harg1 : arg1.IsWhole) (arg2 : Memref sig .tc .vmem S128x2048 .bf16) (harg2 : arg2.IsWhole) (arg3 : Memref sig .tc .vmem S128x2048 .bf16) (harg3 : arg3.IsWhole) (arg4 : Memref sig .tc .vmem S8x2048 .bf16) (harg4 : arg4.IsWhole) (arg5 : Memref sig .tc .vmem S8x2048 .bf16) (harg5 : arg5.IsWhole) (arg6 : Memref sig .tc .vmem S128x128 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S4x2048 .f32) (harg9 : arg9.IsWhole) (arg10 : Memref sig .tc .vmem S1x2048 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .bf16) (harg15 : arg15.IsWhole) (arg16 : Memref sig .tc .vmem S8x128x256 .f32) (harg16 : arg16.IsWhole) (hc0 : ¬cond0_0 i)
    (x0 : Vec F S128x2048 .bf16) (x1 : Vec F S128x2048 .bf16) (x2 : Vec F S128x2048 .bf16) (x3 : Vec F S8x2048 .bf16) (x4 : Vec F S8x2048 .bf16) (x5 : Vec F S128x128 .f32) (x6 : Vec F S4x2048 .f32) (x7 : Vec F S1x2048 .f32) (x8 : Vec F S4x2048 .f32) (x9 : Vec F S1x2048 .f32) (x10 : Vec F S1x128 .f32) (x11 : Vec F S1x128 .f32) (x12 : Vec F S1x2048 .f32) (x13 : Vec F S1x2048 .f32) (xs0 : Vec F S8x128x256 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0 = bodyOut i x0 x1 x2 x3 x4 x5 x6 x7 x8 x9 x10 x11 x12 x13 xs0 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0)]
  unfold kernelRun0_B
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S128x2048) hz, View.ld_unit_zero (S := S8x2048) hz, View.ld_unit_zero (S := S128x128) hz, View.ld_unit_zero (S := S4x2048) hz, View.ld_unit_zero (S := S1x2048) hz, View.ld_unit_zero (S := S1x128) hz]
  rfl

theorem out_A (c : Dev nD) (i : grid0.Coords) (arg1 : Memref sig .tc .vmem S128x2048 .bf16) (harg1 : arg1.IsWhole) (arg2 : Memref sig .tc .vmem S128x2048 .bf16) (harg2 : arg2.IsWhole) (arg3 : Memref sig .tc .vmem S128x2048 .bf16) (harg3 : arg3.IsWhole) (arg4 : Memref sig .tc .vmem S8x2048 .bf16) (harg4 : arg4.IsWhole) (arg5 : Memref sig .tc .vmem S8x2048 .bf16) (harg5 : arg5.IsWhole) (arg6 : Memref sig .tc .vmem S128x128 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S4x2048 .f32) (harg9 : arg9.IsWhole) (arg10 : Memref sig .tc .vmem S1x2048 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .bf16) (harg15 : arg15.IsWhole) (arg16 : Memref sig .tc .vmem S8x128x256 .f32) (harg16 : arg16.IsWhole) (hc0 : cond0_0 i)
    (x0 : Vec F S128x2048 .bf16) (x1 : Vec F S128x2048 .bf16) (x2 : Vec F S128x2048 .bf16) (x3 : Vec F S8x2048 .bf16) (x4 : Vec F S8x2048 .bf16) (x5 : Vec F S128x128 .f32) (x6 : Vec F S4x2048 .f32) (x7 : Vec F S1x2048 .f32) (x8 : Vec F S4x2048 .f32) (x9 : Vec F S1x2048 .f32) (x10 : Vec F S1x128 .f32) (x11 : Vec F S1x128 .f32) (x12 : Vec F S1x2048 .f32) (x13 : Vec F S1x2048 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 = bodyOut i x0 x1 x2 x3 x4 x5 x6 x7 x8 x9 x10 x11 x12 x13 k0_pay2 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13)]
  unfold kernelRun0_A
  dsimp only
  rw [View.canon_unit_zero hz]
  sl_unfold_words
  simp (decide := true) only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x2048) hz, View.ld_unit_zero (S := S8x2048) hz, View.ld_unit_zero (S := S128x128) hz, View.ld_unit_zero (S := S4x2048) hz, View.ld_unit_zero (S := S1x2048) hz, View.ld_unit_zero (S := S1x128) hz, slot_skip, slot_zero]
  rfl

/-- The state as its slots: element `(g, n, p)` is slot `g` at `(0, n, p)`. -/
def ofSlots (f : Fin 8 → FVec F S1x128x256 .f32) : Vec F S8x128x256 .f32 :=
  fun y => f (y 0) (ix3 (n0 := 1) (n1 := 128) (n2 := 256) 0 (y 1) (y 2))

theorem ofSlots_at (f : Fin 8 → FVec F S1x128x256 .f32) (g : Fin 8) (x : S1x128x256.Idx) (y : S8x128x256.Idx)
    (h0 : y 0 = g) (h1 : y 1 = x 1) (h2 : y 2 = x 2) : f g x = ofSlots f y := by
  unfold ofSlots
  rw [h0, h1, h2]
  refine congrArg (f g) ?_
  refine (ix3_eta (n0 := 1) (n1 := 128) (n2 := 256) x).symm.trans ?_
  exact congrArg (fun z => ix3 (n0 := 1) (n1 := 128) (n2 := 256) z (x 1) (x 2)) (Subsingleton.elim (α := Fin 1) (x 0) 0)

/-- A store of slot `g` is that slot of the state. -/
theorem ofSlots_piece (f : Fin 8 → FVec F S1x128x256 .f32) (g : Fin 8)
    (hg : ∀ a : Fin 3, (![g.val, 0, 0] : Fin 3 → Nat) a + (![1, 128, 256] : Fin 3 → Nat) a ≤ S8x128x256.size a) (x : S1x128x256.Idx) :
    f g x = ofSlots f ((Rect.unit (s := S8x128x256) ![g.val, 0, 0] ![1, 128, 256] hg).emb x) := by
  have hx : (x 0).val < 1 := (x 0).isLt
  refine ofSlots_at f g x _ (Fin.ext ?_) (Fin.ext ?_) (Fin.ext ?_)
  · rw [Rect.emb_apply]; show g.val + 1 * (x 0).val = g.val; omega
  · rw [Rect.emb_apply]; show 0 + 1 * (x 1).val = (x 1).val; omega
  · rw [Rect.emb_apply]; show 0 + 1 * (x 2).val = (x 2).val; omega

theorem mem_slot (g : Fin 8)
    (hg : ∀ a : Fin 3, (![g.val, 0, 0] : Fin 3 → Nat) a + (![1, 128, 256] : Fin 3 → Nat) a ≤ S8x128x256.size a) (y : S8x128x256.Idx) (h : y 0 = g) :
    y ∈ (Rect.unit (s := S8x128x256) ![g.val, 0, 0] ![1, 128, 256] hg).set := by
  have h1 : (y 1).val < 128 := (y 1).isLt
  have h2 : (y 2).val < 256 := (y 2).isLt
  rw [Rect.mem_set_unit]
  intro a
  match a with
  | ⟨0, _⟩ => show g.val ≤ (y 0).val ∧ (y 0).val < g.val + 1; rw [h]; omega
  | ⟨1, _⟩ => show 0 ≤ (y 1).val ∧ (y 1).val < 0 + 128; omega
  | ⟨2, _⟩ => show 0 ≤ (y 2).val ∧ (y 2).val < 0 + 256; omega

/-- Earlier writes do not show where later ones cover. -/
theorem canon_append (M : List (View.Piece (Elt F) S8x128x256 .f32)) (y : S8x128x256.Idx) :
    ∀ L : List (View.Piece (Elt F) S8x128x256 .f32), (∃ p ∈ L, y ∈ p.1.set) → View.canon (L ++ M) y = View.canon L y
  | [], h => by obtain ⟨p, hp, _⟩ := h; simp at hp
  | p :: L, h => by
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      obtain ⟨q, hq, hy⟩ := h
      rcases List.mem_cons.mp hq with rfl | hq
      · exact absurd hy hm
      · exact canon_append M y L ⟨q, hq, hy⟩

/-- The eight slots' stores, whatever was written before them, leave the state of those slots. -/
theorem canon_slots (f : Fin 8 → FVec F S1x128x256 .f32) (M : List (View.Piece (Elt F) S8x128x256 .f32)) :
    View.canon ([(⟨Rect.unit (s := S8x128x256) ![7, 0, 0] ![1, 128, 256] (inb_slot 7), f 7⟩ : View.Piece (Elt F) S8x128x256 .f32),
      ⟨Rect.unit (s := S8x128x256) ![6, 0, 0] ![1, 128, 256] (inb_slot 6), f 6⟩,
      ⟨Rect.unit (s := S8x128x256) ![5, 0, 0] ![1, 128, 256] (inb_slot 5), f 5⟩,
      ⟨Rect.unit (s := S8x128x256) ![4, 0, 0] ![1, 128, 256] (inb_slot 4), f 4⟩,
      ⟨Rect.unit (s := S8x128x256) ![3, 0, 0] ![1, 128, 256] (inb_slot 3), f 3⟩,
      ⟨Rect.unit (s := S8x128x256) ![2, 0, 0] ![1, 128, 256] (inb_slot 2), f 2⟩,
      ⟨Rect.unit (s := S8x128x256) ![1, 0, 0] ![1, 128, 256] (inb_slot 1), f 1⟩,
      ⟨Rect.unit (s := S8x128x256) ![0, 0, 0] ![1, 128, 256] (inb_slot 0), f 0⟩] ++ M) = ofSlots f := by
  funext y
  have hy : y 0 = y 0 := rfl
  have hc : ∀ g : Fin 8, y 0 = g → ∃ p ∈ [(⟨Rect.unit (s := S8x128x256) ![7, 0, 0] ![1, 128, 256] (inb_slot 7), f 7⟩ : View.Piece (Elt F) S8x128x256 .f32),
      ⟨Rect.unit (s := S8x128x256) ![6, 0, 0] ![1, 128, 256] (inb_slot 6), f 6⟩,
      ⟨Rect.unit (s := S8x128x256) ![5, 0, 0] ![1, 128, 256] (inb_slot 5), f 5⟩,
      ⟨Rect.unit (s := S8x128x256) ![4, 0, 0] ![1, 128, 256] (inb_slot 4), f 4⟩,
      ⟨Rect.unit (s := S8x128x256) ![3, 0, 0] ![1, 128, 256] (inb_slot 3), f 3⟩,
      ⟨Rect.unit (s := S8x128x256) ![2, 0, 0] ![1, 128, 256] (inb_slot 2), f 2⟩,
      ⟨Rect.unit (s := S8x128x256) ![1, 0, 0] ![1, 128, 256] (inb_slot 1), f 1⟩,
      ⟨Rect.unit (s := S8x128x256) ![0, 0, 0] ![1, 128, 256] (inb_slot 0), f 0⟩], y ∈ p.1.set := fun g hg =>
    ⟨⟨Rect.unit (s := S8x128x256) ![g.val, 0, 0] ![1, 128, 256] (inb_slot g), f g⟩, by fin_cases g <;> simp, mem_slot g (inb_slot g) y hg⟩
  rw [canon_append M y _ (hc _ rfl)]
  refine View.canon_apply_of_pieces (ofSlots f) _ ?_ y (hc _ rfl)
  have key := ofSlots_piece f
  simp only [List.forall_mem_cons, List.not_mem_nil, false_imp_iff, implies_true, and_true]
  exact ⟨key 7 _, key 6 _, key 5 _, key 4 _, key 3 _, key 2 _, key 1 _, key 0 _⟩

theorem st_B (c : Dev nD) (i : grid0.Coords) (arg1 : Memref sig .tc .vmem S128x2048 .bf16) (harg1 : arg1.IsWhole) (arg2 : Memref sig .tc .vmem S128x2048 .bf16) (harg2 : arg2.IsWhole) (arg3 : Memref sig .tc .vmem S128x2048 .bf16) (harg3 : arg3.IsWhole) (arg4 : Memref sig .tc .vmem S8x2048 .bf16) (harg4 : arg4.IsWhole) (arg5 : Memref sig .tc .vmem S8x2048 .bf16) (harg5 : arg5.IsWhole) (arg6 : Memref sig .tc .vmem S128x128 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S4x2048 .f32) (harg9 : arg9.IsWhole) (arg10 : Memref sig .tc .vmem S1x2048 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .bf16) (harg15 : arg15.IsWhole) (arg16 : Memref sig .tc .vmem S8x128x256 .f32) (harg16 : arg16.IsWhole) (hc0 : ¬cond0_0 i)
    (x0 : Vec F S128x2048 .bf16) (x1 : Vec F S128x2048 .bf16) (x2 : Vec F S128x2048 .bf16) (x3 : Vec F S8x2048 .bf16) (x4 : Vec F S8x2048 .bf16) (x5 : Vec F S128x128 .f32) (x6 : Vec F S4x2048 .f32) (x7 : Vec F S1x2048 .f32) (x8 : Vec F S4x2048 .f32) (x9 : Vec F S1x2048 .f32) (x10 : Vec F S1x128 .f32) (x11 : Vec F S1x128 .f32) (x12 : Vec F S1x2048 .f32) (x13 : Vec F S1x2048 .f32) (xs0 : Vec F S8x128x256 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0 = ofSlots (bodySlot i x1 x2 x3 x4 x5 x6 x7 x8 x9 x10 x11 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S128x2048) hz, View.ld_unit_zero (S := S8x2048) hz, View.ld_unit_zero (S := S128x128) hz, View.ld_unit_zero (S := S4x2048) hz, View.ld_unit_zero (S := S1x2048) hz, View.ld_unit_zero (S := S1x128) hz]
  exact canon_slots (bodySlot i x1 x2 x3 x4 x5 x6 x7 x8 x9 x10 x11 xs0) []

theorem st_A (c : Dev nD) (i : grid0.Coords) (arg1 : Memref sig .tc .vmem S128x2048 .bf16) (harg1 : arg1.IsWhole) (arg2 : Memref sig .tc .vmem S128x2048 .bf16) (harg2 : arg2.IsWhole) (arg3 : Memref sig .tc .vmem S128x2048 .bf16) (harg3 : arg3.IsWhole) (arg4 : Memref sig .tc .vmem S8x2048 .bf16) (harg4 : arg4.IsWhole) (arg5 : Memref sig .tc .vmem S8x2048 .bf16) (harg5 : arg5.IsWhole) (arg6 : Memref sig .tc .vmem S128x128 .f32) (harg6 : arg6.IsWhole) (arg7 : Memref sig .tc .vmem S4x2048 .f32) (harg7 : arg7.IsWhole) (arg8 : Memref sig .tc .vmem S1x2048 .f32) (harg8 : arg8.IsWhole) (arg9 : Memref sig .tc .vmem S4x2048 .f32) (harg9 : arg9.IsWhole) (arg10 : Memref sig .tc .vmem S1x2048 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .bf16) (harg15 : arg15.IsWhole) (arg16 : Memref sig .tc .vmem S8x128x256 .f32) (harg16 : arg16.IsWhole) (hc0 : cond0_0 i)
    (x0 : Vec F S128x2048 .bf16) (x1 : Vec F S128x2048 .bf16) (x2 : Vec F S128x2048 .bf16) (x3 : Vec F S8x2048 .bf16) (x4 : Vec F S8x2048 .bf16) (x5 : Vec F S128x128 .f32) (x6 : Vec F S4x2048 .f32) (x7 : Vec F S1x2048 .f32) (x8 : Vec F S4x2048 .f32) (x9 : Vec F S1x2048 .f32) (x10 : Vec F S1x128 .f32) (x11 : Vec F S1x128 .f32) (x12 : Vec F S1x2048 .f32) (x13 : Vec F S1x2048 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 = ofSlots (bodySlot i x1 x2 x3 x4 x5 x6 x7 x8 x9 x10 x11 k0_pay2) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13)]
  unfold kernelRun0_A
  dsimp only
  sl_unfold_words
  simp (decide := true) only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x2048) hz, View.ld_unit_zero (S := S8x2048) hz, View.ld_unit_zero (S := S128x128) hz, View.ld_unit_zero (S := S4x2048) hz, View.ld_unit_zero (S := S1x2048) hz, View.ld_unit_zero (S := S1x128) hz, slot_skip, slot_zero]
  exact canon_slots (bodySlot i x1 x2 x3 x4 x5 x6 x7 x8 x9 x10 x11 k0_pay2) [⟨Rect.unit (s := S8x128x256) ![0, 0, 0] ![8, 128, 256] _, k0_pay2⟩]

end Cert.Proof.Ssd

end
-- ==== Proof.SsdModel.lean ====
/- The layer's scan over the real numbers, at plain natural positions, and the extended-real arithmetic that meets it. -/
module

public import Idealize.ShloMosaic.Lib.Pointwise
public import Idealize.ShloMosaic.Lib.IdealHost
public import Idealize.ShloMosaic.Lib.WordCmp

@[expose] public section

noncomputable section

namespace Cert.Proof.Ssd

open Idealize.ShloMosaic Idealize.ShloMosaic.TcCoe Idealize.SL.Sem
open scoped BigOperators

/-! ## The model -/

/-- The real inputs: the projected rows, the raw steps, the convolution's weights and bias, and the heads' vectors. -/
structure Inp where
  zx : ℕ → ℕ → ℝ
  dtr : ℕ → ℕ → ℝ
  cw : ℕ → ℕ → ℝ
  cb : ℕ → ℝ
  dtb : ℕ → ℝ
  na : ℕ → ℝ
  ds : ℕ → ℝ
  nw : ℕ → ℝ

/-- The logistic-weighted value. -/
def sil (x : ℝ) : ℝ := x * (1 + Real.exp (-x))⁻¹

/-- The smooth positive part. -/
def spl (x : ℝ) : ℝ := max x 0 + Real.log (1 + Real.exp (-|x|))

namespace Inp
variable (p : Inp)

/-- Column `ch` of the convolved part, `k` rows back. -/
def sh (k t ch : ℕ) : ℝ := if t < k then 0 else p.zx (t - k) (2048 + ch)

/-- The convolution over four rows. -/
def conv (t ch : ℕ) : ℝ :=
  p.sh 0 t ch * p.cw 3 ch + p.cb ch + p.sh 1 t ch * p.cw 2 ch + p.sh 2 t ch * p.cw 1 ch + p.sh 3 t ch * p.cw 0 ch

def act (t ch : ℕ) : ℝ := sil (p.conv t ch)

def dt (t h : ℕ) : ℝ := spl (p.dtr t h + p.dtb h)

/-- The sum of the steps of chunk `c` up to row `l`. -/
def acs (c l h : ℕ) : ℝ := ∑ s : Fin 128, if s.val ≤ l then p.dt (128 * c + s.val) h * p.na h else 0

/-- B's column `n` of group `g`. -/
def bv (t g n : ℕ) : ℝ := p.act t (2048 + (128 * g + n))
/-- C's column `n` of group `g`. -/
def cv (t g n : ℕ) : ℝ := p.act t (2048 + (1024 + 128 * g + n))

def xdt (t j : ℕ) : ℝ := p.act t j * p.dt t (j / 64)

def cbm (c l s g : ℕ) : ℝ := ∑ n : Fin 128, p.cv (128 * c + l) g n.val * p.bv (128 * c + s) g n.val

def ydiag (c l j : ℕ) : ℝ :=
  ∑ s : Fin 128, p.cbm c l s.val (j / 256) * (if s.val ≤ l then Real.exp (p.acs c l (j / 64) - p.acs c s.val (j / 64)) else 0)
    * p.xdt (128 * c + s.val) j

/-- What chunk `c` adds to the state. -/
def new (c n j : ℕ) : ℝ :=
  ∑ s : Fin 128, p.bv (128 * c + s.val) (j / 256) n
    * (p.xdt (128 * c + s.val) j * Real.exp (p.acs c 127 (j / 64) - p.acs c s.val (j / 64)))

/-- The state before chunk `c`. -/
def st : ℕ → ℕ → ℕ → ℝ
  | 0, _, _ => 0
  | c + 1, n, j => st c n j * Real.exp (p.acs c 127 (j / 64)) + p.new c n j

def yoff (c l j : ℕ) : ℝ :=
  (∑ n : Fin 128, p.cv (128 * c + l) (j / 256) n.val * p.st c n.val j) * Real.exp (p.acs c l (j / 64))

/-- The gated rows before the norm. -/
def u (c l j : ℕ) : ℝ :=
  (p.ydiag c l j + p.yoff c l j + p.act (128 * c + l) j * p.ds (j / 64)) * sil (p.zx (128 * c + l) j)

/-- The result's value: the norm keeps its extended-real division and root. -/
def out (c l j : ℕ) : EReal :=
  ((p.u c l j : ℝ) : EReal) * Ideal.rsqrt (Ideal.div
      (((∑ q : Fin 256, p.u c l (256 * (j / 256) + q.val) * p.u c l (256 * (j / 256) + q.val) : ℝ)) : EReal)
      (Ideal.ofBits .f32 1132462080#32) + Ideal.ofBits .f32 925353388#32) * ((p.nw j : ℝ) : EReal)

end Inp

/-- The arguments hold the model's inputs; the steps' bias and the heads' rates read zero past the 32 heads. -/
structure Args (p : Inp) (a0 : (⟨2, ![16384, 6144]⟩ : Shape).Idx → EReal) (a1 : (⟨2, ![16384, 128]⟩ : Shape).Idx → EReal)
    (a2 : (⟨2, ![4, 4096]⟩ : Shape).Idx → EReal) (a3 : (⟨1, ![4096]⟩ : Shape).Idx → EReal) (a4 a5 a6 : (⟨1, ![32]⟩ : Shape).Idx → EReal)
    (a7 : (⟨1, ![2048]⟩ : Shape).Idx → EReal) : Prop where
  z0 : ∀ r l, a0 (ix2 r l) = ((p.zx r.val l.val : ℝ) : EReal)
  z1 : ∀ r l, a1 (ix2 r l) = ((p.dtr r.val l.val : ℝ) : EReal)
  z2 : ∀ k l, a2 (ix2 k l) = ((p.cw k.val l.val : ℝ) : EReal)
  z3 : ∀ l, a3 (ix1 l) = ((p.cb l.val : ℝ) : EReal)
  z4 : ∀ h, a4 (ix1 h) = ((p.dtb h.val : ℝ) : EReal)
  z5 : ∀ h, -Ideal.exp (a5 (ix1 h)) = ((p.na h.val : ℝ) : EReal)
  z6 : ∀ h, a6 (ix1 h) = ((p.ds h.val : ℝ) : EReal)
  z7 : ∀ l, a7 (ix1 l) = ((p.nw l.val : ℝ) : EReal)
  pad4 : ∀ n, 32 ≤ n → p.dtb n = 0
  pad5 : ∀ n, 32 ≤ n → p.na n = 0

/-! ## Extended-real arithmetic over reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem ofBits_half : Ideal.ofBits .f32 1056964608#32 = (((1 : ℝ) / 2 : ℝ) : EReal) := by
  simp [Ideal.ofBits, Ideal.ieee, -EReal.coe_mul]; norm_num

theorem ofBits_ninf : Ideal.ofBits .f32 4286578688#32 = (⊥ : EReal) := by
  simp [Ideal.ofBits, Ideal.ieee]

theorem tanh_half (x : ℝ) : x / 2 + x / 2 * Real.tanh (x / 2) = sil x := by
  unfold sil
  rw [Real.tanh_eq_sinh_div_cosh, Real.sinh_eq, Real.cosh_eq]
  have e : Real.exp (-x) = Real.exp (-(x / 2)) * Real.exp (-(x / 2)) := by rw [← Real.exp_add]; congr 1; ring
  have e2 : Real.exp (x / 2) * Real.exp (-(x / 2)) = 1 := by rw [← Real.exp_add]; simp
  have hp := Real.exp_pos (x / 2)
  have hm := Real.exp_pos (-(x / 2))
  rw [e]
  generalize Real.exp (x / 2) = a at *
  generalize Real.exp (-(x / 2)) = b at *
  have h1 : a + b ≠ 0 := by positivity
  have h2 : 1 + b * b ≠ 0 := by positivity
  field_simp
  linear_combination (2 * x * b) * e2

theorem silu_half (x : ℝ) :
    Ideal.ofBits .f32 1056964608#32 * (x : EReal) + Ideal.ofBits .f32 1056964608#32 * (x : EReal) * Ideal.tanh (Ideal.ofBits .f32 1056964608#32 * (x : EReal))
      = ((sil x : ℝ) : EReal) := by
  rw [ofBits_half, ← EReal.coe_mul, Ideal.tanh_coe, ← EReal.coe_mul, ← EReal.coe_add, ← tanh_half]
  congr 1; ring_nf

theorem coe_max (a b : ℝ) : max (a : EReal) (b : EReal) = ((max a b : ℝ) : EReal) :=
  (EReal.coe_strictMono.monotone.map_max).symm

theorem abs_coe (x : ℝ) : max (x : EReal) (-(x : EReal)) = ((|x| : ℝ) : EReal) := by
  rw [← EReal.coe_neg, coe_max]; rfl

theorem log1p_exp (y : ℝ) : Ideal.log1p ((Real.exp y : ℝ) : EReal) = ((Real.log (1 + Real.exp y) : ℝ) : EReal) := by
  have h : (0 : ℝ) < 1 + Real.exp y := by positivity
  show Ideal.log (1 + ((Real.exp y : ℝ) : EReal)) = _
  rw [show (1 : EReal) = ((1 : ℝ) : EReal) by norm_cast, ← EReal.coe_add, Ideal.log_coe, if_neg (not_le.mpr h)]

theorem softplus_coe (x : ℝ) :
    max (x : EReal) 0 + Ideal.log1p (Ideal.exp (0 - max (x : EReal) (-(x : EReal)))) = ((spl x : ℝ) : EReal) := by
  rw [abs_coe, zero_sub, ← EReal.coe_neg, Ideal.exp_coe, log1p_exp, ← EReal.coe_zero, coe_max, ← EReal.coe_add]; rfl

theorem coe_sub_self (x : ℝ) : (x : EReal) - (x : EReal) = 0 := by rw [← EReal.coe_sub, sub_self, EReal.coe_zero]

theorem select_ofBool {α : Type} (b : Prop) [Decidable b] (x y : α) :
    Scalar.select (BitVec.ofBool (decide b)) x y = if b then x else y := by
  by_cases h : b <;> simp [h, Scalar.select]

theorem sel_sle {α : Type} (s r : ℕ) (hs : s < 16384) (hr : r < 16384) (x y : α) :
    Scalar.select (IntOp.cmpi CmpIPredicate.sle (BitVec.ofNat 32 s) (BitVec.ofNat 32 r)) x y = if s ≤ r then x else y := by
  rw [WordCmp.cmpi_sle_ofNat (by omega) (by omega), select_ofBool]

theorem sel_slt {α : Type} (s r : ℕ) (hs : s < 16384) (hr : r < 16384) (x y : α) :
    Scalar.select (IntOp.cmpi CmpIPredicate.slt (BitVec.ofNat 32 s) (BitVec.ofNat 32 r)) x y = if s < r then x else y := by
  rw [WordCmp.cmpi_slt_ofNat (by omega) (by omega), select_ofBool]

theorem sel_eq {α : Type} (s r : ℕ) (hs : s < 16384) (hr : r < 16384) (x y : α) :
    Scalar.select (IntOp.cmpi CmpIPredicate.eq (BitVec.ofNat 32 s) (BitVec.ofNat 32 r)) x y = if s = r then x else y := by
  rw [WordCmp.cmpi_eq_ofNat (by omega) (by omega), select_ofBool]

/-- A sum over three stretches of rows whose last two vanish. -/
theorem sum_three (f : Fin 384 → EReal) (g : Fin 128 → EReal) (h0 : ∀ x : Fin 128, f ⟨x.val, by omega⟩ = g x)
    (h1 : ∀ x : Fin 384, 128 ≤ x.val → f x = 0) : ∑ x, f x = ∑ x, g x := by
  rw [show (∑ x : Fin 384, f x) = ∑ x : Fin (128 + 256), f x from rfl, Fin.sum_univ_add]
  rw [Finset.sum_eq_zero (s := Finset.univ) (f := fun i : Fin 256 => f (Fin.natAdd 128 i)), add_zero]
  · exact Finset.sum_congr rfl fun x _ => h0 x
  · intro x _
    exact h1 _ (Nat.le_add_right 128 x.val)

theorem exp_masked (b : Prop) [Decidable b] (x y : ℝ) :
    Ideal.exp (if b then ((x : ℝ) : EReal) - ((y : ℝ) : EReal) else ⊥) = ((if b then Real.exp (x - y) else 0 : ℝ) : EReal) := by
  by_cases h : b
  · simp only [h, if_true]; rw [← EReal.coe_sub, Ideal.exp_coe]
  · simp only [h, if_false, Ideal.exp_bot, EReal.coe_zero]

theorem mask_mul (b : Prop) [Decidable b] (x : ℝ) :
    (if b then (1 : EReal) else 0) * (x : EReal) = ((if b then x else 0 : ℝ) : EReal) := by
  by_cases h : b <;> simp [h]

end Cert.Proof.Ssd
-- ==== Proof.SsdBlock.lean ====
/- The body's pieces at one element, over blocks that hold reals: each is the model's value. -/
module

public import proofs.«01_k».proof.Proof.SsdBody
public import proofs.«01_k».proof.Proof.SsdModel

@[expose] public section

set_option maxRecDepth 16384

noncomputable section

namespace Cert.Proof.Ssd

open Idealize.ShloMosaic Idealize.ShloMosaic.TcCoe Idealize.SL.Sem
open Cert.KernelIdeal Cert.KernelIdeal.Gen
open scoped BigOperators

variable (p : Inp) (c : ℕ)

/-! ## The convolution -/

/-- The rows `k` back: the chunk's own where they are inside it, the halo's otherwise, nothing before the first chunk. -/
theorem shift_eq (i : grid0.Coords) (hc : (i 0).val = c) (off : ℕ) (x1 : Vec Ideal S128x2048 .bf16) (x3 : Vec Ideal S8x2048 .bf16)
    (h1 : ∀ (r : Fin 128) (l : Fin 2048), x1 (ix2 r l) = ((p.zx (128 * c + r.val) (2048 + (off + l.val)) : ℝ) : EReal))
    (h3 : 1 ≤ c → ∀ (r : Fin 8) (l : Fin 2048), x3 (ix2 r l) = ((p.zx (128 * c - 8 + r.val) (2048 + (off + l.val)) : ℝ) : EReal))
    (k : ℕ) (hk : 1 ≤ k) (hk3 : k ≤ 3) (r : Fin 128) (l : Fin 2048) :
    (if h : r.val < 8 then
        Scalar.select (IntOp.cmpi CmpIPredicate.slt (BitVec.ofNat 32 r.val) (BitVec.ofNat 32 k))
          (Scalar.select (Scalar.cmpi CmpIPredicate.eq (BitVec.ofNat 32 (i 0).val) 0#32) 0
            (x3 (ix2 ⟨(r.val + 8 - k) % 8, Nat.mod_lt _ (by decide)⟩ l)))
          (x1 (ix2 ⟨(r.val + 128 - k) % 128, Nat.mod_lt _ (by decide)⟩ l))
      else x1 (ix2 ⟨(8 + (r.val - 8) + 128 - k) % 128, Nat.mod_lt _ (by decide)⟩ l))
      = ((p.sh k (128 * c + r.val) (off + l.val) : ℝ) : EReal) := by
  have hi : (i 0).val < 128 := (i 0).isLt
  have hr := r.isLt
  have e0 : Scalar.cmpi CmpIPredicate.eq (BitVec.ofNat 32 (i 0).val) 0#32 = IntOp.cmpi CmpIPredicate.eq (BitVec.ofNat 32 (i 0).val) (BitVec.ofNat 32 0) := rfl
  rw [sel_slt _ _ (by omega) (by omega), e0, sel_eq _ _ (by omega) (by omega), hc]
  unfold Inp.sh
  by_cases hr8 : r.val < 8
  · rw [dif_pos hr8]
    by_cases hrk : r.val < k
    · rw [if_pos hrk]
      by_cases h0 : c = 0
      · rw [if_pos h0, if_pos (by omega), EReal.coe_zero]
      · rw [if_neg h0, if_neg (by omega), h3 (by omega)]
        congr 3
        show 128 * c - 8 + (r.val + 8 - k) % 8 = _
        omega
    · rw [if_neg hrk, if_neg (by omega), h1]
      congr 3
      show 128 * c + (r.val + 128 - k) % 128 = _
      omega
  · rw [dif_neg hr8, if_neg (by omega), h1]
    congr 3
    show 128 * c + (8 + (r.val - 8) + 128 - k) % 128 = _
    omega

theorem xsOf_eq (i : grid0.Coords) (hc : (i 0).val = c) (off : ℕ) (x1 : Vec Ideal S128x2048 .bf16) (x3 : Vec Ideal S8x2048 .bf16)
    (x6 : Vec Ideal S4x2048 .f32) (x7 : Vec Ideal S1x2048 .f32)
    (h1 : ∀ (r : Fin 128) (l : Fin 2048), x1 (ix2 r l) = ((p.zx (128 * c + r.val) (2048 + (off + l.val)) : ℝ) : EReal))
    (h3 : 1 ≤ c → ∀ (r : Fin 8) (l : Fin 2048), x3 (ix2 r l) = ((p.zx (128 * c - 8 + r.val) (2048 + (off + l.val)) : ℝ) : EReal))
    (h6 : ∀ (k : Fin 4) (l : Fin 2048), x6 (ix2 k l) = ((p.cw k.val (off + l.val) : ℝ) : EReal))
    (h7 : ∀ (l : Fin 2048), x7 (ix2 0 l) = ((p.cb (off + l.val) : ℝ) : EReal)) (r : Fin 128) (l : Fin 2048) :
    xsOf i x1 x3 x6 x7 (ix2 r l) = ((p.act (128 * c + r.val) (off + l.val) : ℝ) : EReal) := by
  have s1 := shift_eq p c i hc off x1 x3 h1 h3 1 (by omega) (by omega) r l
  have s2 := shift_eq p c i hc off x1 x3 h1 h3 2 (by omega) (by omega) r l
  have s3 := shift_eq p c i hc off x1 x3 h1 h3 3 (by omega) (by omega) r l
  have s0 : x1 (ix2 r l) = ((p.sh 0 (128 * c + r.val) (off + l.val) : ℝ) : EReal) := by rw [h1]; rfl
  pointwise [xsOf, k0_pay10, k0_pay3, k0_pay5, k0_pay6, k0_pay7, k0_pay8, k0_pay9]
  simp only [s1, s2, s3, s0, h6, h7]
  simp only [← EReal.coe_mul, ← EReal.coe_add]
  rw [silu_half]
  rfl

/-! ## The steps -/

theorem dt_eq (x5 : Vec Ideal S128x128 .f32) (x10 : Vec Ideal S1x128 .f32)
    (h5 : ∀ r l : Fin 128, x5 (ix2 r l) = ((p.dtr (128 * c + r.val) l.val : ℝ) : EReal))
    (h10 : ∀ l : Fin 128, x10 (ix2 0 l) = ((p.dtb l.val : ℝ) : EReal)) (r l : Fin 128) :
    k0_pay18 x5 x10 (ix2 r l) = ((p.dt (128 * c + r.val) l.val : ℝ) : EReal) := by
  pointwise [k0_pay18]
  rw [h5, h10, ← EReal.coe_add, Ideal.absf_def, softplus_coe]
  rfl

theorem floor_word : ∀ l : Fin 2048, IntOp.andi (BitVec.ofNat 32 l.val) 4294967232#32 = BitVec.ofNat 32 (64 * (l.val / 64)) := by
  decide +kernel

theorem head_word (x : ℕ) (hx : x < 128) : IntOp.muli (BitVec.ofNat 32 x) 64#32 = BitVec.ofNat 32 (64 * x) := by
  refine BitVec.eq_of_toNat_eq ?_
  show (BitVec.ofNat 32 x * 64#32).toNat = _
  simp only [BitVec.toNat_mul, BitVec.toNat_ofNat]
  omega

/-- The lane's head: the word test is the equality of naturals. -/
theorem onehot (l : Fin 2048) (x : ℕ) (hx : x < 128) :
    Scalar.select (IntOp.cmpi CmpIPredicate.eq (IntOp.andi (BitVec.ofNat 32 l.val) 4294967232#32) (IntOp.muli (BitVec.ofNat 32 x) 64#32)) (1 : EReal) 0
      = if x = l.val / 64 then 1 else 0 := by
  have hl := l.isLt
  rw [floor_word, head_word x hx, sel_eq _ _ (by omega) (by omega)]
  exact if_congr ⟨fun h => by omega, fun h => by omega⟩ rfl rfl

theorem onehot_sum (V : ℕ → ℝ) (l : Fin 2048) (f : Fin 384 → EReal)
    (h0 : ∀ x : Fin 128, f ⟨x.val, by omega⟩ = ((V x.val : ℝ) : EReal)
      * Scalar.select (IntOp.cmpi CmpIPredicate.eq (IntOp.andi (BitVec.ofNat 32 l.val) 4294967232#32) (IntOp.muli (BitVec.ofNat 32 x.val) 64#32)) (1 : EReal) 0)
    (h1 : ∀ x : Fin 384, 128 ≤ x.val → f x = 0) : ∑ x, f x = ((V (l.val / 64) : ℝ) : EReal) := by
  have hl := l.isLt
  rw [sum_three f (fun x : Fin 128 => if x = ⟨l.val / 64, by omega⟩ then ((V x.val : ℝ) : EReal) else 0) ?_ h1]
  · rw [Finset.sum_ite_eq' Finset.univ, if_pos (Finset.mem_univ _)]
  · intro x
    simp only [h0, onehot l x.val x.isLt, Fin.ext_iff]
    split_ifs <;> simp

section Steps
variable (dt : FVec Ideal S128x128 .f32) (x11 : Vec Ideal S1x128 .f32)
  (hdt : ∀ r l : Fin 128, dt (ix2 r l) = ((p.dt (128 * c + r.val) l.val : ℝ) : EReal))
  (h11 : ∀ l : Fin 128, x11 (ix2 0 l) = ((p.na l.val : ℝ) : EReal))
include hdt h11

theorem acs_eq (r l : Fin 128) : k0_pay20 dt x11 (ix2 r l) = ((p.acs c r.val l.val : ℝ) : EReal) := by
  pointwise [k0_pay20, k0_pay19]
  rw [sum_three _ (fun x : Fin 128 => ((if x.val ≤ r.val then p.dt (128 * c + x.val) l.val * p.na l.val else 0 : ℝ) : EReal)), coe_sum]
  · rfl
  · intro x
    simp only [dif_pos x.isLt, sel_sle _ _ (show x.val < 16384 by omega) (show r.val < 16384 by omega)]
    rw [hdt, h11, ← EReal.coe_mul, mask_mul]
  · intro x hx
    apply mul_eq_zero_of_right
    rw [dif_neg (by omega)]
    by_cases h : x.val - 128 < 128
    · rw [dif_pos h, hdt, h11, ← EReal.coe_mul, coe_sub_self]
    · rw [dif_neg h, hdt, h11, ← EReal.coe_mul, coe_sub_self, sub_zero]

theorem acsT_eq (l r : Fin 128) : k0_pay21 dt x11 (ix2 l r) = ((p.acs c r.val l.val : ℝ) : EReal) := by
  pointwise [k0_pay21]
  exact acs_eq p c dt x11 hdt h11 r l

/-- The spread over lanes: the steps, the decay from the chunk's start and the decay to its end, each at its lane's head. -/
theorem lanes_eq (r : Fin 384) (l : Fin 2048) : k0_pay22 dt x11 (ix2 r l)
    = (((if r.val < 128 then p.dt (128 * c + r.val) (l.val / 64)
        else if r.val - 128 < 128 then Real.exp (p.acs c (r.val - 128) (l.val / 64))
        else Real.exp (p.acs c 127 (l.val / 64) - p.acs c (r.val - 128 - 128) (l.val / 64)) : ℝ)) : EReal) := by
  have ha := acs_eq p c dt x11 hdt h11
  have hr := r.isLt
  pointwise [k0_pay22]
  by_cases h1 : r.val < 128
  · simp only [dif_pos h1, if_pos h1, hdt, coe_sub_self, sub_zero]
    refine onehot_sum (fun h => p.dt (128 * c + r.val) h) l _ (fun x => ?_) (fun x hx => ?_)
    · simp only [dif_pos x.isLt]
    · rw [dif_neg (by omega)]; simp
  · by_cases h2 : r.val - 128 < 128
    · simp only [dif_neg h1, if_neg h1, dif_pos h2, if_pos h2, ha, Ideal.exp_coe, coe_sub_self, sub_zero]
      refine onehot_sum (fun h => Real.exp (p.acs c (r.val - 128) h)) l _ (fun x => ?_) (fun x hx => ?_)
      · simp only [dif_pos x.isLt]
      · rw [dif_neg (by omega)]; simp
    · simp only [dif_neg h1, if_neg h1, dif_neg h2, if_neg h2, ha, ← EReal.coe_sub, Ideal.exp_coe, coe_sub_self, sub_zero]
      refine onehot_sum (fun h => Real.exp (p.acs c 127 h - p.acs c (r.val - 128 - 128) h)) l _ (fun x => ?_) (fun x hx => ?_)
      · simp only [dif_pos x.isLt]; rfl
      · rw [dif_neg (by omega)]; simp

end Steps

end Cert.Proof.Ssd
-- ==== Proof.SsdBlock2.lean ====
/- The body's groups, gate, norm and next state at one element. -/
module

public import proofs.«01_k».proof.Proof.SsdBlock

@[expose] public section

set_option maxRecDepth 16384

noncomputable section

namespace Cert.Proof.Ssd

open Idealize.ShloMosaic Idealize.ShloMosaic.TcCoe Idealize.SL.Sem
open Cert.KernelIdeal Cert.KernelIdeal.Gen
open scoped BigOperators

variable (p : Inp) (c : ℕ)

section Group
variable (bc : FVec Ideal S128x2048 .f32)
  (hbc : ∀ (r : Fin 128) (l : Fin 2048), bc (ix2 r l) = ((p.act (128 * c + r.val) (2048 + l.val) : ℝ) : EReal))
include hbc

theorem CB_eq (g : Fin 8) (r x : Fin 128) : CB bc g (ix2 r x) = ((p.cbm c r.val x.val g.val : ℝ) : EReal) := by
  pointwise [CB, Cg, Bg]
  simp only [hbc, ← EReal.coe_mul, coe_sum]
  rfl

variable (cs csT : FVec Ideal S128x128 .f32) (xd : FVec Ideal S128x2048 .bf16)
  (hcs : ∀ r l : Fin 128, cs (ix2 r l) = ((p.acs c r.val l.val : ℝ) : EReal))
  (hcsT : ∀ l r : Fin 128, csT (ix2 l r) = ((p.acs c r.val l.val : ℝ) : EReal))
  (hxd : ∀ (r : Fin 128) (l : Fin 2048), xd (ix2 r l) = ((p.xdt (128 * c + r.val) l.val : ℝ) : EReal))
include hcs hcsT hxd

theorem headY_eq (g : Fin 8) (h : Fin 32) (r : Fin 128) (l : Fin 64) (j : ℕ) (hj : 64 * h.val + l.val = j) (hg : h.val / 4 = g.val) :
    headY (CB bc g) cs csT xd h (ix2 r l) = ((p.ydiag c r.val j : ℝ) : EReal) := by
  have hl := l.isLt
  have e1 : j / 64 = h.val := by omega
  have e2 : j / 256 = g.val := by omega
  pointwise [headY, k0_pay19]
  unfold Inp.ydiag
  rw [← coe_sum, e1, e2]
  refine Finset.sum_congr rfl fun x _ => ?_
  have hx := x.isLt
  have hr := r.isLt
  rw [CB_eq p c bc hbc, sel_sle _ _ (by omega) (by omega), hcs, hcsT, hxd, ofBits_ninf, exp_masked, ← EReal.coe_mul, ← EReal.coe_mul]
  subst hj
  rfl

variable (dec : FVec Ideal S128x2048 .f32) (st : Vec Ideal S8x128x256 .f32)
  (hdec : ∀ (r : Fin 128) (l : Fin 2048), dec (ix2 r l) = ((Real.exp (p.acs c r.val (l.val / 64)) : ℝ) : EReal))
  (hst : ∀ (g : Fin 8) (n : Fin 128) (l : Fin 256), st (ix3 g n l) = ((p.st c n.val (256 * g.val + l.val) : ℝ) : EReal))
include hdec hst

theorem groupY_eq (g : Fin 8) (r : Fin 128) (l : Fin 256) : groupY bc cs csT dec xd st g (ix2 r l)
    = ((p.ydiag c r.val (256 * g.val + l.val) + p.yoff c r.val (256 * g.val + l.val) : ℝ) : EReal) := by
  have hl := l.isLt
  have hg := g.isLt
  have hh := headY_eq p c bc hbc cs csT xd hcs hcsT hxd g
  rw [EReal.coe_add]
  pointwise [groupY, Cg, Bg, slot]
  congr 1
  · by_cases a0 : l.val < 64
    · rw [dif_pos a0]
      exact hh _ _ _ _ (by show 64 * (4 * g.val + 0) + (l.val) = _; omega) (by show (4 * g.val + 0) / 4 = _; omega)
    rw [dif_neg a0]
    by_cases a1 : l.val - 64 < 64
    · rw [dif_pos a1]
      exact hh _ _ _ _ (by show 64 * (4 * g.val + 1) + (l.val - 64) = _; omega) (by show (4 * g.val + 1) / 4 = _; omega)
    rw [dif_neg a1]
    by_cases a2 : l.val - 64 - 64 < 64
    · rw [dif_pos a2]
      exact hh _ _ _ _ (by show 64 * (4 * g.val + 2) + (l.val - 64 - 64) = _; omega) (by show (4 * g.val + 2) / 4 = _; omega)
    rw [dif_neg a2]
    exact hh _ _ _ _ (by show 64 * (4 * g.val + 3) + (l.val - 64 - 64 - 64) = _; omega) (by show (4 * g.val + 3) / 4 = _; omega)
  · have e2 : (256 * g.val + l.val) / 256 = g.val := by omega
    unfold Inp.yoff
    rw [hdec, EReal.coe_mul, ← coe_sum, e2]
    congr 1
    refine Finset.sum_congr rfl fun x _ => ?_
    rw [hbc, hst, ← EReal.coe_mul]
    rfl

end Group

theorem groupS_eq (bc : FVec Ideal S128x2048 .f32) (row : FVec Ideal S1x2048 .f32) (xe : FVec Ideal S128x2048 .bf16) (st : Vec Ideal S8x128x256 .f32)
    (hbc : ∀ (r : Fin 128) (l : Fin 2048), bc (ix2 r l) = ((p.act (128 * c + r.val) (2048 + l.val) : ℝ) : EReal))
    (hrow : ∀ l : Fin 2048, row (ix2 0 l) = ((Real.exp (p.acs c 127 (l.val / 64)) : ℝ) : EReal))
    (hxe : ∀ (r : Fin 128) (l : Fin 2048), xe (ix2 r l)
      = ((p.xdt (128 * c + r.val) l.val * Real.exp (p.acs c 127 (l.val / 64) - p.acs c r.val (l.val / 64)) : ℝ) : EReal))
    (hst : ∀ (g : Fin 8) (n : Fin 128) (l : Fin 256), st (ix3 g n l) = ((p.st c n.val (256 * g.val + l.val) : ℝ) : EReal))
    (g : Fin 8) (n : Fin 128) (l : Fin 256) :
    groupS bc row xe st g (ix3 0 n l) = ((p.st (c + 1) n.val (256 * g.val + l.val) : ℝ) : EReal) := by
  have hl := l.isLt
  have e2 : (256 * g.val + l.val) / 256 = g.val := by omega
  pointwise [groupS, Cg, Bg, slot]
  show _ = ((p.st c n.val (256 * g.val + l.val) * Real.exp (p.acs c 127 ((256 * g.val + l.val) / 64)) + p.new c n.val (256 * g.val + l.val) : ℝ) : EReal)
  rw [EReal.coe_add, EReal.coe_mul, hst, hrow]
  congr 1
  unfold Inp.new
  rw [← coe_sum, e2]
  refine Finset.sum_congr rfl fun x _ => ?_
  rw [hbc, hxe, ← EReal.coe_mul]
  rfl

/-- Eight groups side by side, read at a lane. -/
theorem join8_eq (f : Fin 8 → FVec Ideal S128x256 .f32) (V : ℕ → EReal) (r : Fin 128)
    (hf : ∀ (g : Fin 8) (l : Fin 256), f g (ix2 r l) = V (256 * g.val + l.val)) (j : Fin 2048) : join8 f (ix2 r j) = V j.val := by
  have hj := j.isLt
  pointwise [join8]
  by_cases a0 : j.val < 256
  · rw [dif_pos a0, hf 0]; congr 1; show 256 * 0 + (j.val) = _; omega
  rw [dif_neg a0]
  by_cases a1 : j.val - 256 < 256
  · rw [dif_pos a1, hf 1]; congr 1; show 256 * 1 + (j.val - 256) = _; omega
  rw [dif_neg a1]
  by_cases a2 : j.val - 256 - 256 < 256
  · rw [dif_pos a2, hf 2]; congr 1; show 256 * 2 + (j.val - 256 - 256) = _; omega
  rw [dif_neg a2]
  by_cases a3 : j.val - 256 - 256 - 256 < 256
  · rw [dif_pos a3, hf 3]; congr 1; show 256 * 3 + (j.val - 256 - 256 - 256) = _; omega
  rw [dif_neg a3]
  by_cases a4 : j.val - 256 - 256 - 256 - 256 < 256
  · rw [dif_pos a4, hf 4]; congr 1; show 256 * 4 + (j.val - 256 - 256 - 256 - 256) = _; omega
  rw [dif_neg a4]
  by_cases a5 : j.val - 256 - 256 - 256 - 256 - 256 < 256
  · rw [dif_pos a5, hf 5]; congr 1; show 256 * 5 + (j.val - 256 - 256 - 256 - 256 - 256) = _; omega
  rw [dif_neg a5]
  by_cases a6 : j.val - 256 - 256 - 256 - 256 - 256 - 256 < 256
  · rw [dif_pos a6, hf 6]; congr 1; show 256 * 6 + (j.val - 256 - 256 - 256 - 256 - 256 - 256) = _; omega
  rw [dif_neg a6]
  rw [hf 7]; congr 1; show 256 * 7 + (j.val - 256 - 256 - 256 - 256 - 256 - 256 - 256) = _; omega

/-! ## The body over its blocks -/

/-- The blocks of one point hold the model's inputs at chunk `c`. -/
structure Blk (i : grid0.Coords) (x0 x1 x2 : Vec Ideal S128x2048 .bf16) (x3 x4 : Vec Ideal S8x2048 .bf16)
    (x5 : Vec Ideal S128x128 .f32) (x6 : Vec Ideal S4x2048 .f32) (x7 : Vec Ideal S1x2048 .f32) (x8 : Vec Ideal S4x2048 .f32)
    (x9 : Vec Ideal S1x2048 .f32) (x10 x11 : Vec Ideal S1x128 .f32) (x12 x13 : Vec Ideal S1x2048 .f32) : Prop where
  hc : (i 0).val = c
  h0 : ∀ (r : Fin 128) (l : Fin 2048), x0 (ix2 r l) = ((p.zx (128 * c + r.val) l.val : ℝ) : EReal)
  h1 : ∀ (r : Fin 128) (l : Fin 2048), x1 (ix2 r l) = ((p.zx (128 * c + r.val) (2048 + (0 + l.val)) : ℝ) : EReal)
  h2 : ∀ (r : Fin 128) (l : Fin 2048), x2 (ix2 r l) = ((p.zx (128 * c + r.val) (2048 + (2048 + l.val)) : ℝ) : EReal)
  h3 : 1 ≤ c → ∀ (r : Fin 8) (l : Fin 2048), x3 (ix2 r l) = ((p.zx (128 * c - 8 + r.val) (2048 + (0 + l.val)) : ℝ) : EReal)
  h4 : 1 ≤ c → ∀ (r : Fin 8) (l : Fin 2048), x4 (ix2 r l) = ((p.zx (128 * c - 8 + r.val) (2048 + (2048 + l.val)) : ℝ) : EReal)
  h5 : ∀ r l : Fin 128, x5 (ix2 r l) = ((p.dtr (128 * c + r.val) l.val : ℝ) : EReal)
  h6 : ∀ (k : Fin 4) (l : Fin 2048), x6 (ix2 k l) = ((p.cw k.val (0 + l.val) : ℝ) : EReal)
  h7 : ∀ (l : Fin 2048), x7 (ix2 0 l) = ((p.cb (0 + l.val) : ℝ) : EReal)
  h8 : ∀ (k : Fin 4) (l : Fin 2048), x8 (ix2 k l) = ((p.cw k.val (2048 + l.val) : ℝ) : EReal)
  h9 : ∀ (l : Fin 2048), x9 (ix2 0 l) = ((p.cb (2048 + l.val) : ℝ) : EReal)
  h10 : ∀ l : Fin 128, x10 (ix2 0 l) = ((p.dtb l.val : ℝ) : EReal)
  h11 : ∀ l : Fin 128, x11 (ix2 0 l) = ((p.na l.val : ℝ) : EReal)
  h12 : ∀ l : Fin 2048, x12 (ix2 0 l) = ((p.ds (l.val / 64) : ℝ) : EReal)
  h13 : ∀ l : Fin 2048, x13 (ix2 0 l) = ((p.nw l.val : ℝ) : EReal)

section Body
variable {i : grid0.Coords} {x0 x1 x2 : Vec Ideal S128x2048 .bf16} {x3 x4 : Vec Ideal S8x2048 .bf16}
    {x5 : Vec Ideal S128x128 .f32} {x6 : Vec Ideal S4x2048 .f32} {x7 : Vec Ideal S1x2048 .f32} {x8 : Vec Ideal S4x2048 .f32}
    {x9 : Vec Ideal S1x2048 .f32} {x10 x11 : Vec Ideal S1x128 .f32} {x12 x13 : Vec Ideal S1x2048 .f32}
    (B : Blk p c i x0 x1 x2 x3 x4 x5 x6 x7 x8 x9 x10 x11 x12 x13) (st : Vec Ideal S8x128x256 .f32)
    (hst : ∀ (g : Fin 8) (n : Fin 128) (l : Fin 256), st (ix3 g n l) = ((p.st c n.val (256 * g.val + l.val) : ℝ) : EReal))
include B

theorem xs_eq (r : Fin 128) (l : Fin 2048) : xsOf i x1 x3 x6 x7 (ix2 r l) = ((p.act (128 * c + r.val) l.val : ℝ) : EReal) := by
  rw [xsOf_eq p c i B.hc 0 x1 x3 x6 x7 B.h1 B.h3 B.h6 B.h7, Nat.zero_add]

theorem bc_eq (r : Fin 128) (l : Fin 2048) : bcOf i x2 x4 x8 x9 (ix2 r l) = ((p.act (128 * c + r.val) (2048 + l.val) : ℝ) : EReal) :=
  xsOf_eq p c i B.hc 2048 x2 x4 x8 x9 B.h2 B.h4 B.h8 B.h9 r l

theorem steps_eq (r l : Fin 128) : k0_pay18 x5 x10 (ix2 r l) = ((p.dt (128 * c + r.val) l.val : ℝ) : EReal) :=
  dt_eq p c x5 x10 B.h5 B.h10 r l

theorem spread_eq (r : Fin 384) (l : Fin 2048) : k0_pay22 (k0_pay18 x5 x10) x11 (ix2 r l)
    = (((if r.val < 128 then p.dt (128 * c + r.val) (l.val / 64)
        else if r.val - 128 < 128 then Real.exp (p.acs c (r.val - 128) (l.val / 64))
        else Real.exp (p.acs c 127 (l.val / 64) - p.acs c (r.val - 128 - 128) (l.val / 64)) : ℝ)) : EReal) :=
  lanes_eq p c _ _ (steps_eq p c B) B.h11 r l

theorem xdt_eq (r : Fin 128) (l : Fin 2048) :
    k0_pay26 (xsOf i x1 x3 x6 x7) (k0_pay23 (k0_pay18 x5 x10) x11) (ix2 r l) = ((p.xdt (128 * c + r.val) l.val : ℝ) : EReal) := by
  have h := spread_eq p c B ⟨r.val, by omega⟩ l
  rw [if_pos r.isLt] at h
  pointwise [k0_pay26, k0_pay23]
  rw [xs_eq p c B, h, ← EReal.coe_mul]
  rfl

theorem xd_eq (r : Fin 128) (l : Fin 2048) :
    k0_pay27 (xsOf i x1 x3 x6 x7) (k0_pay23 (k0_pay18 x5 x10) x11) (ix2 r l) = ((p.xdt (128 * c + r.val) l.val : ℝ) : EReal) := by
  pointwise [k0_pay27]
  exact xdt_eq p c B r l

theorem dec_eq (r : Fin 128) (l : Fin 2048) :
    k0_pay24 (k0_pay22 (k0_pay18 x5 x10) x11) (ix2 r l) = ((Real.exp (p.acs c r.val (l.val / 64)) : ℝ) : EReal) := by
  have h := spread_eq p c B ⟨128 + r.val, by omega⟩ l
  have e : 128 + r.val - 128 = r.val := by omega
  simp only [e] at h
  rw [if_neg (by omega), if_pos r.isLt] at h
  pointwise [k0_pay24]
  exact h

theorem row_eq (l : Fin 2048) :
    k0_pay25 (k0_pay22 (k0_pay18 x5 x10) x11) (ix2 0 l) = ((Real.exp (p.acs c 127 (l.val / 64)) : ℝ) : EReal) := by
  have h := dec_eq p c B 127 l
  pointwise [k0_pay25]
  exact h

theorem xe_eq (r : Fin 128) (l : Fin 2048) :
    k0_pay28 (xsOf i x1 x3 x6 x7) (k0_pay22 (k0_pay18 x5 x10) x11) (k0_pay23 (k0_pay18 x5 x10) x11) (ix2 r l)
      = ((p.xdt (128 * c + r.val) l.val * Real.exp (p.acs c 127 (l.val / 64) - p.acs c r.val (l.val / 64)) : ℝ) : EReal) := by
  have h := spread_eq p c B ⟨256 + r.val, by omega⟩ l
  have e : 256 + r.val - 128 - 128 = r.val := by omega
  simp only [e] at h
  rw [if_neg (by omega), if_neg (by omega)] at h
  pointwise [k0_pay28]
  rw [xdt_eq p c B, h, EReal.coe_mul]

include hst

theorem gated_eq (r : Fin 128) (j : Fin 2048) :
    gated (xsOf i x1 x3 x6 x7) (bcOf i x2 x4 x8 x9) (k0_pay18 x5 x10) x0 x11 x12 st (ix2 r j) = ((p.u c r.val j.val : ℝ) : EReal) := by
  have hY := join8_eq (groupY (bcOf i x2 x4 x8 x9) (k0_pay20 (k0_pay18 x5 x10) x11) (k0_pay21 (k0_pay18 x5 x10) x11)
      (k0_pay24 (k0_pay22 (k0_pay18 x5 x10) x11)) (k0_pay27 (xsOf i x1 x3 x6 x7) (k0_pay23 (k0_pay18 x5 x10) x11)) st)
    (fun j => ((p.ydiag c r.val j + p.yoff c r.val j : ℝ) : EReal)) r
    (fun g l => groupY_eq p c _ (bc_eq p c B) _ _ _ (acs_eq p c _ _ (steps_eq p c B) B.h11) (acsT_eq p c _ _ (steps_eq p c B) B.h11)
      (xd_eq p c B) _ st (dec_eq p c B) hst g r l) j
  pointwise [gated]
  rw [hY, xs_eq p c B, B.h0, B.h12, silu_half, ← EReal.coe_mul, ← EReal.coe_add, ← EReal.coe_mul]
  rfl

theorem bodyOut_eq (r : Fin 128) (j : Fin 2048) :
    bodyOut i x0 x1 x2 x3 x4 x5 x6 x7 x8 x9 x10 x11 x12 x13 st (ix2 r j) = p.out c r.val j.val := by
  have hG := gated_eq p c B st hst
  have hJ := join8_eq (normG (gated (xsOf i x1 x3 x6 x7) (bcOf i x2 x4 x8 x9) (k0_pay18 x5 x10) x0 x11 x12 st))
    (fun j => ((p.u c r.val j : ℝ) : EReal) * Ideal.rsqrt (Ideal.div
      (((∑ q : Fin 256, p.u c r.val (256 * (j / 256) + q.val) * p.u c r.val (256 * (j / 256) + q.val) : ℝ)) : EReal)
      (Ideal.ofBits .f32 1132462080#32) + Ideal.ofBits .f32 925353388#32)) r
    (fun g l => by
      have hl := l.isLt
      have e2 : (256 * g.val + l.val) / 256 = g.val := by omega
      pointwise [normG]
      simp only [hG, ← EReal.coe_mul, coe_sum, e2]) j
  pointwise [bodyOut]
  rw [hJ, B.h13]
  rfl

theorem bodySlot_eq (g : Fin 8) (n : Fin 128) (l : Fin 256) :
    bodySlot i x1 x2 x3 x4 x5 x6 x7 x8 x9 x10 x11 st g (ix3 0 n l) = ((p.st (c + 1) n.val (256 * g.val + l.val) : ℝ) : EReal) :=
  groupS_eq p c _ _ _ st (bc_eq p c B) (row_eq p c B) (xe_eq p c B) hst g n l

end Body

end Cert.Proof.Ssd
-- ==== Proof.SsdKernel.lean ====
/- The kernel's result array: the fold over the chunks carries the model's state, and each block it writes is the model's. -/
module

public import proofs.«01_k».proof.Proof.SsdBlock2
public import Idealize.ShloMosaic.Lib.StableHlo.ReadAt

@[expose] public section

set_option maxRecDepth 16384

noncomputable section

namespace Cert.Proof.Ssd

open Idealize.ShloMosaic Idealize.ShloMosaic.TcCoe Idealize.SL.Sem
open Cert.KernelIdeal Cert.KernelIdeal.Gen Cert.KernelIdeal.Value
open scoped BigOperators

variable (m : (ℓ : Loc nD τ sig) → Buf (Elt Ideal) ℓ)

/-- Where each window's block lies at a point. -/
theorem rows_at : ∀ t : Fin cfg0.N, ((grid0.coords t) 0).val = t.val
    ∧ win0_0.index t (0 : Fin 2) = t.val ∧ win0_0.index t (1 : Fin 2) = 0
    ∧ win0_1.index t (0 : Fin 2) = t.val ∧ win0_1.index t (1 : Fin 2) = 1
    ∧ win0_2.index t (0 : Fin 2) = t.val ∧ win0_2.index t (1 : Fin 2) = 2
    ∧ win0_3.index t (0 : Fin 2) = 16 * t.val - 1 ∧ win0_3.index t (1 : Fin 2) = 1
    ∧ win0_4.index t (0 : Fin 2) = 16 * t.val - 1 ∧ win0_4.index t (1 : Fin 2) = 2
    ∧ win0_5.index t (0 : Fin 2) = t.val ∧ win0_5.index t (1 : Fin 2) = 0 :=
  (by decide +kernel : ∀ t : Fin grid0.N, _)

theorem still_at : ∀ t : Fin cfg0.N, win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

theorem points : cfg0.N = 128 := N_0

theorem word_zero : (FloatOps.sitofp FTy.f32 (0#32) : Ideal .f32) = (0 : EReal) := by
  show (((0#32 : BitVec 32).toInt : ℝ) : EReal) = 0
  simp

/-! ## Each window's block -/

theorem blk0 (cc : Dev nD) (t : Fin cfg0.N) (r : Fin 128) (l : Fin 2048) (R : Fin 16384) (L : Fin 6144)
    (hR : R.val = 128 * t.val + r.val) (hL : L.val = l.val) :
    (iblk m cc 0 t : Vec Ideal S128x2048 .bf16) (ix2 r l) = (m ((cc : Thread nD τ).loc main_arg0) : Vec Ideal S16384x6144 .bf16) (ix2 R L) := by
  obtain ⟨-, e0, e1, -⟩ := rows_at t
  unfold iblk
  rw [View.read_apply]
  show V m cc main_arg0 _ = _
  rw [V_main_arg0]
  congr 1
  funext a
  apply Fin.ext
  match a with
  | ⟨0, _⟩ => show win0_0.index t 0 * 128 + 1 * r.val = R.val; rw [e0]; omega
  | ⟨1, _⟩ => show win0_0.index t 1 * 2048 + 1 * l.val = L.val; rw [e1]; omega

theorem blk1 (cc : Dev nD) (t : Fin cfg0.N) (r : Fin 128) (l : Fin 2048) (R : Fin 16384) (L : Fin 6144)
    (hR : R.val = 128 * t.val + r.val) (hL : L.val = 2048 + (0 + l.val)) :
    (iblk m cc 1 t : Vec Ideal S128x2048 .bf16) (ix2 r l) = (m ((cc : Thread nD τ).loc main_arg0) : Vec Ideal S16384x6144 .bf16) (ix2 R L) := by
  obtain ⟨-, -, -, e0, e1, -⟩ := rows_at t
  unfold iblk
  rw [View.read_apply]
  show V m cc main_arg0 _ = _
  rw [V_main_arg0]
  congr 1
  funext a
  apply Fin.ext
  match a with
  | ⟨0, _⟩ => show win0_1.index t 0 * 128 + 1 * r.val = R.val; rw [e0]; omega
  | ⟨1, _⟩ => show win0_1.index t 1 * 2048 + 1 * l.val = L.val; rw [e1]; omega

theorem blk2 (cc : Dev nD) (t : Fin cfg0.N) (r : Fin 128) (l : Fin 2048) (R : Fin 16384) (L : Fin 6144)
    (hR : R.val = 128 * t.val + r.val) (hL : L.val = 2048 + (2048 + l.val)) :
    (iblk m cc 2 t : Vec Ideal S128x2048 .bf16) (ix2 r l) = (m ((cc : Thread nD τ).loc main_arg0) : Vec Ideal S16384x6144 .bf16) (ix2 R L) := by
  obtain ⟨-, -, -, -, -, e0, e1, -⟩ := rows_at t
  unfold iblk
  rw [View.read_apply]
  show V m cc main_arg0 _ = _
  rw [V_main_arg0]
  congr 1
  funext a
  apply Fin.ext
  match a with
  | ⟨0, _⟩ => show win0_2.index t 0 * 128 + 1 * r.val = R.val; rw [e0]; omega
  | ⟨1, _⟩ => show win0_2.index t 1 * 2048 + 1 * l.val = L.val; rw [e1]; omega

theorem blk3 (cc : Dev nD) (t : Fin cfg0.N) (ht : 1 ≤ t.val) (r : Fin 8) (l : Fin 2048) (R : Fin 16384) (L : Fin 6144)
    (hR : R.val = 128 * t.val - 8 + r.val) (hL : L.val = 2048 + (0 + l.val)) :
    (iblk m cc 3 t : Vec Ideal S8x2048 .bf16) (ix2 r l) = (m ((cc : Thread nD τ).loc main_arg0) : Vec Ideal S16384x6144 .bf16) (ix2 R L) := by
  obtain ⟨-, -, -, -, -, -, -, e0, e1, -⟩ := rows_at t
  unfold iblk
  rw [View.read_apply]
  show V m cc main_arg0 _ = _
  rw [V_main_arg0]
  congr 1
  funext a
  apply Fin.ext
  match a with
  | ⟨0, _⟩ => show win0_3.index t 0 * 8 + 1 * r.val = R.val; rw [e0]; omega
  | ⟨1, _⟩ => show win0_3.index t 1 * 2048 + 1 * l.val = L.val; rw [e1]; omega

theorem blk4 (cc : Dev nD) (t : Fin cfg0.N) (ht : 1 ≤ t.val) (r : Fin 8) (l : Fin 2048) (R : Fin 16384) (L : Fin 6144)
    (hR : R.val = 128 * t.val - 8 + r.val) (hL : L.val = 2048 + (2048 + l.val)) :
    (iblk m cc 4 t : Vec Ideal S8x2048 .bf16) (ix2 r l) = (m ((cc : Thread nD τ).loc main_arg0) : Vec Ideal S16384x6144 .bf16) (ix2 R L) := by
  obtain ⟨-, -, -, -, -, -, -, -, -, e0, e1, -⟩ := rows_at t
  unfold iblk
  rw [View.read_apply]
  show V m cc main_arg0 _ = _
  rw [V_main_arg0]
  congr 1
  funext a
  apply Fin.ext
  match a with
  | ⟨0, _⟩ => show win0_4.index t 0 * 8 + 1 * r.val = R.val; rw [e0]; omega
  | ⟨1, _⟩ => show win0_4.index t 1 * 2048 + 1 * l.val = L.val; rw [e1]; omega

theorem blk5 (cc : Dev nD) (t : Fin cfg0.N) (r : Fin 128) (l : Fin 128) (R : Fin 16384) (L : Fin 128)
    (hR : R.val = 128 * t.val + r.val) (hL : L.val = l.val) :
    (iblk m cc 5 t : Vec Ideal S128x128 .f32) (ix2 r l) = (m ((cc : Thread nD τ).loc main_arg1) : Vec Ideal S16384x128 .f32) (ix2 R L) := by
  obtain ⟨-, -, -, -, -, -, -, -, -, -, -, e0, e1⟩ := rows_at t
  unfold iblk
  rw [View.read_apply]
  show V m cc main_arg1 _ = _
  rw [V_main_arg1]
  congr 1
  funext a
  apply Fin.ext
  match a with
  | ⟨0, _⟩ => show win0_5.index t 0 * 128 + 1 * r.val = R.val; rw [e0]; omega
  | ⟨1, _⟩ => show win0_5.index t 1 * 128 + 1 * l.val = L.val; rw [e1]; omega

theorem blk6 (cc : Dev nD) (t : Fin cfg0.N) (k : Fin 4) (l : Fin 2048) :
    (iblk m cc 6 t : Vec Ideal S4x2048 .f32) (ix2 k l) = (V m cc main_v8 : Vec Ideal S4x2048 .f32) (ix2 k l) := by
  obtain ⟨e0, e1, -⟩ := still_at t
  unfold iblk
  rw [View.read_apply]
  show V m cc main_v8 _ = _
  congr 1
  funext a
  apply Fin.ext
  match a with
  | ⟨0, _⟩ => show win0_6.index t 0 * 4 + 1 * k.val = k.val; rw [e0]; omega
  | ⟨1, _⟩ => show win0_6.index t 1 * 2048 + 1 * l.val = l.val; rw [e1]; omega

theorem blk7 (cc : Dev nD) (t : Fin cfg0.N) (k : Fin 1) (l : Fin 2048) :
    (iblk m cc 7 t : Vec Ideal S1x2048 .f32) (ix2 k l) = (V m cc main_v9 : Vec Ideal S1x2048 .f32) (ix2 k l) := by
  obtain ⟨-, -, e0, e1, -⟩ := still_at t
  unfold iblk
  rw [View.read_apply]
  show V m cc main_v9 _ = _
  congr 1
  funext a
  apply Fin.ext
  match a with
  | ⟨0, _⟩ => show win0_7.index t 0 * 1 + 1 * k.val = k.val; rw [e0]; omega
  | ⟨1, _⟩ => show win0_7.index t 1 * 2048 + 1 * l.val = l.val; rw [e1]; omega

theorem blk8 (cc : Dev nD) (t : Fin cfg0.N) (k : Fin 4) (l : Fin 2048) :
    (iblk m cc 8 t : Vec Ideal S4x2048 .f32) (ix2 k l) = (V m cc main_v10 : Vec Ideal S4x2048 .f32) (ix2 k l) := by
  obtain ⟨-, -, -, -, e0, e1, -⟩ := still_at t
  unfold iblk
  rw [View.read_apply]
  show V m cc main_v10 _ = _
  congr 1
  funext a
  apply Fin.ext
  match a with
  | ⟨0, _⟩ => show win0_8.index t 0 * 4 + 1 * k.val = k.val; rw [e0]; omega
  | ⟨1, _⟩ => show win0_8.index t 1 * 2048 + 1 * l.val = l.val; rw [e1]; omega

theorem blk9 (cc : Dev nD) (t : Fin cfg0.N) (k : Fin 1) (l : Fin 2048) :
    (iblk m cc 9 t : Vec Ideal S1x2048 .f32) (ix2 k l) = (V m cc main_v11 : Vec Ideal S1x2048 .f32) (ix2 k l) := by
  obtain ⟨-, -, -, -, -, -, e0, e1, -⟩ := still_at t
  unfold iblk
  rw [View.read_apply]
  show V m cc main_v11 _ = _
  congr 1
  funext a
  apply Fin.ext
  match a with
  | ⟨0, _⟩ => show win0_9.index t 0 * 1 + 1 * k.val = k.val; rw [e0]; omega
  | ⟨1, _⟩ => show win0_9.index t 1 * 2048 + 1 * l.val = l.val; rw [e1]; omega

theorem blk10 (cc : Dev nD) (t : Fin cfg0.N) (k : Fin 1) (l : Fin 128) :
    (iblk m cc 10 t : Vec Ideal S1x128 .f32) (ix2 k l) = (V m cc main_v13 : Vec Ideal S1x128 .f32) (ix2 k l) := by
  obtain ⟨-, -, -, -, -, -, -, -, e0, e1, -⟩ := still_at t
  unfold iblk
  rw [View.read_apply]
  show V m cc main_v13 _ = _
  congr 1
  funext a
  apply Fin.ext
  match a with
  | ⟨0, _⟩ => show win0_10.index t 0 * 1 + 1 * k.val = k.val; rw [e0]; omega
  | ⟨1, _⟩ => show win0_10.index t 1 * 128 + 1 * l.val = l.val; rw [e1]; omega

theorem blk11 (cc : Dev nD) (t : Fin cfg0.N) (k : Fin 1) (l : Fin 128) :
    (iblk m cc 11 t : Vec Ideal S1x128 .f32) (ix2 k l) = (V m cc main_v7 : Vec Ideal S1x128 .f32) (ix2 k l) := by
  obtain ⟨-, -, -, -, -, -, -, -, -, -, e0, e1, -⟩ := still_at t
  unfold iblk
  rw [View.read_apply]
  show V m cc main_v7 _ = _
  congr 1
  funext a
  apply Fin.ext
  match a with
  | ⟨0, _⟩ => show win0_11.index t 0 * 1 + 1 * k.val = k.val; rw [e0]; omega
  | ⟨1, _⟩ => show win0_11.index t 1 * 128 + 1 * l.val = l.val; rw [e1]; omega

theorem blk12 (cc : Dev nD) (t : Fin cfg0.N) (k : Fin 1) (l : Fin 2048) :
    (iblk m cc 12 t : Vec Ideal S1x2048 .f32) (ix2 k l) = (V m cc main_v3 : Vec Ideal S1x2048 .f32) (ix2 k l) := by
  obtain ⟨-, -, -, -, -, -, -, -, -, -, -, -, e0, e1, -⟩ := still_at t
  unfold iblk
  rw [View.read_apply]
  show V m cc main_v3 _ = _
  congr 1
  funext a
  apply Fin.ext
  match a with
  | ⟨0, _⟩ => show win0_12.index t 0 * 1 + 1 * k.val = k.val; rw [e0]; omega
  | ⟨1, _⟩ => show win0_12.index t 1 * 2048 + 1 * l.val = l.val; rw [e1]; omega

theorem blk13 (cc : Dev nD) (t : Fin cfg0.N) (k : Fin 1) (l : Fin 2048) :
    (iblk m cc 13 t : Vec Ideal S1x2048 .f32) (ix2 k l) = (V m cc main_v14 : Vec Ideal S1x2048 .f32) (ix2 k l) := by
  obtain ⟨-, -, -, -, -, -, -, -, -, -, -, -, -, -, e0, e1⟩ := still_at t
  unfold iblk
  rw [View.read_apply]
  show V m cc main_v14 _ = _
  congr 1
  funext a
  apply Fin.ext
  match a with
  | ⟨0, _⟩ => show win0_13.index t 0 * 1 + 1 * k.val = k.val; rw [e0]; omega
  | ⟨1, _⟩ => show win0_13.index t 1 * 2048 + 1 * l.val = l.val; rw [e1]; omega

/-! ## The blocks hold the model's inputs -/

section Fold
variable (p : Inp) (cc : Dev nD)
  (A : Args p (m ((cc : Thread nD τ).loc main_arg0)) (m ((cc : Thread nD τ).loc main_arg1)) (m ((cc : Thread nD τ).loc main_arg2))
    (m ((cc : Thread nD τ).loc main_arg3)) (m ((cc : Thread nD τ).loc main_arg4)) (m ((cc : Thread nD τ).loc main_arg5))
    (m ((cc : Thread nD τ).loc main_arg6)) (m ((cc : Thread nD τ).loc main_arg7)))
include A

theorem blocks (t : Fin cfg0.N) : Blk p t.val (grid0.coords t) (iblk m cc 0 t) (iblk m cc 1 t) (iblk m cc 2 t) (iblk m cc 3 t) (iblk m cc 4 t)
    (iblk m cc 5 t) (iblk m cc 6 t) (iblk m cc 7 t) (iblk m cc 8 t) (iblk m cc 9 t) (iblk m cc 10 t) (iblk m cc 11 t) (iblk m cc 12 t)
    (iblk m cc 13 t) := by
  have ht : t.val < 128 := lt_of_lt_of_eq t.isLt points
  refine ⟨(rows_at t).1, ?_, ?_, ?_, ?_, ?_, ?_, ?_, ?_, ?_, ?_, ?_, ?_, ?_, ?_⟩
  · intro r l
    exact (blk0 m cc t r l ⟨128 * t.val + r.val, by omega⟩ ⟨l.val, by omega⟩ rfl rfl).trans (A.z0 _ _)
  · intro r l
    exact (blk1 m cc t r l ⟨128 * t.val + r.val, by omega⟩ ⟨2048 + (0 + l.val), by omega⟩ rfl rfl).trans (A.z0 _ _)
  · intro r l
    exact (blk2 m cc t r l ⟨128 * t.val + r.val, by omega⟩ ⟨2048 + (2048 + l.val), by omega⟩ rfl rfl).trans (A.z0 _ _)
  · intro h r l
    exact (blk3 m cc t h r l ⟨128 * t.val - 8 + r.val, by omega⟩ ⟨2048 + (0 + l.val), by omega⟩ rfl rfl).trans (A.z0 _ _)
  · intro h r l
    exact (blk4 m cc t h r l ⟨128 * t.val - 8 + r.val, by omega⟩ ⟨2048 + (2048 + l.val), by omega⟩ rfl rfl).trans (A.z0 _ _)
  · intro r l
    exact (blk5 m cc t r l ⟨128 * t.val + r.val, by omega⟩ ⟨l.val, by omega⟩ rfl rfl).trans (A.z1 _ _)
  · intro k l
    refine (blk6 m cc t k l).trans ?_
    refine Eq.trans ?_ (A.z2 k ⟨0 + l.val, by omega⟩)
    unfold V
    after_reads_at
  · intro l
    refine (blk7 m cc t 0 l).trans ?_
    refine Eq.trans ?_ (A.z3 ⟨0 + l.val, by omega⟩)
    unfold V
    after_reads_at
  · intro k l
    refine (blk8 m cc t k l).trans ?_
    refine Eq.trans ?_ (A.z2 k ⟨2048 + l.val, by omega⟩)
    unfold V
    after_reads_at
  · intro l
    refine (blk9 m cc t 0 l).trans ?_
    refine Eq.trans ?_ (A.z3 ⟨2048 + l.val, by omega⟩)
    unfold V
    after_reads_at
  · intro l
    refine (blk10 m cc t 0 l).trans ?_
    unfold V
    after_reads_at
    rw [word_zero]
    by_cases h : l.val < 32
    · rw [dif_pos h]; exact A.z4 ⟨l.val, h⟩
    · rw [dif_neg h, A.pad4 _ (by omega), EReal.coe_zero]
  · intro l
    refine (blk11 m cc t 0 l).trans ?_
    unfold V
    after_reads_at
    rw [word_zero]
    by_cases h : l.val < 32
    · rw [dif_pos h]; exact A.z5 ⟨l.val, h⟩
    · rw [dif_neg h, A.pad5 _ (by omega), EReal.coe_zero]
  · intro l
    refine (blk12 m cc t 0 l).trans ?_
    refine Eq.trans ?_ (A.z6 ⟨l.val / 64, by omega⟩)
    unfold V
    after_reads_at
  · intro l
    refine (blk13 m cc t 0 l).trans ?_
    refine Eq.trans ?_ (A.z7 l)
    unfold V
    after_reads_at

/-! ## The fold -/

/-- The zero state. -/
theorem zero_st (g : Fin 8) (n : Fin 128) (l : Fin 256) :
    (k0_pay2 (F := Ideal)) (ix3 g n l) = ((p.st 0 n.val (256 * g.val + l.val) : ℝ) : EReal) := by
  pointwise [k0_pay2]
  exact EReal.coe_zero.symm

/-- A state is the model's before chunk `c`. -/
def IsSt (c : ℕ) (s : Vec Ideal S8x128x256 .f32) : Prop :=
  ∀ (g : Fin 8) (n : Fin 128) (l : Fin 256), s (ix3 g n l) = ((p.st c n.val (256 * g.val + l.val) : ℝ) : EReal)

omit A in
theorem isSt_slots (c : ℕ) (f : Fin 8 → FVec Ideal S1x128x256 .f32)
    (h : ∀ (g : Fin 8) (n : Fin 128) (l : Fin 256), f g (ix3 0 n l) = ((p.st c n.val (256 * g.val + l.val) : ℝ) : EReal)) : IsSt p c (ofSlots f) :=
  fun g n l => h g n l

/-- One point: from the model's state it leaves the model's rows and the model's next state. -/
theorem point_step (t : Fin cfg0.N) (acc : Vec Ideal S128x2048 .bf16 × Vec Ideal S8x128x256 .f32) (h : t.val ≠ 0 → IsSt p t.val acc.2) :
    (∀ (r : Fin 128) (j : Fin 2048), (stAt0 m cc t.val t.isLt acc).1 (ix2 r j) = p.out t.val r.val j.val)
      ∧ IsSt p (t.val + 1) (stAt0 m cc t.val t.isLt acc).2 := by
  have ht : t.val < 128 := lt_of_lt_of_eq t.isLt points
  have B := blocks m p cc A t
  by_cases h0 : t.val = 0
  · rw [stAt0_A m cc t acc (by omega)]
    dsimp only
    rw [out_A, st_A]
    have hz : IsSt p t.val (k0_pay2 (F := Ideal)) := by rw [h0]; exact zero_st m p cc A
    exact ⟨fun r j => bodyOut_eq p t.val B _ hz r j, isSt_slots p _ _ (fun g n l => bodySlot_eq p t.val B _ hz g n l)⟩
  · rw [stAt0_B m cc t acc (by omega)]
    dsimp only
    rw [out_B, st_B]
    exact ⟨fun r j => bodyOut_eq p t.val B _ (h h0) r j, isSt_slots p _ _ (fun g n l => bodySlot_eq p t.val B _ (h h0) g n l)⟩

theorem outs (n : ℕ) (hn : n < cfg0.N) :
    (∀ (r : Fin 128) (j : Fin 2048), (outsAt0 m cc n hn).1 (ix2 r j) = p.out n r.val j.val) ∧ IsSt p (n + 1) (outsAt0 m cc n hn).2 := by
  induction n with
  | zero =>
    rw [outsAt0_zero]
    exact point_step m p cc A ⟨0, hn⟩ junk0 (fun h => absurd rfl h)
  | succ n ih =>
    rw [outsAt0_succ]
    exact point_step m p cc A ⟨n + 1, hn⟩ _ (fun _ => (ih (Nat.lt_of_succ_lt hn)).2)

/-- The result array is the model's, element by element. -/
theorem result_eq (R : Fin 16384) (j : Fin 2048) : (G14 m cc : Vec Ideal S16384x2048 .bf16) (ix2 R j) = p.out (R.val / 128) (R.val % 128) j.val := by
  have hj := j.isLt
  have hR := R.isLt
  have e : pt14Of (ix2 R j) = R.val / 128 := by
    show 1 * (R.val / 128 - 0) + 1 * (j.val / 2048 - 0) = _
    omega
  have hlt : pt14Of (ix2 R j) < cfg0.N := by rw [e, points]; omega
  have e2 : loc14Of (ix2 R j) = ix2 (⟨R.val % 128, Nat.mod_lt _ (by decide)⟩ : Fin 128) (j : Fin 2048) := by
    funext a
    apply Fin.ext
    match a with
    | ⟨0, _⟩ => rfl
    | ⟨1, _⟩ => show j.val % 2048 = j.val; omega
  unfold G14
  rw [dif_pos hlt, ← outsAt0_sweep m cc (pt14Of (ix2 R j)) hlt, e2, (outs m p cc A _ hlt).1, e]

end Fold

end Cert.Proof.Ssd
-- ==== Proof.SsdRef.lean ====
/- The reference at one element, over arguments that hold reals: up to the running sums and the product inside a chunk. -/
module

public import proofs.«01_k».proof.Proof.SsdModel
public import proofs.«01_k».proof.Proof.Gen.ReferenceIdeal.Read

@[expose] public section

set_option maxRecDepth 16384

noncomputable section

namespace Cert.Proof.SsdR

open Idealize.ShloMosaic Idealize.ShloMosaic.TcCoe Idealize.SL.Sem Cert.Proof.Ssd
open Cert.ReferenceIdeal Cert.ReferenceIdeal.Gen Cert.ReferenceIdeal.Read
open scoped BigOperators

/-! ## Running sums -/

theorem foldl_add {ι : Type} (f : ι → EReal) (l : List ι) (v : EReal) : l.foldl (fun r n => r + f n) v = v + (l.map f).sum := by
  induction l generalizing v with
  | nil => simp
  | cons n l ih => rw [List.foldl_cons, ih, List.map_cons, List.sum_cons, add_assoc]

theorem foldl_finRange (N : ℕ) (f : Fin N → EReal) : (List.finRange N).foldl (fun r n => r + f n) 0 = ∑ n, f n := by
  rw [foldl_add, zero_add, ← List.ofFn_eq_map, List.sum_ofFn]

/-- The window that ends at `l`, read in its own order, is the entries up to `l`. -/
theorem window_sum (l : ℕ) (hl : l < 128) (f : ℕ → EReal) :
    ∑ w : Fin 128, (if 127 ≤ l + w.val then f (l + w.val - 127) else 0) = ∑ s : Fin 128, if s.val ≤ l then f s.val else 0 := by
  refine Fintype.sum_equiv (Equiv.addRight (⟨(l + 1) % 128, Nat.mod_lt _ (by decide)⟩ : Fin 128)) _ _ fun w => ?_
  have hw := w.isLt
  have e : ((Equiv.addRight (⟨(l + 1) % 128, Nat.mod_lt _ (by decide)⟩ : Fin 128)) w).val = (w.val + (l + 1) % 128) % 128 := rfl
  rw [e]
  by_cases h : 127 ≤ l + w.val
  · rw [if_pos h, if_pos (by omega)]
    congr 1
    omega
  · rw [if_neg h, if_neg (by omega)]

def only4 : Fin 128 ≃ (⟨4, ![1, 1, 1, 128]⟩ : Shape).Idx where
  toFun k := ix4 (0 : Fin 1) (0 : Fin 1) (0 : Fin 1) k
  invFun i := i 3
  left_inv _ := rfl
  right_inv i := by
    funext a
    apply Fin.ext
    match a with
    | ⟨0, _⟩ => have h : (i 0).val < 1 := (i 0).isLt; show 0 = (i 0).val; omega
    | ⟨1, _⟩ => have h : (i 1).val < 1 := (i 1).isLt; show 0 = (i 1).val; omega
    | ⟨2, _⟩ => have h : (i 2).val < 1 := (i 2).isLt; show 0 = (i 2).val; omega
    | ⟨3, _⟩ => rfl

theorem sum_only4 (f : (⟨4, ![1, 1, 1, 128]⟩ : Shape).Idx → EReal) :
    ∑ n, f ((Shape.rowMajor ⟨4, ![1, 1, 1, 128]⟩).symm n) = ∑ k, f (only4 k) := by
  rw [Equiv.sum_comp (Shape.rowMajor ⟨4, ![1, 1, 1, 128]⟩).symm f, Equiv.sum_comp only4 f]

def only3 : Fin 128 ≃ (⟨3, ![128, 1, 1]⟩ : Shape).Idx where
  toFun k := ix3 k (0 : Fin 1) (0 : Fin 1)
  invFun i := i 0
  left_inv _ := rfl
  right_inv i := by
    funext a
    apply Fin.ext
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega

theorem sum_only3 (f : (⟨3, ![128, 1, 1]⟩ : Shape).Idx → EReal) :
    ∑ n, f ((Shape.rowMajor ⟨3, ![128, 1, 1]⟩).symm n) = ∑ k, f (only3 k) := by
  rw [Equiv.sum_comp (Shape.rowMajor ⟨3, ![128, 1, 1]⟩).symm f, Equiv.sum_comp only3 f]

/-- The running sum along the last axis. -/
theorem cumsum_last (x : FVec Ideal S128x8x4x128 .f32) (init : FVec Ideal S_ .f32) (h : S128x8x4x128.ReduceWindows ![1, 1, 1, 128] ![1, 1, 1, 1] ![0, 0, 0, 127] ![0, 0, 0, 0] S128x8x4x128)
    (hu : 0 < S_.numel) (h0 : init (Shape.Idx.first hu) = 0) (c l : Fin 128) (g : Fin 8) (r : Fin 4) :
    Host.reduceWindowAdd ![1, 1, 1, 128] ![1, 1, 1, 1] ![0, 0, 0, 127] ![0, 0, 0, 0] x init h hu (ix4 c g r l)
      = ∑ s : Fin 128, if s.val ≤ l.val then x (ix4 c g r s) else 0 := by
  have hl := l.isLt
  show Ideal.hostReduceWindowAdd _ _ _ _ h x (init (Shape.Idx.first hu)) _ = _
  rw [h0]
  unfold Ideal.hostReduceWindowAdd Host.reduceWindow
  refine (foldl_finRange _ _).trans ?_
  refine (sum_only4 fun w => @dite EReal (∀ a, (![0, 0, 0, 127] : Fin 4 → ℕ) a ≤ ((ix4 c g r l) a).val * (![1, 1, 1, 1] : Fin 4 → ℕ) a + (w a).val
      ∧ ((ix4 c g r l) a).val * (![1, 1, 1, 1] : Fin 4 → ℕ) a + (w a).val - (![0, 0, 0, 127] : Fin 4 → ℕ) a < S128x8x4x128.size a)
    (Nat.decidableForallFin _) (fun hin => x (fun a => ⟨((ix4 c g r l) a).val * (![1, 1, 1, 1] : Fin 4 → ℕ) a + (w a).val - (![0, 0, 0, 127] : Fin 4 → ℕ) a, (hin a).2⟩)) fun _ => 0).trans ?_
  refine Eq.trans ?_ ((window_sum l.val l.isLt fun s => x (ix4 c g r ⟨s % 128, Nat.mod_lt _ (by decide)⟩)).trans ?_)
  · refine Finset.sum_congr rfl fun w _ => ?_
    have hw := w.isLt
    by_cases hk : 127 ≤ l.val + w.val
    · rw [if_pos hk, dif_pos]
      · congr 1
        funext a
        apply Fin.ext
        match a with
        | ⟨0, _⟩ => show c.val * 1 + 0 - 0 = c.val; omega
        | ⟨1, _⟩ => show g.val * 1 + 0 - 0 = g.val; omega
        | ⟨2, _⟩ => show r.val * 1 + 0 - 0 = r.val; omega
        | ⟨3, _⟩ => show l.val * 1 + w.val - 127 = (l.val + w.val - 127) % 128; omega
      · intro a
        match a with
        | ⟨0, _⟩ => show 0 ≤ c.val * 1 + 0 ∧ c.val * 1 + 0 - 0 < 128; omega
        | ⟨1, _⟩ => show 0 ≤ g.val * 1 + 0 ∧ g.val * 1 + 0 - 0 < 8; omega
        | ⟨2, _⟩ => show 0 ≤ r.val * 1 + 0 ∧ r.val * 1 + 0 - 0 < 4; omega
        | ⟨3, _⟩ => show 127 ≤ l.val * 1 + w.val ∧ l.val * 1 + w.val - 127 < 128; omega
    · rw [if_neg hk, dif_neg]
      intro hin
      have h3 : 127 ≤ l.val * 1 + w.val ∧ l.val * 1 + w.val - 127 < 128 := hin 3
      omega
  · refine Finset.sum_congr rfl fun s _ => ?_
    congr 3
    exact Fin.ext (Nat.mod_eq_of_lt s.isLt)

/-- The running sum along the first axis. -/
theorem cumsum_first (x : FVec Ideal S128x8x4 .f32) (init : FVec Ideal S_ .f32) (h : S128x8x4.ReduceWindows ![128, 1, 1] ![1, 1, 1] ![127, 0, 0] ![0, 0, 0] S128x8x4)
    (hu : 0 < S_.numel) (h0 : init (Shape.Idx.first hu) = 0) (c : Fin 128) (g : Fin 8) (r : Fin 4) :
    Host.reduceWindowAdd ![128, 1, 1] ![1, 1, 1] ![127, 0, 0] ![0, 0, 0] x init h hu (ix3 c g r)
      = ∑ s : Fin 128, if s.val ≤ c.val then x (ix3 s g r) else 0 := by
  have hl := c.isLt
  show Ideal.hostReduceWindowAdd _ _ _ _ h x (init (Shape.Idx.first hu)) _ = _
  rw [h0]
  unfold Ideal.hostReduceWindowAdd Host.reduceWindow
  refine (foldl_finRange _ _).trans ?_
  refine (sum_only3 fun w => @dite EReal (∀ a, (![127, 0, 0] : Fin 3 → ℕ) a ≤ ((ix3 c g r) a).val * (![1, 1, 1] : Fin 3 → ℕ) a + (w a).val
      ∧ ((ix3 c g r) a).val * (![1, 1, 1] : Fin 3 → ℕ) a + (w a).val - (![127, 0, 0] : Fin 3 → ℕ) a < S128x8x4.size a)
    (Nat.decidableForallFin _) (fun hin => x (fun a => ⟨((ix3 c g r) a).val * (![1, 1, 1] : Fin 3 → ℕ) a + (w a).val - (![127, 0, 0] : Fin 3 → ℕ) a, (hin a).2⟩)) fun _ => 0).trans ?_
  refine Eq.trans ?_ ((window_sum c.val c.isLt fun s => x (ix3 ⟨s % 128, Nat.mod_lt _ (by decide)⟩ g r)).trans ?_)
  · refine Finset.sum_congr rfl fun w _ => ?_
    have hw := w.isLt
    by_cases hk : 127 ≤ c.val + w.val
    · rw [if_pos hk, dif_pos]
      · congr 1
        funext a
        apply Fin.ext
        match a with
        | ⟨0, _⟩ => show c.val * 1 + w.val - 127 = (c.val + w.val - 127) % 128; omega
        | ⟨1, _⟩ => show g.val * 1 + 0 - 0 = g.val; omega
        | ⟨2, _⟩ => show r.val * 1 + 0 - 0 = r.val; omega
      · intro a
        match a with
        | ⟨0, _⟩ => show 127 ≤ c.val * 1 + w.val ∧ c.val * 1 + w.val - 127 < 128; omega
        | ⟨1, _⟩ => show 0 ≤ g.val * 1 + 0 ∧ g.val * 1 + 0 - 0 < 8; omega
        | ⟨2, _⟩ => show 0 ≤ r.val * 1 + 0 ∧ r.val * 1 + 0 - 0 < 4; omega
    · rw [if_neg hk, dif_neg]
      intro hin
      have h3 : 127 ≤ c.val * 1 + w.val ∧ c.val * 1 + w.val - 127 < 128 := hin 0
      omega
  · refine Finset.sum_congr rfl fun s _ => ?_
    congr 3
    exact Fin.ext (Nat.mod_eq_of_lt s.isLt)

/-- A sum over the entries up to `l`, of reals. -/
theorem coe_upto (l : ℕ) (f : ℕ → ℝ) :
    (∑ s : Fin 128, if s.val ≤ l then ((f s.val : ℝ) : EReal) else 0) = ((∑ s : Fin 128, if s.val ≤ l then f s.val else 0 : ℝ) : EReal) := by
  rw [← coe_sum]
  refine Finset.sum_congr rfl fun s _ => ?_
  by_cases h : s.val ≤ l <;> simp [h]

/-! ## The two masks -/

theorem sge_word (a b : ℕ) (ha : a < 16384) (hb : b < 16384) :
    IntOp.cmpi CmpIPredicate.sge (BitVec.ofNat 32 a) (BitVec.ofNat 32 b) = BitVec.ofBool (decide (b ≤ a)) := by
  have := WordCmp.cmpi_sle_ofNat (w := 32) (a := b) (b := a) (by omega) (by omega)
  exact this

theorem tril_eq (l s : Fin 128) : val_main_v57 (F := Ideal) (ix2 l s) = BitVec.ofBool (decide (s.val ≤ l.val)) := by
  have hl := l.isLt
  have hs := s.isLt
  pointwise [val_main_v57, val_main_v56, val_main_c_1, val_main_call3_v0, val_main_call3_v1, val_main_call3_v2, val_main_call3_v3, val_main_call3_v4, val_main_call3_v5, val_main_call3_c, val_main_call3_c_0]
  have e : IntOp.addi (BitVec.ofNat 32 l.val) 0#32 = BitVec.ofNat 32 l.val := BitVec.add_zero _
  rw [e, sge_word _ _ (by omega) (by omega), select_ofBool]
  by_cases h : s.val ≤ l.val <;> simp [h]

theorem minus_one (z : ℕ) (hz : z < 16384) (h : 1 ≤ z) : IntOp.addi (BitVec.ofNat 32 z) 4294967295#32 = BitVec.ofNat 32 (z - 1) := by
  show BitVec.ofNat 32 z + 4294967295#32 = _
  apply BitVec.eq_of_toNat_eq
  rw [BitVec.toNat_add, BitVec.toNat_ofNat, BitVec.toNat_ofNat, BitVec.toNat_ofNat]
  omega

theorem first_row : ∀ c : Fin 128, IntOp.cmpi CmpIPredicate.sge (IntOp.addi (BitVec.ofNat 32 0) 4294967295#32) (BitVec.ofNat 32 c.val) = 0#1 := by
  decide

theorem strict_eq (z c : Fin 128) : val_main_v84 (F := Ideal) (ix2 z c) = BitVec.ofBool (decide (c.val < z.val)) := by
  have hz := z.isLt
  have hc := c.isLt
  pointwise [val_main_v84, val_main_v83, val_main_c_3, val_main_call6_v0, val_main_call6_v2, val_main_call6_v3, val_main_call6_v4, val_main_call6_v5, val_main_call6_c_0]
  rw [val_main_call6_v1_apply, val_main_call6_c_apply]
  by_cases h0 : z.val = 0
  · rw [h0, first_row c]
    have : ¬ c.val < 0 := Nat.not_lt_zero _
    simp [Scalar.select]
  · rw [minus_one _ (by omega) (by omega), sge_word _ _ (by omega) (by omega), select_ofBool]
    by_cases h : c.val < z.val
    · rw [if_pos (by omega)]; simp [h]
    · rw [if_neg (by omega)]; simp [h]

/-! ## The convolution and its activation -/

variable (p : Inp) (x0 : FVec Ideal S16384x6144 .bf16) (x1 : FVec Ideal S16384x128 .f32) (x2 : FVec Ideal S4x4096 .f32)
  (x3 : FVec Ideal S4096 .f32) (x4 x5 x6 : FVec Ideal S32 .f32) (x7 : FVec Ideal S2048 .f32)
  (A : Args p x0 x1 x2 x3 x4 x5 x6 x7)

include A in
theorem pad_eq (t : Fin 16384) (k : ℕ) (hk : k ≤ 3) (R : Fin 16387) (hR : R.val = t.val + k) (l : Fin 4096) :
    val_main_v4 (F := Ideal) x0 (ix2 R l) = ((p.sh (3 - k) t.val l.val : ℝ) : EReal) := by
  have ht := t.isLt
  pointwise [val_main_v4, val_main_v2, val_main_v0, val_main_call0_v0]
  unfold Inp.sh
  by_cases h : 3 ≤ R.val ∧ R.val - 3 < 16384
  · rw [dif_pos h, if_neg (by omega), A.z0]
    congr 3
    show R.val - 3 = _
    omega
  · rw [dif_neg h, if_pos (by omega)]
    show (((0#32 : BitVec 32).toInt : ℝ) : EReal) = _
    simp

include A in
theorem conv_eq (t : Fin 16384) (l : Fin 4096) : val_main_v26 (F := Ideal) x0 x2 x3 (ix2 t l) = ((p.conv t.val l.val : ℝ) : EReal) := by
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]
  rw [pad_eq p x0 x1 x2 x3 x4 x5 x6 x7 A t 0 (by decide) _ rfl, pad_eq p x0 x1 x2 x3 x4 x5 x6 x7 A t 1 (by decide) _ (Nat.add_comm _ _),
    pad_eq p x0 x1 x2 x3 x4 x5 x6 x7 A t 2 (by decide) _ (Nat.add_comm _ _), pad_eq p x0 x1 x2 x3 x4 x5 x6 x7 A t 3 (by decide) _ (Nat.add_comm _ _),
    A.z2, A.z2, A.z2, A.z2, A.z3]
  simp only [← EReal.coe_mul, ← EReal.coe_add]
  congr 1
  show p.sh 3 t.val l.val * p.cw 0 l.val + p.sh 2 t.val l.val * p.cw 1 l.val + p.sh 1 t.val l.val * p.cw 2 l.val + p.sh 0 t.val l.val * p.cw 3 l.val + p.cb l.val = _
  unfold Inp.conv
  ring

theorem one_coe : (1 : EReal) = ((1 : ℝ) : EReal) := by norm_cast

/-- The activation as the reference spells it. -/
theorem silu_div (x : ℝ) : (x : EReal) * Ideal.div 1 (1 + Ideal.exp (-(x : EReal))) = ((sil x : ℝ) : EReal) := by
  have h : (1 + Real.exp (-x) : ℝ) ≠ 0 := by positivity
  rw [← EReal.coe_neg, Ideal.exp_coe, one_coe, ← EReal.coe_add, Ideal.div_coe h, ← EReal.coe_mul, ← EReal.coe_mul]
  unfold sil
  congr 1
  rw [one_mul, one_div]

include A in
theorem act_eq (t : Fin 16384) (l : Fin 4096) : val_main_v33 (F := Ideal) x0 x2 x3 (ix2 t l) = ((p.act t.val l.val : ℝ) : EReal) := by
  pointwise [val_main_v33, val_main_v32, val_main_v31, val_main_v30, val_main_v29, val_main_v28, val_main_v27, val_main_cst, val_main_cst_0]
  rw [conv_eq p x0 x1 x2 x3 x4 x5 x6 x7 A, silu_div]
  rfl

/-! ## The step sizes -/

include A in
theorem dt_eq (t : Fin 16384) (h : Fin 32) : val_main_v41 (F := Ideal) x1 x4 (ix2 t h) = ((p.dt t.val h.val : ℝ) : EReal) := by
  pointwise [val_main_v41, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_cst, val_main_v40, val_main_v39, val_main_v38, val_main_v3]
  rw [if_neg (fun hh => hh rfl), A.z1, A.z4, ← EReal.coe_add, Ideal.absf_def, ← zero_sub, softplus_coe]
  rfl

include A in
theorem da_eq (t : Fin 16384) (h : Fin 32) : val_main_v46 (F := Ideal) x1 x4 x5 (ix2 t h) = ((p.dt t.val h.val * p.na h.val : ℝ) : EReal) := by
  pointwise [val_main_v46, val_main_v45, val_main_v44, val_main_v43, val_main_v42]
  rw [dt_eq p x0 x1 x2 x3 x4 x5 x6 x7 A, A.z5, ← EReal.coe_mul]

/-! ## The pieces of one chunk -/

include A in
theorem xdt_eq (c l : Fin 128) (g : Fin 8) (r : Fin 4) (q : Fin 64) :
    val_main_v50 (F := Ideal) x0 x1 x2 x3 x4 (ix5 c l g r q) = ((p.xdt (128 * c.val + l.val) (256 * g.val + (64 * r.val + q.val)) : ℝ) : EReal) := by
  have hq := q.isLt
  have hr := r.isLt
  pointwise [val_main_v50, val_main_v49, val_main_v48, val_main_v47, val_main_v35, val_main_v34]
  rw [act_eq p x0 x1 x2 x3 x4 x5 x6 x7 A, dt_eq p x0 x1 x2 x3 x4 x5 x6 x7 A, ← EReal.coe_mul]
  unfold Inp.xdt
  show ((p.act (c.val * 128 + l.val) ((g.val * 4 + r.val) * 64 + q.val) * p.dt (c.val * 128 + l.val) (g.val * 4 + r.val) : ℝ) : EReal) = _
  rw [show c.val * 128 + l.val = 128 * c.val + l.val by omega, show (g.val * 4 + r.val) * 64 + q.val = 256 * g.val + (64 * r.val + q.val) by omega,
    show (256 * g.val + (64 * r.val + q.val)) / 64 = g.val * 4 + r.val by omega]

include A in
theorem bv_eq (c s n : Fin 128) (g : Fin 8) : val_main_v53 (F := Ideal) x0 x2 x3 (ix4 c s g n) = ((p.bv (128 * c.val + s.val) g.val n.val : ℝ) : EReal) := by
  pointwise [val_main_v53, val_main_v36]
  rw [act_eq p x0 x1 x2 x3 x4 x5 x6 x7 A]
  unfold Inp.bv
  show ((p.act (c.val * 128 + s.val) (2048 + (g.val * 128 + n.val)) : ℝ) : EReal) = _
  rw [Nat.mul_comm c.val, Nat.mul_comm g.val]

include A in
theorem cv_eq (c l n : Fin 128) (g : Fin 8) : val_main_v54 (F := Ideal) x0 x2 x3 (ix4 c l g n) = ((p.cv (128 * c.val + l.val) g.val n.val : ℝ) : EReal) := by
  pointwise [val_main_v54, val_main_v37]
  rw [act_eq p x0 x1 x2 x3 x4 x5 x6 x7 A]
  unfold Inp.cv
  show ((p.act (c.val * 128 + l.val) (3072 + (g.val * 128 + n.val)) : ℝ) : EReal) = _
  congr 2 <;> omega

include A in
theorem acs_eq (c l : Fin 128) (g : Fin 8) (r : Fin 4) :
    val_main_v55 (F := Ideal) x1 x4 x5 (ix4 c g r l) = ((p.acs c.val l.val (4 * g.val + r.val) : ℝ) : EReal) := by
  unfold val_main_v55
  rw [cumsum_last _ _ _ _ (by rw [val_main_call2_call0_v0_apply, val_main_call2_call0_cst_apply]; exact Ideal.ofBits_zero_f32) c l g r]
  unfold Inp.acs
  rw [← coe_upto l.val fun s => p.dt (128 * c.val + s) (4 * g.val + r.val) * p.na (4 * g.val + r.val)]
  refine Finset.sum_congr rfl fun s _ => ?_
  congr 1
  pointwise [val_main_v52, val_main_v51]
  rw [da_eq p x0 x1 x2 x3 x4 x5 x6 x7 A]
  show ((p.dt (c.val * 128 + s.val) (g.val * 4 + r.val) * p.na (g.val * 4 + r.val) : ℝ) : EReal) = _
  rw [Nat.mul_comm c.val, Nat.mul_comm g.val]

include A in
theorem seg_eq (c l s : Fin 128) (g : Fin 8) (r : Fin 4) :
    val_main_v64 (F := Ideal) x1 x4 x5 (ix5 c g r l s)
      = ((if s.val ≤ l.val then Real.exp (p.acs c.val l.val (4 * g.val + r.val) - p.acs c.val s.val (4 * g.val + r.val)) else 0 : ℝ) : EReal) := by
  pointwise [val_main_v64, val_main_v63, val_main_call4_v0, val_main_call4_v1, val_main_call4_v2, val_main_v62, val_main_v61, val_main_v60, val_main_v59, val_main_v58, val_main_cst_2]
  rw [tril_eq, select_ofBool, acs_eq p x0 x1 x2 x3 x4 x5 x6 x7 A, acs_eq p x0 x1 x2 x3 x4 x5 x6 x7 A]
  refine Eq.trans ?_ (exp_masked (s.val ≤ l.val) _ _)
  rw [← ofBits_ninf]
  rfl

include A in
theorem cbm_eq (c l s : Fin 128) (g : Fin 8) :
    val_main_v65 (F := Ideal) x0 x2 x3 (ix4 c g l s) = ((p.cbm c.val l.val s.val g.val : ℝ) : EReal) := by
  pointwise [val_main_v65]
  unfold Inp.cbm
  rw [← coe_sum]
  refine Finset.sum_congr rfl fun n _ => ?_
  rw [cv_eq p x0 x1 x2 x3 x4 x5 x6 x7 A, bv_eq p x0 x1 x2 x3 x4 x5 x6 x7 A, ← EReal.coe_mul]

include A in
theorem ydiag_eq (c l : Fin 128) (g : Fin 8) (r : Fin 4) (q : Fin 64) :
    val_main_v70 (F := Ideal) x0 x1 x2 x3 x4 x5 (ix5 c l g r q) = ((p.ydiag c.val l.val (256 * g.val + (64 * r.val + q.val)) : ℝ) : EReal) := by
  have hq := q.isLt
  have hr := r.isLt
  pointwise [val_main_v70, val_main_v69, val_main_v68, val_main_v67, val_main_v66]
  unfold Inp.ydiag
  rw [← coe_sum]
  refine Finset.sum_congr rfl fun s _ => ?_
  rw [xdt_eq p x0 x1 x2 x3 x4 x5 x6 x7 A, cbm_eq p x0 x1 x2 x3 x4 x5 x6 x7 A, seg_eq p x0 x1 x2 x3 x4 x5 x6 x7 A,
    show (256 * g.val + (64 * r.val + q.val)) / 256 = g.val by omega, show (256 * g.val + (64 * r.val + q.val)) / 64 = 4 * g.val + r.val by omega,
    ← EReal.coe_mul, ← EReal.coe_mul, mul_comm]

end Cert.Proof.SsdR
-- ==== Proof.SsdRef2.lean ====
/- The reference at one element, over arguments that hold reals: the states at the chunks' starts and the result. -/
module

public import proofs.«01_k».proof.Proof.SsdRef

@[expose] public section

set_option maxRecDepth 16384

noncomputable section

namespace Cert.Proof.SsdR

open Idealize.ShloMosaic Idealize.ShloMosaic.TcCoe Idealize.SL.Sem Cert.Proof.Ssd
open Cert.ReferenceIdeal Cert.ReferenceIdeal.Gen Cert.ReferenceIdeal.Read
open scoped BigOperators

/-! ## The state as one sum over the chunks before -/

theorem upto_range (n : ℕ) (hn : n ≤ 128) (f : ℕ → ℝ) : (∑ s : Fin 128, if s.val < n then f s.val else 0) = ∑ i ∈ Finset.range n, f i := by
  rw [← Finset.sum_range (fun i => if i < n then f i else 0), ← Finset.sum_filter]
  refine Finset.sum_congr (Finset.ext fun i => ?_) fun _ _ => rfl
  rw [Finset.mem_filter, Finset.mem_range, Finset.mem_range]
  omega

/-- The carried state, every chunk's part decayed from its end to the start of chunk `z`. -/
theorem st_sum (p : Inp) (n j z : ℕ) :
    p.st z n j = ∑ c ∈ Finset.range z, p.new c n j * Real.exp ((∑ i ∈ Finset.range z, p.acs i 127 (j / 64)) - ∑ i ∈ Finset.range (c + 1), p.acs i 127 (j / 64)) := by
  induction z with
  | zero => rfl
  | succ z ih =>
    rw [Finset.sum_range_succ, sub_self, Real.exp_zero, mul_one]
    show p.st z n j * Real.exp (p.acs z 127 (j / 64)) + p.new z n j = _
    rw [ih, Finset.sum_mul]
    congr 1
    refine Finset.sum_congr rfl fun c _ => ?_
    rw [mul_assoc, ← Real.exp_add, Finset.sum_range_succ _ z]
    congr 2
    ring

variable (p : Inp) (x0 : FVec Ideal S16384x6144 .bf16) (x1 : FVec Ideal S16384x128 .f32) (x2 : FVec Ideal S4x4096 .f32)
  (x3 : FVec Ideal S4096 .f32) (x4 x5 x6 : FVec Ideal S32 .f32) (x7 : FVec Ideal S2048 .f32)
  (A : Args p x0 x1 x2 x3 x4 x5 x6 x7)

include A in
theorem toEnd_eq (c s : Fin 128) (g : Fin 8) (r : Fin 4) :
    val_main_v75 (F := Ideal) x1 x4 x5 (ix4 c s g r)
      = ((Real.exp (p.acs c.val 127 (4 * g.val + r.val) - p.acs c.val s.val (4 * g.val + r.val)) : ℝ) : EReal) := by
  pointwise [val_main_v75, val_main_v74, val_main_v73, val_main_v72, val_main_v71]
  rw [acs_eq p x0 x1 x2 x3 x4 x5 x6 x7 A, acs_eq p x0 x1 x2 x3 x4 x5 x6 x7 A, ← EReal.coe_sub, Ideal.exp_coe]
  rfl

include A in
theorem new_eq (c n : Fin 128) (g : Fin 8) (r : Fin 4) (q : Fin 64) :
    val_main_v79 (F := Ideal) x0 x1 x2 x3 x4 x5 (ix5 c g r q n) = ((p.new c.val n.val (256 * g.val + (64 * r.val + q.val)) : ℝ) : EReal) := by
  have hq := q.isLt
  have hr := r.isLt
  pointwise [val_main_v79, val_main_v78, val_main_v77, val_main_v76]
  unfold Inp.new
  rw [← coe_sum]
  refine Finset.sum_congr rfl fun s _ => ?_
  rw [xdt_eq p x0 x1 x2 x3 x4 x5 x6 x7 A, bv_eq p x0 x1 x2 x3 x4 x5 x6 x7 A, toEnd_eq p x0 x1 x2 x3 x4 x5 x6 x7 A,
    show (256 * g.val + (64 * r.val + q.val)) / 256 = g.val by omega, show (256 * g.val + (64 * r.val + q.val)) / 64 = 4 * g.val + r.val by omega,
    ← EReal.coe_mul, ← EReal.coe_mul, mul_comm]

include A in
theorem tot_eq (c : Fin 128) (g : Fin 8) (r : Fin 4) :
    val_main_v81 (F := Ideal) x1 x4 x5 (ix3 c g r) = ((p.acs c.val 127 (4 * g.val + r.val) : ℝ) : EReal) := by
  pointwise [val_main_v81, val_main_v80]
  rw [acs_eq p x0 x1 x2 x3 x4 x5 x6 x7 A]
  rfl

include A in
theorem run_eq (c : Fin 128) (g : Fin 8) (r : Fin 4) :
    val_main_v82 (F := Ideal) x1 x4 x5 (ix3 c g r) = ((∑ i ∈ Finset.range (c.val + 1), p.acs i 127 (4 * g.val + r.val) : ℝ) : EReal) := by
  have hc := c.isLt
  unfold val_main_v82
  rw [cumsum_first _ _ _ _ (by rw [val_main_call5_call0_v0_apply, val_main_call5_call0_cst_apply]; exact Ideal.ofBits_zero_f32) c g r,
    ← upto_range (c.val + 1) (by omega)]
  simp only [Nat.lt_succ_iff, ← Nat.succ_eq_add_one]
  rw [← coe_upto c.val fun i => p.acs i 127 (4 * g.val + r.val)]
  refine Finset.sum_congr rfl fun s _ => ?_
  rw [tot_eq p x0 x1 x2 x3 x4 x5 x6 x7 A]

theorem strict4 (z c : Fin 128) (g : Fin 8) (r : Fin 4) : val_main_call7_v1 (F := Ideal) (ix4 z c g r) = val_main_v84 (ix2 z c) := by
  rw [val_main_call7_v1_apply, val_main_v85_apply]
  exact congrArg _ (funext fun a => match a with
    | ⟨0, _⟩ => rfl
    | ⟨1, _⟩ => rfl)

theorem before4 (z c : Fin 128) (g : Fin 8) (r : Fin 4) :
    val_main_v89 (F := Ideal) x1 x4 x5 (ix4 z c g r) = val_main_v82 x1 x4 x5 (ix3 z g r) - val_main_v81 x1 x4 x5 (ix3 z g r) := by
  rw [val_main_v89_apply, val_main_v87_apply, val_main_v86_apply,
    show idx_main_v87 (idx_main_v89 (ix4 z c g r)) = ix3 z g r from funext fun a => match a with
      | ⟨0, _⟩ => rfl
      | ⟨1, _⟩ => rfl
      | ⟨2, _⟩ => rfl]
  rfl

theorem after4 (z c : Fin 128) (g : Fin 8) (r : Fin 4) :
    val_main_v90 (F := Ideal) x1 x4 x5 (ix4 z c g r) = val_main_v82 x1 x4 x5 (ix3 c g r) := by
  rw [val_main_v90_apply, val_main_v88_apply,
    show idx_main_v88 (idx_main_v90 (ix4 z c g r)) = ix3 c g r from funext fun a => match a with
      | ⟨0, _⟩ => rfl
      | ⟨1, _⟩ => rfl
      | ⟨2, _⟩ => rfl]

theorem exp4 (z c : Fin 128) (g : Fin 8) (r : Fin 4) :
    val_main_v93 (F := Ideal) x1 x4 x5 (ix4 z c g r) = Ideal.exp (val_main_v92 (F := Ideal) x1 x4 x5 (ix4 z c g r)) := by
  rw [val_main_v93_apply]
  generalize val_main_v92 (F := Ideal) x1 x4 x5 (ix4 z c g r) = y
  rfl

include A in
theorem decay_eq (z c : Fin 128) (g : Fin 8) (r : Fin 4) :
    val_main_v93 (F := Ideal) x1 x4 x5 (ix4 z c g r)
      = ((if c.val < z.val then Real.exp ((∑ i ∈ Finset.range z.val, p.acs i 127 (4 * g.val + r.val)) - ∑ i ∈ Finset.range (c.val + 1), p.acs i 127 (4 * g.val + r.val))
          else 0 : ℝ) : EReal) := by
  rw [exp4, val_main_v92_apply, val_main_v91_apply, val_main_call7_v2_apply, val_main_call7_v0_apply, val_main_cst_4_apply, strict4, before4, after4,
    Ideal.subf_def, strict_eq, select_ofBool, run_eq p x0 x1 x2 x3 x4 x5 x6 x7 A, run_eq p x0 x1 x2 x3 x4 x5 x6 x7 A, tot_eq p x0 x1 x2 x3 x4 x5 x6 x7 A,
    ← EReal.coe_sub, Finset.sum_range_succ _ z.val, add_sub_cancel_right]
  refine Eq.trans ?_ (exp_masked (c.val < z.val) _ _)
  rw [← ofBits_ninf]
  rfl

include A in
theorem prev_eq (z n : Fin 128) (g : Fin 8) (r : Fin 4) (q : Fin 64) :
    val_main_v95 (F := Ideal) x0 x1 x2 x3 x4 x5 (ix5 z g r q n) = ((p.st z.val n.val (256 * g.val + (64 * r.val + q.val)) : ℝ) : EReal) := by
  have hq := q.isLt
  have hr := r.isLt
  have hz := z.isLt
  pointwise [val_main_v95, val_main_v94]
  rw [st_sum, ← upto_range z.val (by omega), ← coe_sum]
  refine Finset.sum_congr rfl fun c _ => ?_
  rw [new_eq p x0 x1 x2 x3 x4 x5 x6 x7 A, decay_eq p x0 x1 x2 x3 x4 x5 x6 x7 A,
    show (256 * g.val + (64 * r.val + q.val)) / 64 = 4 * g.val + r.val by omega, ← EReal.coe_mul, mul_ite, mul_zero]

include A in
theorem yoff_eq (c l : Fin 128) (g : Fin 8) (r : Fin 4) (q : Fin 64) :
    val_main_v102 (F := Ideal) x0 x1 x2 x3 x4 x5 (ix5 c l g r q) = ((p.yoff c.val l.val (256 * g.val + (64 * r.val + q.val)) : ℝ) : EReal) := by
  have hq := q.isLt
  have hr := r.isLt
  pointwise [val_main_v102, val_main_v101, val_main_v100, val_main_v99, val_main_v98, val_main_v97, val_main_v96]
  unfold Inp.yoff
  rw [acs_eq p x0 x1 x2 x3 x4 x5 x6 x7 A, Ideal.exp_coe, EReal.coe_mul, ← coe_sum,
    show (256 * g.val + (64 * r.val + q.val)) / 256 = g.val by omega, show (256 * g.val + (64 * r.val + q.val)) / 64 = 4 * g.val + r.val by omega]
  congr 1
  refine Finset.sum_congr rfl fun n _ => ?_
  rw [prev_eq p x0 x1 x2 x3 x4 x5 x6 x7 A, cv_eq p x0 x1 x2 x3 x4 x5 x6 x7 A, ← EReal.coe_mul, mul_comm]

include A in
theorem gated_eq (t : Fin 16384) (j : Fin 2048) :
    val_main_v118 (F := Ideal) x0 x1 x2 x3 x4 x5 x6 (ix2 t j) = ((p.u (t.val / 128) (t.val % 128) j.val : ℝ) : EReal) := by
  have ht := t.isLt
  have hj := j.isLt
  pointwise [val_main_v118, val_main_v117, val_main_v116, val_main_v115, val_main_v114, val_main_v113, val_main_v112, val_main_v111, val_main_cst_5, val_main_cst_6, val_main_v110, val_main_v109, val_main_v108, val_main_v107, val_main_v106, val_main_v105, val_main_v104, val_main_v103, val_main_v35, val_main_v34, val_main_v1, val_main_v0]
  rw [ydiag_eq p x0 x1 x2 x3 x4 x5 x6 x7 A, yoff_eq p x0 x1 x2 x3 x4 x5 x6 x7 A, act_eq p x0 x1 x2 x3 x4 x5 x6 x7 A, A.z0, A.z6, silu_div,
    ← EReal.coe_add, ← EReal.coe_mul, ← EReal.coe_add, ← EReal.coe_mul]
  unfold Inp.u
  show (((p.ydiag (t.val / 128) (t.val % 128) (256 * (j.val / 64 / 4) + (64 * (j.val / 64 % 4) + j.val % 64))
    + p.yoff (t.val / 128) (t.val % 128) (256 * (j.val / 64 / 4) + (64 * (j.val / 64 % 4) + j.val % 64))
    + p.act t.val j.val * p.ds (j.val / 64)) * sil (p.zx t.val j.val) : ℝ) : EReal) = _
  rw [show 256 * (j.val / 64 / 4) + (64 * (j.val / 64 % 4) + j.val % 64) = j.val by omega, show 128 * (t.val / 128) + t.val % 128 = t.val by omega]

include A in
/-- The reference's result at one element is the model's. -/
theorem result_eq (t : Fin 16384) (j : Fin 2048) :
    val_main_v134 (F := Ideal) x0 x1 x2 x3 x4 x5 x6 x7 (ix2 t j) = p.out (t.val / 128) (t.val % 128) j.val := by
  have hj := j.isLt
  pointwise [val_main_v134, val_main_v133, val_main_v132, val_main_v131, val_main_v130, val_main_v129, val_main_v128, val_main_v127, val_main_v126, val_main_v125, val_main_v124, val_main_v123, val_main_v122, val_main_v121, val_main_v120, val_main_v119, val_main_cst_7, val_main_cst_8, val_main_cst_9]
  unfold Inp.out
  rw [gated_eq p x0 x1 x2 x3 x4 x5 x6 x7 A, A.z7, ← coe_sum]
  congr 5
  refine Finset.sum_congr rfl fun q _ => ?_
  rw [gated_eq p x0 x1 x2 x3 x4 x5 x6 x7 A, ← EReal.coe_mul]
  show ((p.u (t.val / 128) (t.val % 128) (j.val / 256 * 256 + q.val) * p.u (t.val / 128) (t.val % 128) (j.val / 256 * 256 + q.val) : ℝ) : EReal) = _
  rw [Nat.mul_comm (j.val / 256)]

end Cert.Proof.SsdR
-- ==== Proof.Ssd.lean ====
/- The recurrence's kernel and its reference have one result, for finite arguments. -/
module

public import proofs.«01_k».proof.Defs
public import proofs.«01_k».proof.Proof.SsdKernel
public import proofs.«01_k».proof.Proof.SsdRef2
public import proofs.«01_k».proof.Proof.Gen.Pre_finite_args
public import Idealize.ShloMosaic.Lib.ReduceAll

@[expose] public section

set_option maxRecDepth 16384

noncomputable section

namespace Cert.Proof.Ssd

open Idealize.ShloMosaic Idealize.ShloMosaic.TcCoe Idealize.SL.Sem

/-! ## The precondition -/

theorem andi_both : ∀ a b : BitVec 1, IntOp.andi a b = 1#1 → a = 1#1 ∧ b = 1#1 := by decide

theorem top_bf16 : Ideal.ofBits .bf16 0x7F80#16 = (⊤ : EReal) := by simp [Ideal.ofBits, Ideal.ieee]
theorem top_f32 : Ideal.ofBits .f32 0x7F800000#32 = (⊤ : EReal) := by simp [Ideal.ofBits, Ideal.ieee]

theorem real_of_abs (x : EReal) (h : max x (-x) < ⊤) : x = ((x.toReal : ℝ) : EReal) := by
  refine (EReal.coe_toReal ?_ ?_).symm
  · rintro rfl; simp at h
  · rintro rfl; simp at h

theorem finite_of {s t u : Shape} {φ : FTy} {axes : List (Fin s.rank)} [Subsingleton t.Idx] (x b : FVec Ideal s φ) (hb : ∀ i, b i = (⊤ : EReal))
    (init : u.Idx → BitVec 1) (h : s.ReducesTo axes t) (hu : 0 < u.numel) (j : t.Idx)
    (e : Host.reduce IntOp.andi (cmpf .olt (Host.absf x) b) init h hu j = 1#1) (i : s.Idx) : x i = (((x i : EReal).toReal : ℝ) : EReal) := by
  have e1 := Host.reduce_andi_all _ init h hu j e i
  refine real_of_abs _ ?_
  have e2 : BitVec.ofBool (decide (max (x i : EReal) (-(x i : EReal)) < b i)) = 1#1 := e1
  rw [hb i] at e2
  by_contra hn
  rw [decide_eq_false hn] at e2
  exact absurd e2 (by decide)

instance : Cert.Pre_finite_args.Facts := Cert.Pre_finite_args.Gen.facts

theorem fn_finite (a0 : FVec Ideal ⟨2, ![16384, 6144]⟩ .bf16) (a1 : FVec Ideal ⟨2, ![16384, 128]⟩ .f32) (a2 : FVec Ideal ⟨2, ![4, 4096]⟩ .f32)
    (a3 : FVec Ideal ⟨1, ![4096]⟩ .f32) (a4 a5 a6 : FVec Ideal ⟨1, ![32]⟩ .f32) (a7 : FVec Ideal ⟨1, ![2048]⟩ .f32)
    (h : Cert.Pre_finite_args.fn (F := Ideal) a0 a1 a2 a3 a4 a5 a6 a7 = fun _ => 1#1) :
    (∀ i, a0 i = (((a0 i : EReal).toReal : ℝ) : EReal)) ∧ (∀ i, a1 i = (((a1 i : EReal).toReal : ℝ) : EReal))
    ∧ (∀ i, a2 i = (((a2 i : EReal).toReal : ℝ) : EReal)) ∧ (∀ i, a3 i = (((a3 i : EReal).toReal : ℝ) : EReal))
    ∧ (∀ i, a4 i = (((a4 i : EReal).toReal : ℝ) : EReal)) ∧ (∀ i, a5 i = (((a5 i : EReal).toReal : ℝ) : EReal))
    ∧ (∀ i, a6 i = (((a6 i : EReal).toReal : ℝ) : EReal)) ∧ (∀ i, a7 i = (((a7 i : EReal).toReal : ℝ) : EReal)) := by
  have : Subsingleton Cert.Pre_finite_args.S_.Idx := ⟨fun _ _ => funext fun a => a.elim0⟩
  have e := congrFun h (fun a => a.elim0)
  obtain ⟨e, h7⟩ := andi_both _ _ e
  obtain ⟨e, h6⟩ := andi_both _ _ e
  obtain ⟨e, h5⟩ := andi_both _ _ e
  obtain ⟨e, h4⟩ := andi_both _ _ e
  obtain ⟨e, h3⟩ := andi_both _ _ e
  obtain ⟨e, h2⟩ := andi_both _ _ e
  obtain ⟨h0, h1⟩ := andi_both _ _ e
  exact ⟨finite_of _ _ (fun _ => top_bf16) _ _ _ _ h0, finite_of _ _ (fun _ => top_f32) _ _ _ _ h1, finite_of _ _ (fun _ => top_f32) _ _ _ _ h2,
    finite_of _ _ (fun _ => top_f32) _ _ _ _ h3, finite_of _ _ (fun _ => top_f32) _ _ _ _ h4, finite_of _ _ (fun _ => top_f32) _ _ _ _ h5,
    finite_of _ _ (fun _ => top_f32) _ _ _ _ h6, finite_of _ _ (fun _ => top_f32) _ _ _ _ h7⟩

/-! ## The reals the arguments hold -/

/-- A matrix as a function of two naturals, zero outside. -/
def mat {n k : ℕ} (a : (⟨2, ![n, k]⟩ : Shape).Idx → EReal) (r l : ℕ) : ℝ := if h : r < n ∧ l < k then (a (ix2 ⟨r, h.1⟩ ⟨l, h.2⟩)).toReal else 0

/-- A vector as a function of a natural, zero outside. -/
def vec {n : ℕ} (a : (⟨1, ![n]⟩ : Shape).Idx → EReal) (r : ℕ) : ℝ := if h : r < n then (a (ix1 ⟨r, h⟩)).toReal else 0

theorem mat_eq {n k : ℕ} (a : (⟨2, ![n, k]⟩ : Shape).Idx → EReal) (ha : ∀ i, a i = ((a i).toReal : EReal)) (r : Fin n) (l : Fin k) :
    a (ix2 r l) = ((mat a r.val l.val : ℝ) : EReal) := by
  unfold mat
  rw [dif_pos ⟨r.isLt, l.isLt⟩]
  exact ha _

theorem vec_eq {n : ℕ} (a : (⟨1, ![n]⟩ : Shape).Idx → EReal) (ha : ∀ i, a i = ((a i).toReal : EReal)) (r : Fin n) :
    a (ix1 r) = ((vec a r.val : ℝ) : EReal) := by
  unfold vec
  rw [dif_pos r.isLt]
  exact ha _

def inpOf (a0 : (⟨2, ![16384, 6144]⟩ : Shape).Idx → EReal) (a1 : (⟨2, ![16384, 128]⟩ : Shape).Idx → EReal)
    (a2 : (⟨2, ![4, 4096]⟩ : Shape).Idx → EReal) (a3 : (⟨1, ![4096]⟩ : Shape).Idx → EReal) (a4 a5 a6 : (⟨1, ![32]⟩ : Shape).Idx → EReal)
    (a7 : (⟨1, ![2048]⟩ : Shape).Idx → EReal) : Inp where
  zx := mat a0
  dtr := mat a1
  cw := mat a2
  cb := vec a3
  dtb := vec a4
  na h := if h < 32 then -Real.exp (vec a5 h) else 0
  ds := vec a6
  nw := vec a7

theorem args_of (a0 : FVec Ideal ⟨2, ![16384, 6144]⟩ .bf16) (a1 : FVec Ideal ⟨2, ![16384, 128]⟩ .f32) (a2 : FVec Ideal ⟨2, ![4, 4096]⟩ .f32)
    (a3 : FVec Ideal ⟨1, ![4096]⟩ .f32) (a4 a5 a6 : FVec Ideal ⟨1, ![32]⟩ .f32) (a7 : FVec Ideal ⟨1, ![2048]⟩ .f32)
    (h : Cert.Pre_finite_args.fn (F := Ideal) a0 a1 a2 a3 a4 a5 a6 a7 = fun _ => 1#1) : Args (inpOf a0 a1 a2 a3 a4 a5 a6 a7) a0 a1 a2 a3 a4 a5 a6 a7 := by
  obtain ⟨h0, h1, h2, h3, h4, h5, h6, h7⟩ := fn_finite a0 a1 a2 a3 a4 a5 a6 a7 h
  exact {
    z0 := mat_eq a0 h0
    z1 := mat_eq a1 h1
    z2 := mat_eq a2 h2
    z3 := vec_eq a3 h3
    z4 := vec_eq a4 h4
    z5 := fun x => by
      rw [vec_eq a5 h5, Ideal.exp_coe, ← EReal.coe_neg]
      show _ = (((if x.val < 32 then -Real.exp (vec a5 x.val) else 0) : ℝ) : EReal)
      rw [if_pos x.isLt]
    z6 := vec_eq a6 h6
    z7 := vec_eq a7 h7
    pad4 := fun n hn => dif_neg (by omega)
    pad5 := fun n hn => if_neg (by omega) }

/-! ## The two results -/

theorem algebraic : Cert.algebraic_KernelIdeal_ReferenceIdeal_pre_finite_args (hKernelIdeal := Cert.KernelIdeal.Gen.facts)
    (hReferenceIdeal := Cert.ReferenceIdeal.Gen.facts) (hPre_finite_args := Cert.Pre_finite_args.Gen.facts) := by
  intro m g m' g' hpre hargs
  refine ⟨fun c => Cert.KernelIdeal.Value.G14 m c, ?_, ?_⟩
  · exact Cert.KernelIdeal.Value.run (F := Ideal) m g
  · refine (θ_run _ _ _).mono (fun r h c => ?_) (Cert.ReferenceIdeal.Value.run (F := Ideal) m' g')
    obtain ⟨h0, h1⟩ := h c
    refine ⟨h0.trans ?_, h1⟩
    obtain ⟨e0, e1, e2, e3, e4, e5, e6, e7⟩ := hargs c
    have A := args_of _ _ _ _ _ _ _ _ (hpre c)
    rw [Cert.ReferenceIdeal.Read.val_main_v134_eq]
    refine Eq.trans (b := Cert.ReferenceIdeal.Read.val_main_v134 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7))) ?_ ?_
    · rw [← e0, ← e1, ← e2, ← e3, ← e4, ← e5, ← e6, ← e7]
    · funext i
      refine (congrArg _ (ix2_eta i)).symm.trans ((SsdR.result_eq _ _ _ _ _ _ _ _ _ A (i 0) (i 1)).trans ?_)
      exact (result_eq m _ c A (i 0) (i 1)).symm.trans (congrArg _ (ix2_eta i))

end Cert.Proof.Ssd
-- ==== Proof.Product2.lean ====
/- The block product at [16384, 1024] × [1024, 3072]: the result array of `Kernel2Ideal`, element by element, is the sum
   over the shared axis, which is what `Reference2Ideal` computes. Each grid point writes one [2048, 1024] block. -/
module

public import proofs.«01_k».proof.Defs
public import proofs.«01_k».proof.Proof.Gen.Kernel2Ideal.Value
public import proofs.«01_k».proof.Proof.Gen.Reference2Ideal.Read
public import Idealize.ShloMosaic.Lib.MatmulPlain

@[expose] public section

noncomputable section

namespace Cert.Proof.Product2

open Idealize.ShloMosaic Idealize.ShloMosaic.TcCoe Idealize.SL.Sem Idealize.ShloMosaic.ValueIdx
open Cert.Kernel2Ideal Cert.Kernel2Ideal.Gen

/-- The product of the two arrays, each element a sum over the shared axis. -/
def prod (x : Vec Ideal S16384x1024 .bf16) (w : Vec Ideal S1024x3072 .bf16) : Vec Ideal S16384x3072 .bf16 :=
  fun i => ∑ k : Fin 1024, (x (ix2 (i 0) k) : EReal) * w (ix2 k (i 1))

theorem pay_apply (x : Vec Ideal S2048x1024 .bf16) (w : Vec Ideal S1024x1024 .bf16) (y : S2048x1024.Idx) :
    k0_pay1 x w y = (∑ k : Fin 1024, (x (ix2 (y 0) k) : EReal) * w (ix2 k (y 1)) : EReal) := by
  have h := Ideal.matmul_plain_apply (M := 2048) (K := 1024) (N := 1024) (φ₁ := .bf16) (φ₂ := .bf16) none x w (constant S2048x1024 .f32 0x00000000#32) (y 0) (y 1)
  have e : y = ix2 (y 0) (y 1) := by
    funext a
    match a with
    | ⟨0, _⟩ => rfl
    | ⟨1, _⟩ => rfl
  have z : constant (F := Ideal) S2048x1024 .f32 0x00000000#32 (ix2 (y 0) (y 1)) = (0 : EReal) := Ideal.ofBits_zero_f32
  rw [z, zero_add] at h
  rw [← h]
  conv_lhs => rw [e]
  rfl

theorem index_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem onto : ∀ (a : Fin 8) (b : Fin 3), ∃ t : Fin cfg0.N, win0_2.index t (0 : Fin 2) = a.val ∧ win0_2.index t (1 : Fin 2) = b.val :=
  (by decide +kernel : ∀ (a : Fin 8) (b : Fin 3), ∃ t : Fin grid0.N, _)

variable (m : (ℓ : Loc nD τ sig) → Buf (Elt Ideal) ℓ) (ρ : Dev nD → PrngReg)

theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e0, e1, e2, e3⟩ := index_facts t
    have hy0 : (y 0).val < 2048 := (y 0).isLt
    have hy1 : (y 1).val < 1024 := (y 1).isLt
    show out0_2 (iblk m c 0 t) (iblk m c 1 t) ((cfg0.win 2).xinj (grid0.coords t) y) = _
    unfold out0_2
    have hz : (![0, 0] : Fin 2 → Nat) = fun _ => 0 := by decide
    rw [View.canon_unit_zero hz, View.ld_unit_zero hz, View.ld_unit_zero hz]
    refine (pay_apply _ _ _).trans ?_
    show _ = prod (m ((c : Thread nD τ).loc main_arg0)) (m ((c : Thread nD τ).loc main_arg1)) (((cfg0.win 2).blk t).view.emb y)
    unfold prod
    refine Finset.sum_congr rfl fun k _ => ?_
    refine congrArg₂ (fun a b : EReal => a * b)
      (congrArg (m ((c : Thread nD τ).loc main_arg0)) ?_) (congrArg (m ((c : Thread nD τ).loc main_arg1)) ?_)
    · funext a
      apply Fin.ext
      match a with
      | ⟨0, _⟩ => show win0_0.index t (0 : Fin 2) * 2048 + 1 * (y 0).val = win0_2.index t (0 : Fin 2) * 2048 + 1 * (y 0).val; rw [e0]
      | ⟨1, _⟩ => show win0_0.index t (1 : Fin 2) * 1024 + 1 * k.val = k.val; rw [e1]; omega
    · funext a
      apply Fin.ext
      match a with
      | ⟨0, _⟩ => show win0_1.index t (0 : Fin 2) * 1024 + 1 * k.val = k.val; rw [e2]; omega
      | ⟨1, _⟩ => show win0_1.index t (1 : Fin 2) * 1024 + 1 * (y 1).val = win0_2.index t (1 : Fin 2) * 1024 + 1 * (y 1).val; rw [e3]
  · have h0 : (i 0).val < 16384 := (i 0).isLt
    have h1 : (i 1).val < 3072 := (i 1).isLt
    obtain ⟨t, t0, t1⟩ := onto ⟨(i 0).val / 2048, by omega⟩ ⟨(i 1).val / 1024, by omega⟩
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 2048 ≤ (i 0).val ∧ (i 0).val < win0_2.index t (0 : Fin 2) * 2048 + 2048; rw [t0]; dsimp only; omega
    | ⟨1, _⟩ => show win0_2.index t (1 : Fin 2) * 1024 ≤ (i 1).val ∧ (i 1).val < win0_2.index t (1 : Fin 2) * 1024 + 1024; rw [t1]; dsimp only; omega

theorem ref_eq (x : Vec Ideal S16384x1024 .bf16) (w : Vec Ideal S1024x3072 .bf16) :
    Cert.Reference2Ideal.Read.val_main_v3 (F := Ideal) x w = prod x w := by
  funext i
  rw [Cert.Reference2Ideal.Read.val_main_v3_apply, Ideal.truncf_def, Cert.Reference2Ideal.Read.val_main_v2_apply]
  refine Finset.sum_congr rfl fun k _ => ?_
  refine congrArg₂ (fun a b : EReal => a * b) (congrArg x ?_) (congrArg w ?_)
  · funext a
    match a with
    | ⟨0, _⟩ => rfl
    | ⟨1, _⟩ => rfl
  · funext a
    match a with
    | ⟨0, _⟩ => rfl
    | ⟨1, _⟩ => rfl

theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => prod (m ((c.tc : Thread nD τ).loc main_arg0)) (m ((c.tc : Thread nD τ).loc main_arg1)), ?_, ?_⟩
  · refine (θ_run _ _ _).mono (fun r h c => ?_) (Value.run_blocks (F := Ideal) m g)
    obtain ⟨h0, h1, h2⟩ := h c
    exact ⟨h0.trans (final m c), h1, h2⟩
  · refine (θ_run _ _ _).mono (fun r h c => ?_) (Cert.Reference2Ideal.Value.run (F := Ideal) m' g')
    obtain ⟨h0, h1, h2⟩ := h c
    refine ⟨h0.trans ?_, h1, h2⟩
    rw [Cert.Reference2Ideal.Read.val_main_v3_eq, ref_eq, (hargs c).1, (hargs c).2]

end Cert.Proof.Product2

end
-- ==== Proof.Product3.lean ====
/- The block product at [16384, 1024] × [1024, 6144]: the result array of `Kernel3Ideal`, element by element, is the sum
   over the shared axis, which is what `Reference3Ideal` computes. Each grid point writes one [2048, 1024] block. -/
module

public import proofs.«01_k».proof.Defs
public import proofs.«01_k».proof.Proof.Gen.Kernel3Ideal.Value
public import proofs.«01_k».proof.Proof.Gen.Reference3Ideal.Read
public import Idealize.ShloMosaic.Lib.MatmulPlain

@[expose] public section

noncomputable section

namespace Cert.Proof.Product3

open Idealize.ShloMosaic Idealize.ShloMosaic.TcCoe Idealize.SL.Sem Idealize.ShloMosaic.ValueIdx
open Cert.Kernel3Ideal Cert.Kernel3Ideal.Gen

/-- The product of the two arrays, each element a sum over the shared axis. -/
def prod (x : Vec Ideal S16384x1024 .bf16) (w : Vec Ideal S1024x6144 .bf16) : Vec Ideal S16384x6144 .bf16 :=
  fun i => ∑ k : Fin 1024, (x (ix2 (i 0) k) : EReal) * w (ix2 k (i 1))

theorem pay_apply (x : Vec Ideal S2048x1024 .bf16) (w : Vec Ideal S1024x1024 .bf16) (y : S2048x1024.Idx) :
    k0_pay1 x w y = (∑ k : Fin 1024, (x (ix2 (y 0) k) : EReal) * w (ix2 k (y 1)) : EReal) := by
  have h := Ideal.matmul_plain_apply (M := 2048) (K := 1024) (N := 1024) (φ₁ := .bf16) (φ₂ := .bf16) none x w (constant S2048x1024 .f32 0x00000000#32) (y 0) (y 1)
  have e : y = ix2 (y 0) (y 1) := by
    funext a
    match a with
    | ⟨0, _⟩ => rfl
    | ⟨1, _⟩ => rfl
  have z : constant (F := Ideal) S2048x1024 .f32 0x00000000#32 (ix2 (y 0) (y 1)) = (0 : EReal) := Ideal.ofBits_zero_f32
  rw [z, zero_add] at h
  rw [← h]
  conv_lhs => rw [e]
  rfl

theorem index_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem onto : ∀ (a : Fin 8) (b : Fin 6), ∃ t : Fin cfg0.N, win0_2.index t (0 : Fin 2) = a.val ∧ win0_2.index t (1 : Fin 2) = b.val :=
  (by decide +kernel : ∀ (a : Fin 8) (b : Fin 6), ∃ t : Fin grid0.N, _)

variable (m : (ℓ : Loc nD τ sig) → Buf (Elt Ideal) ℓ) (ρ : Dev nD → PrngReg)

theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e0, e1, e2, e3⟩ := index_facts t
    have hy0 : (y 0).val < 2048 := (y 0).isLt
    have hy1 : (y 1).val < 1024 := (y 1).isLt
    show out0_2 (iblk m c 0 t) (iblk m c 1 t) ((cfg0.win 2).xinj (grid0.coords t) y) = _
    unfold out0_2
    have hz : (![0, 0] : Fin 2 → Nat) = fun _ => 0 := by decide
    rw [View.canon_unit_zero hz, View.ld_unit_zero hz, View.ld_unit_zero hz]
    refine (pay_apply _ _ _).trans ?_
    show _ = prod (m ((c : Thread nD τ).loc main_arg0)) (m ((c : Thread nD τ).loc main_arg1)) (((cfg0.win 2).blk t).view.emb y)
    unfold prod
    refine Finset.sum_congr rfl fun k _ => ?_
    refine congrArg₂ (fun a b : EReal => a * b)
      (congrArg (m ((c : Thread nD τ).loc main_arg0)) ?_) (congrArg (m ((c : Thread nD τ).loc main_arg1)) ?_)
    · funext a
      apply Fin.ext
      match a with
      | ⟨0, _⟩ => show win0_0.index t (0 : Fin 2) * 2048 + 1 * (y 0).val = win0_2.index t (0 : Fin 2) * 2048 + 1 * (y 0).val; rw [e0]
      | ⟨1, _⟩ => show win0_0.index t (1 : Fin 2) * 1024 + 1 * k.val = k.val; rw [e1]; omega
    · funext a
      apply Fin.ext
      match a with
      | ⟨0, _⟩ => show win0_1.index t (0 : Fin 2) * 1024 + 1 * k.val = k.val; rw [e2]; omega
      | ⟨1, _⟩ => show win0_1.index t (1 : Fin 2) * 1024 + 1 * (y 1).val = win0_2.index t (1 : Fin 2) * 1024 + 1 * (y 1).val; rw [e3]
  · have h0 : (i 0).val < 16384 := (i 0).isLt
    have h1 : (i 1).val < 6144 := (i 1).isLt
    obtain ⟨t, t0, t1⟩ := onto ⟨(i 0).val / 2048, by omega⟩ ⟨(i 1).val / 1024, by omega⟩
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 2048 ≤ (i 0).val ∧ (i 0).val < win0_2.index t (0 : Fin 2) * 2048 + 2048; rw [t0]; dsimp only; omega
    | ⟨1, _⟩ => show win0_2.index t (1 : Fin 2) * 1024 ≤ (i 1).val ∧ (i 1).val < win0_2.index t (1 : Fin 2) * 1024 + 1024; rw [t1]; dsimp only; omega

theorem ref_eq (x : Vec Ideal S16384x1024 .bf16) (w : Vec Ideal S1024x6144 .bf16) :
    Cert.Reference3Ideal.Read.val_main_v3 (F := Ideal) x w = prod x w := by
  funext i
  rw [Cert.Reference3Ideal.Read.val_main_v3_apply, Ideal.truncf_def, Cert.Reference3Ideal.Read.val_main_v2_apply]
  refine Finset.sum_congr rfl fun k _ => ?_
  refine congrArg₂ (fun a b : EReal => a * b) (congrArg x ?_) (congrArg w ?_)
  · funext a
    match a with
    | ⟨0, _⟩ => rfl
    | ⟨1, _⟩ => rfl
  · funext a
    match a with
    | ⟨0, _⟩ => rfl
    | ⟨1, _⟩ => rfl

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => prod (m ((c.tc : Thread nD τ).loc main_arg0)) (m ((c.tc : Thread nD τ).loc main_arg1)), ?_, ?_⟩
  · refine (θ_run _ _ _).mono (fun r h c => ?_) (Value.run_blocks (F := Ideal) m g)
    obtain ⟨h0, h1, h2⟩ := h c
    exact ⟨h0.trans (final m c), h1, h2⟩
  · refine (θ_run _ _ _).mono (fun r h c => ?_) (Cert.Reference3Ideal.Value.run (F := Ideal) m' g')
    obtain ⟨h0, h1, h2⟩ := h c
    refine ⟨h0.trans ?_, h1, h2⟩
    rw [Cert.Reference3Ideal.Read.val_main_v3_eq, ref_eq, (hargs c).1, (hargs c).2]

end Cert.Proof.Product3

end
-- ==== Proof.Product4.lean ====
/- The block product at [16384, 1024] × [1024, 1024]: the result array of `Kernel4Ideal`, element by element, is the sum
   over the shared axis, which is what `Reference4Ideal` computes. Each grid point writes one [2048, 1024] block. -/
module

public import proofs.«01_k».proof.Defs
public import proofs.«01_k».proof.Proof.Gen.Kernel4Ideal.Value
public import proofs.«01_k».proof.Proof.Gen.Reference4Ideal.Read
public import Idealize.ShloMosaic.Lib.MatmulPlain

@[expose] public section

noncomputable section

namespace Cert.Proof.Product4

open Idealize.ShloMosaic Idealize.ShloMosaic.TcCoe Idealize.SL.Sem Idealize.ShloMosaic.ValueIdx
open Cert.Kernel4Ideal Cert.Kernel4Ideal.Gen

/-- The product of the two arrays, each element a sum over the shared axis. -/
def prod (x : Vec Ideal S16384x1024 .bf16) (w : Vec Ideal S1024x1024 .bf16) : Vec Ideal S16384x1024 .f32 :=
  fun i => ∑ k : Fin 1024, (x (ix2 (i 0) k) : EReal) * w (ix2 k (i 1))

theorem pay_apply (x : Vec Ideal S2048x1024 .bf16) (w : Vec Ideal S1024x1024 .bf16) (y : S2048x1024.Idx) :
    k0_pay1 x w y = (∑ k : Fin 1024, (x (ix2 (y 0) k) : EReal) * w (ix2 k (y 1)) : EReal) := by
  have h := Ideal.matmul_plain_apply (M := 2048) (K := 1024) (N := 1024) (φ₁ := .bf16) (φ₂ := .bf16) none x w (constant S2048x1024 .f32 0x00000000#32) (y 0) (y 1)
  have e : y = ix2 (y 0) (y 1) := by
    funext a
    match a with
    | ⟨0, _⟩ => rfl
    | ⟨1, _⟩ => rfl
  have z : constant (F := Ideal) S2048x1024 .f32 0x00000000#32 (ix2 (y 0) (y 1)) = (0 : EReal) := Ideal.ofBits_zero_f32
  rw [z, zero_add] at h
  rw [← h]
  conv_lhs => rw [e]
  rfl

theorem index_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem onto : ∀ (a : Fin 8) (b : Fin 1), ∃ t : Fin cfg0.N, win0_2.index t (0 : Fin 2) = a.val ∧ win0_2.index t (1 : Fin 2) = b.val :=
  (by decide +kernel : ∀ (a : Fin 8) (b : Fin 1), ∃ t : Fin grid0.N, _)

variable (m : (ℓ : Loc nD τ sig) → Buf (Elt Ideal) ℓ) (ρ : Dev nD → PrngReg)

theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e0, e1, e2, e3⟩ := index_facts t
    have hy0 : (y 0).val < 2048 := (y 0).isLt
    have hy1 : (y 1).val < 1024 := (y 1).isLt
    show out0_2 (iblk m c 0 t) (iblk m c 1 t) ((cfg0.win 2).xinj (grid0.coords t) y) = _
    unfold out0_2
    have hz : (![0, 0] : Fin 2 → Nat) = fun _ => 0 := by decide
    rw [View.canon_unit_zero hz, View.ld_unit_zero hz, View.ld_unit_zero hz]
    refine (pay_apply _ _ _).trans ?_
    show _ = prod (m ((c : Thread nD τ).loc main_arg0)) (m ((c : Thread nD τ).loc main_arg1)) (((cfg0.win 2).blk t).view.emb y)
    unfold prod
    refine Finset.sum_congr rfl fun k _ => ?_
    refine congrArg₂ (fun a b : EReal => a * b)
      (congrArg (m ((c : Thread nD τ).loc main_arg0)) ?_) (congrArg (m ((c : Thread nD τ).loc main_arg1)) ?_)
    · funext a
      apply Fin.ext
      match a with
      | ⟨0, _⟩ => show win0_0.index t (0 : Fin 2) * 2048 + 1 * (y 0).val = win0_2.index t (0 : Fin 2) * 2048 + 1 * (y 0).val; rw [e0]
      | ⟨1, _⟩ => show win0_0.index t (1 : Fin 2) * 1024 + 1 * k.val = k.val; rw [e1]; omega
    · funext a
      apply Fin.ext
      match a with
      | ⟨0, _⟩ => show win0_1.index t (0 : Fin 2) * 1024 + 1 * k.val = k.val; rw [e2]; omega
      | ⟨1, _⟩ => show win0_1.index t (1 : Fin 2) * 1024 + 1 * (y 1).val = win0_2.index t (1 : Fin 2) * 1024 + 1 * (y 1).val; rw [e3]
  · have h0 : (i 0).val < 16384 := (i 0).isLt
    have h1 : (i 1).val < 1024 := (i 1).isLt
    obtain ⟨t, t0, t1⟩ := onto ⟨(i 0).val / 2048, by omega⟩ ⟨(i 1).val / 1024, by omega⟩
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 2048 ≤ (i 0).val ∧ (i 0).val < win0_2.index t (0 : Fin 2) * 2048 + 2048; rw [t0]; dsimp only; omega
    | ⟨1, _⟩ => show win0_2.index t (1 : Fin 2) * 1024 ≤ (i 1).val ∧ (i 1).val < win0_2.index t (1 : Fin 2) * 1024 + 1024; rw [t1]; dsimp only; omega

theorem ref_eq (x : Vec Ideal S16384x1024 .bf16) (w : Vec Ideal S1024x1024 .bf16) :
    Cert.Reference4Ideal.Read.val_main_v2 (F := Ideal) x w = prod x w := by
  funext i
  rw [Cert.Reference4Ideal.Read.val_main_v2_apply]
  refine Finset.sum_congr rfl fun k _ => ?_
  refine congrArg₂ (fun a b : EReal => a * b) (congrArg x ?_) (congrArg w ?_)
  · funext a
    match a with
    | ⟨0, _⟩ => rfl
    | ⟨1, _⟩ => rfl
  · funext a
    match a with
    | ⟨0, _⟩ => rfl
    | ⟨1, _⟩ => rfl

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => prod (m ((c.tc : Thread nD τ).loc main_arg0)) (m ((c.tc : Thread nD τ).loc main_arg1)), ?_, ?_⟩
  · refine (θ_run _ _ _).mono (fun r h c => ?_) (Value.run_blocks (F := Ideal) m g)
    obtain ⟨h0, h1, h2⟩ := h c
    exact ⟨h0.trans (final m c), h1, h2⟩
  · refine (θ_run _ _ _).mono (fun r h c => ?_) (Cert.Reference4Ideal.Value.run (F := Ideal) m' g')
    obtain ⟨h0, h1, h2⟩ := h c
    refine ⟨h0.trans ?_, h1, h2⟩
    rw [Cert.Reference4Ideal.Read.val_main_v2_eq, ref_eq, (hargs c).1, (hargs c).2]

end Cert.Proof.Product4

end
-- ==== Proof.RouteModel.lean ====
/- The choice of two experts in one row, over reals: the first greatest of the eight coarse numbers, then the two greatest of the
   eight numbers of that group, and the row of the route that lists them with their gates. -/
module

public import proofs.«01_k».proof.Proof.SsdModel

@[expose] public section

noncomputable section

namespace Cert.Proof.Route

open Idealize.ShloMosaic Cert.Proof.Ssd
open scoped BigOperators

/-! ## The first greatest -/

/-- `a` is the first index at which `v` is greatest. -/
def First {n : ℕ} (v : Fin n → EReal) (a : Fin n) : Prop := (∀ x, v x ≤ v a) ∧ ∀ x, x < a → v x < v a

theorem first_exists {n : ℕ} (v : Fin (n + 1) → EReal) : ∃ a, First v a := by
  classical
  obtain ⟨b, -, hb⟩ := Finset.exists_max_image Finset.univ v ⟨0, Finset.mem_univ _⟩
  have hne : (Finset.univ.filter fun a => ∀ x, v x ≤ v a).Nonempty := ⟨b, by simpa using hb⟩
  have hm := (Finset.mem_filter.mp (Finset.min'_mem _ hne)).2
  refine ⟨Finset.min' _ hne, hm, fun x hx => lt_of_le_of_ne (hm x) fun e => ?_⟩
  exact absurd (Finset.min'_le _ x (Finset.mem_filter.mpr ⟨Finset.mem_univ _, fun y => (hm y).trans e.ge⟩)) (not_le.mpr hx)

theorem First.fold_max {n : ℕ} {v : Fin n → EReal} {a : Fin n} (h : First v a) : (Finset.univ : Finset (Fin n)).fold max ⊥ v = v a :=
  le_antisymm (Finset.fold_max_le _ |>.mpr ⟨bot_le, fun x _ => h.1 x⟩) (Finset.le_fold_max _ |>.mpr (.inr ⟨a, Finset.mem_univ _, le_rfl⟩))

/-- The least of the indices where `v` is greatest, as a number, is the first one. -/
theorem First.fold_min {n : ℕ} {v : Fin n → EReal} {a : Fin n} (h : First v a) (N : EReal) (hN : (((n : ℕ) : ℝ) : EReal) ≤ N) :
    (Finset.univ : Finset (Fin n)).fold min ⊤ (fun x => if v x = v a then (((x.val : ℕ) : ℝ) : EReal) else N) = (((a.val : ℕ) : ℝ) : EReal) := by
  refine le_antisymm (Finset.fold_min_le _ |>.mpr (.inr ⟨a, Finset.mem_univ _, by rw [if_pos rfl]⟩))
    (Finset.le_fold_min _ |>.mpr ⟨le_top, fun x _ => ?_⟩)
  by_cases e : v x = v a
  · rw [if_pos e]
    have : a ≤ x := not_lt.mp fun hx => (h.2 x hx).ne e
    exact EReal.coe_le_coe_iff.mpr (Nat.cast_le.mpr this)
  · rw [if_neg e]
    exact le_trans (EReal.coe_le_coe_iff.mpr (Nat.cast_le.mpr a.isLt.le)) hN

/-- Eight numbers laid at `w` in a row of 128 that is `-∞` elsewhere have their first greatest where they had it. -/
theorem First.window {u : ℕ → EReal} {w : ℕ} {a : Fin 8} (hw : w + 8 ≤ 128) (h : First (fun x : Fin 8 => u (w + x.val)) a) (hu : ⊥ < u (w + a.val)) :
    First (fun x : Fin 128 => if w ≤ x.val ∧ x.val < w + 8 then u x.val else ⊥) (⟨w + a.val, by omega⟩ : Fin 128) := by
  have ha := a.isLt
  constructor
  · intro x
    show _ ≤ (if w ≤ w + a.val ∧ w + a.val < w + 8 then u (w + a.val) else ⊥)
    rw [if_pos (by omega)]
    by_cases hx : w ≤ x.val ∧ x.val < w + 8
    · have := h.1 (⟨x.val - w, by omega⟩ : Fin 8)
      simp only [show w + (x.val - w) = x.val by omega] at this
      simpa only [if_pos hx] using this
    · simp only [if_neg hx]; exact bot_le
  · intro x hxa
    have hxa : x.val < w + a.val := hxa
    show _ < (if w ≤ w + a.val ∧ w + a.val < w + 8 then u (w + a.val) else ⊥)
    rw [if_pos (by omega)]
    by_cases hx : w ≤ x.val ∧ x.val < w + 8
    · have := h.2 (⟨x.val - w, by omega⟩ : Fin 8) (show x.val - w < a.val by omega)
      simp only [show w + (x.val - w) = x.val by omega] at this
      simpa only [if_pos hx] using this
    · simp only [if_neg hx]; exact hu

/-! ## The choice -/

/-- `G` is the group taken and `i`, `j` are the two experts of it, from the row `L` of numbers: 8 of the groups, then 8 of each group. -/
structure Pick (L : ℕ → ℝ) (G i j : Fin 8) : Prop where
  grp : First (fun x : Fin 8 => ((L x.val : ℝ) : EReal)) G
  fst : First (fun x : Fin 8 => ((L (8 + 8 * G.val + x.val) : ℝ) : EReal)) i
  snd : First (fun x : Fin 8 => if x = i then (⊥ : EReal) else ((L (8 + 8 * G.val + x.val) : ℝ) : EReal)) j

theorem pick_exists (L : ℕ → ℝ) : ∃ G i j, Pick L G i j := by
  obtain ⟨G, hG⟩ := first_exists (n := 7) (fun x : Fin 8 => ((L x.val : ℝ) : EReal))
  obtain ⟨i, hi⟩ := first_exists (n := 7) (fun x : Fin 8 => ((L (8 + 8 * G.val + x.val) : ℝ) : EReal))
  obtain ⟨j, hj⟩ := first_exists (n := 7) (fun x : Fin 8 => if x = i then (⊥ : EReal) else ((L (8 + 8 * G.val + x.val) : ℝ) : EReal))
  exact ⟨G, i, j, hG, hi, hj⟩

theorem Pick.ne {L : ℕ → ℝ} {G i j : Fin 8} (p : Pick L G i j) : j ≠ i := by
  rintro rfl
  obtain ⟨x, hx⟩ := exists_ne j
  have := p.snd.1 x
  simp only [if_pos, if_neg hx, le_bot_iff] at this
  exact EReal.coe_ne_bot _ this

variable (L : ℕ → ℝ) (G i j : Fin 8)

/-- The group's share. -/
def share : ℝ := 1 / ∑ x : Fin 8, Real.exp (L x.val - L G.val)

/-- The second expert's weight against the first's. -/
def odds : ℝ := Real.exp (L (8 + 8 * G.val + j.val) - L (8 + 8 * G.val + i.val))

/-- The row of the route: the two experts, their gates, zeros. -/
def routeOf (c : ℕ) : ℝ :=
  if c = 0 then 8 * G.val + i.val else if c = 1 then 8 * G.val + j.val
  else if c = 2 then share L G / (1 + odds L G i j) else if c = 3 then share L G * odds L G i j / (1 + odds L G i j) else 0

theorem sum_exp_pos : 0 < ∑ x : Fin 8, Real.exp (L x.val - L G.val) :=
  Finset.sum_pos (fun _ _ => Real.exp_pos _) ⟨0, Finset.mem_univ _⟩

theorem odds_pos : 0 < 1 + odds L G i j := add_pos one_pos (Real.exp_pos _)

theorem div_coe_pos (x y : ℝ) (hy : 0 < y) : Ideal.div (x : EReal) (y : EReal) = ((x / y : ℝ) : EReal) := by
  rw [Ideal.div_coe hy.ne', ← EReal.coe_mul, mul_one_div]

theorem one_coe : (1 : EReal) = ((1 : ℝ) : EReal) := by norm_cast

theorem word_coe (n : ℕ) (hn : n < 2 ^ 31) : (FloatOps.sitofp FTy.f32 (BitVec.ofNat 32 n) : Ideal .f32) = (((n : ℕ) : ℝ) : EReal) := by
  show ((((BitVec.ofNat 32 n).toInt : ℤ) : ℝ) : EReal) = _
  have e : (BitVec.ofNat 32 n).toInt = (n : ℤ) := by
    rw [BitVec.toInt_eq_toNat_of_lt (by rw [BitVec.toNat_ofNat, Nat.mod_eq_of_lt (by omega)]; omega), BitVec.toNat_ofNat, Nat.mod_eq_of_lt (by omega)]
  rw [e, Int.cast_natCast]

/-! ## The literals -/

theorem lit_one : Ideal.ofBits .f32 1065353216#32 = ((1 : ℝ) : EReal) := by simp [Ideal.ofBits, Ideal.ieee, -EReal.coe_mul]; norm_num
theorem lit_two : Ideal.ofBits .f32 1073741824#32 = ((2 : ℝ) : EReal) := by simp [Ideal.ofBits, Ideal.ieee, -EReal.coe_mul]; norm_num
theorem lit_three : Ideal.ofBits .f32 1077936128#32 = ((3 : ℝ) : EReal) := by simp [Ideal.ofBits, Ideal.ieee, -EReal.coe_mul]; norm_num
theorem lit_eight : Ideal.ofBits .f32 1090519040#32 = ((8 : ℝ) : EReal) := by simp [Ideal.ofBits, Ideal.ieee, -EReal.coe_mul]; norm_num
theorem lit_128 : Ideal.ofBits .f32 1124073472#32 = ((128 : ℝ) : EReal) := by simp [Ideal.ofBits, Ideal.ieee, -EReal.coe_mul]; norm_num
theorem lit_1024 : Ideal.ofBits .f32 1149239296#32 = ((1024 : ℝ) : EReal) := by simp [Ideal.ofBits, Ideal.ieee, -EReal.coe_mul]; norm_num
theorem lit_pinf : Ideal.ofBits .f32 2139095040#32 = (⊤ : EReal) := by simp [Ideal.ofBits, Ideal.ieee]

/-- The two literals of the layer norm that are not whole numbers are positive reals. -/
theorem lit_eps : ∃ e : ℝ, 0 < e ∧ Ideal.ofBits .f32 925353388#32 = ((e : ℝ) : EReal) := by
  refine ⟨_, ?_, by simp [Ideal.ofBits, Ideal.ieee, -EReal.coe_mul]; rfl⟩
  norm_num

theorem lit_alpha : ∃ e : ℝ, Ideal.ofBits .f32 1071072509#32 = ((e : ℝ) : EReal) :=
  ⟨_, by simp [Ideal.ofBits, Ideal.ieee, -EReal.coe_mul]; rfl⟩

/-! ## The layer norm of one row -/

/-- One element of a row's layer norm: the row `y`, the scale `g`, the shift `b`. -/
def norm (y g b : Fin 1024 → EReal) (d : Fin 1024) : EReal :=
  (y d - Ideal.div (∑ x, y x) (Ideal.ofBits .f32 1149239296#32))
    * Ideal.rsqrt (Ideal.div (∑ x, (y x - Ideal.div (∑ x, y x) (Ideal.ofBits .f32 1149239296#32)) * (y x - Ideal.div (∑ x, y x) (Ideal.ofBits .f32 1149239296#32)))
        (Ideal.ofBits .f32 1149239296#32) + Ideal.ofBits .f32 925353388#32) * g d + b d

/-- Of real rows it is real. -/
theorem norm_real (y g b : Fin 1024 → ℝ) : ∃ x : Fin 1024 → ℝ, ∀ d, norm (fun d => (y d : EReal)) (fun d => (g d : EReal)) (fun d => (b d : EReal)) d = ((x d : ℝ) : EReal) := by
  obtain ⟨e, he, hle⟩ := lit_eps
  have hv : 0 < (∑ x, (y x - (∑ x, y x) / 1024) * (y x - (∑ x, y x) / 1024)) / 1024 + e :=
    add_pos_of_nonneg_of_pos (div_nonneg (Finset.sum_nonneg fun x _ => mul_self_nonneg _) (by norm_num)) he
  refine ⟨fun d => (y d - (∑ x, y x) / 1024) * (Real.sqrt ((∑ x, (y x - (∑ x, y x) / 1024) * (y x - (∑ x, y x) / 1024)) / 1024 + e))⁻¹ * g d + b d, fun d => ?_⟩
  unfold norm
  simp only [lit_1024, hle, coe_sum, div_coe_pos _ _ (show (0 : ℝ) < 1024 by norm_num), ← EReal.coe_sub, ← EReal.coe_mul, ← EReal.coe_add]
  rw [Ideal.rsqrt_coe, if_neg (not_lt.mpr hv.le), if_neg hv.ne']
  simp only [← EReal.coe_mul, ← EReal.coe_add]

end Cert.Proof.Route
-- ==== Proof.RouteBody.lean ====
/- The body of the route's kernel at one element: the layer norm's row, and the route of a row whose numbers are reals. -/
module

public import proofs.«01_k».proof.Proof.RouteModel
public import proofs.«01_k».proof.Proof.Gen.Kernel6Ideal.Frame

@[expose] public section

set_option maxRecDepth 16384

noncomputable section

namespace Cert.Proof.Route

open Idealize.ShloMosaic Idealize.ShloMosaic.TcCoe Idealize.SL.Sem Cert.Proof.Ssd
open Cert.Kernel6Ideal Cert.Kernel6Ideal.Gen
open scoped BigOperators

theorem pay2_eq (v0 : Vec Ideal S512x1024 .bf16) (v1 : Vec Ideal S1024x1024 .bf16) (v3 : Vec Ideal S512x1024 .f32) (v7 v8 : Vec Ideal S1x1024 .f32) (r : Fin 512) (d : Fin 1024) :
    k0_pay2 v0 v1 v3 v7 v8 (ix2 r d)
      = norm (fun x => Ideal.ofBits .f32 1071072509#32 * v3 (ix2 r x) + ∑ k : Fin 1024, v0 (ix2 r k) * v1 (ix2 k x)) (fun x => v7 (ix2 0 x)) (fun x => v8 (ix2 0 x)) d := by
  pointwise [k0_pay2]
  rfl

theorem lane_eq (r : Fin 512) (c : Fin 128) : k0_pay7 (F := Ideal) (ix2 r c) = (((c.val : ℕ) : ℝ) : EReal) := by
  pointwise [k0_pay7]
  exact word_coe _ (by omega)

theorem logits_eq (v30 v33 : FVec Ideal S512x1024 .bf16) (v35 : FVec Ideal S1024x256 .bf16) (z : FVec Ideal S512x256 .f32) (hz : ∀ y, z y = (0 : EReal)) (v40 : Vec Ideal S1024x128 .bf16)
    (r : Fin 512) (c : Fin 128) : k0_pay6 v30 v33 v35 z v40 (ix2 r c)
      = (∑ x : Fin 1024, (v30 (ix2 r x) : EReal) * v35 (ix2 x ⟨c.val, by omega⟩)) + (∑ x : Fin 1024, (v30 (ix2 r x) : EReal) * v35 (ix2 x ⟨128 + c.val, by omega⟩))
        + ∑ x : Fin 1024, (v33 (ix2 r x) : EReal) * v40 (ix2 x c) := by
  pointwise [k0_pay6]
  exact congrArg₂ (· + ·) (congrArg₂ (· + ·) ((congrArg (· + _) (hz _)).trans (zero_add _)) ((congrArg (· + _) (hz _)).trans (zero_add _))) rfl

/-! ## The route of one row -/

variable (L : ℕ → ℝ) (G i j : Fin 8) (P : Pick L G i j) (r : Fin 512)

section coarse
variable (v30 v33 : FVec Ideal S512x1024 .bf16) (v35 : FVec Ideal S1024x256 .bf16) (z : FVec Ideal S512x256 .f32) (v40 : Vec Ideal S1024x128 .bf16)
  (h : ∀ c : Fin 128, k0_pay6 v30 v33 v35 z v40 (ix2 r c) = ((L c.val : ℝ) : EReal))

include h in
theorem coarse_eq (c : Fin 128) : k0_pay8 v30 v33 v35 z v40 (ix2 r c) = if 0 ≤ c.val ∧ c.val < 0 + 8 then ((L c.val : ℝ) : EReal) else ⊥ := by
  pointwise [k0_pay8]
  rw [lane_eq, h, lit_eight, ofBits_ninf]
  refine if_congr ?_ rfl rfl
  rw [EReal.coe_lt_coe_iff]
  exact_mod_cast Iff.rfl

include P in
theorem coarse_first : First (fun c : Fin 128 => if 0 ≤ c.val ∧ c.val < 0 + 8 then ((L c.val : ℝ) : EReal) else ⊥) (⟨0 + G.val, by omega⟩ : Fin 128) := by
  refine First.window (u := fun n => ((L n : ℝ) : EReal)) (by omega) ?_ (EReal.bot_lt_coe _)
  simpa only [zero_add] using P.grp

include h P in
theorem max_eq : k0_pay9 v30 v33 v35 z v40 (ix2 r 0) = ((L G.val : ℝ) : EReal) := by
  pointwise [k0_pay9]
  simp only [coarse_eq L r v30 v33 v35 z v40 h, ofBits_ninf]
  rw [(coarse_first L G i j P).fold_max]
  simp only [zero_add, Nat.zero_le, G.isLt, and_self, if_true]

include h P in
theorem share_eq : k0_pay10 v30 v33 v35 z v40 (ix2 r 0) = ((share L G : ℝ) : EReal) := by
  pointwise [k0_pay10]
  simp only [coarse_eq L r v30 v33 v35 z v40 h, max_eq L G i j P r v30 v33 v35 z v40 h]
  rw [show (∑ x : Fin 128, Ideal.exp ((if 0 ≤ x.val ∧ x.val < 0 + 8 then ((L x.val : ℝ) : EReal) else ⊥) - ((L G.val : ℝ) : EReal)))
      = ((∑ x : Fin 8, Real.exp (L x.val - L G.val) : ℝ) : EReal) from ?_, one_coe, div_coe_pos _ _ (sum_exp_pos L G)]
  · rfl
  · rw [← coe_sum, show (∑ x : Fin 128, Ideal.exp ((if 0 ≤ x.val ∧ x.val < 0 + 8 then ((L x.val : ℝ) : EReal) else ⊥) - ((L G.val : ℝ) : EReal)))
      = ∑ x : Fin (8 + 120), Ideal.exp ((if 0 ≤ x.val ∧ x.val < 0 + 8 then ((L x.val : ℝ) : EReal) else ⊥) - ((L G.val : ℝ) : EReal)) from rfl, Fin.sum_univ_add,
      Finset.sum_eq_zero (s := Finset.univ (α := Fin 120)), add_zero]
    · refine Finset.sum_congr rfl fun x _ => ?_
      rw [if_pos (by simp), Fin.val_castAdd, ← EReal.coe_sub, Ideal.exp_coe]
    · intro x _
      rw [if_neg (by simp), EReal.bot_sub, Ideal.exp_bot]

include h P in
theorem group_eq : (Finset.univ : Finset (Fin 128)).fold min (Ideal.ofBits FTy.f32 2139095040#32)
    (fun x => if k0_pay8 v30 v33 v35 z v40 (ix2 r x) = k0_pay9 v30 v33 v35 z v40 (ix2 r 0) then (k0_pay7 (F := Ideal) (ix2 r x) : EReal) else Ideal.ofBits FTy.f32 1124073472#32)
      = (((G.val : ℕ) : ℝ) : EReal) := by
  have e := (coarse_first L G i j P).fold_min (((128 : ℕ) : ℝ) : EReal) le_rfl
  simp only [zero_add, Nat.zero_le, G.isLt, and_self, if_true, true_and] at e
  rw [← e, lit_pinf]
  refine Finset.fold_congr fun x _ => ?_
  rw [coarse_eq L r v30 v33 v35 z v40 h, max_eq L G i j P r v30 v33 v35 z v40 h, lane_eq, lit_128]
  simp

include h P in
theorem fine_eq (c : Fin 128) : k0_pay11 v30 v33 v35 z v40 (ix2 r c) = if 8 + 8 * G.val ≤ c.val ∧ c.val < 8 + 8 * G.val + 8 then ((L c.val : ℝ) : EReal) else ⊥ := by
  pointwise [k0_pay11]
  rw [group_eq L G i j P r v30 v33 v35 z v40 h, lane_eq, h, lit_eight, ofBits_ninf, ← EReal.coe_mul, ← EReal.coe_add, ← EReal.coe_add]
  have e1 : (((8 + (G.val : ℝ) * 8 : ℝ) : EReal) ≤ ((c.val : ℝ) : EReal)) ↔ 8 + 8 * G.val ≤ c.val := by
    rw [EReal.coe_le_coe_iff, mul_comm]; exact_mod_cast Iff.rfl
  have e2 : (((c.val : ℝ) : EReal) < ((8 + (G.val : ℝ) * 8 + 8 : ℝ) : EReal)) ↔ c.val < 8 + 8 * G.val + 8 := by
    rw [EReal.coe_lt_coe_iff, mul_comm]; exact_mod_cast Iff.rfl
  simp only [e1, e2, ite_and]

include P in
theorem fine_first : First (fun c : Fin 128 => if 8 + 8 * G.val ≤ c.val ∧ c.val < 8 + 8 * G.val + 8 then ((L c.val : ℝ) : EReal) else ⊥)
    (⟨8 + 8 * G.val + i.val, by omega⟩ : Fin 128) :=
  First.window (u := fun n => ((L n : ℝ) : EReal)) (by omega) P.fst (EReal.bot_lt_coe _)

include h P in
theorem top_eq : k0_pay12 v30 v33 v35 z v40 (ix1 r) = ((L (8 + 8 * G.val + i.val) : ℝ) : EReal) := by
  pointwise [k0_pay12]
  simp only [fine_eq L G i j P r v30 v33 v35 z v40 h, ofBits_ninf]
  rw [(fine_first L G i j P).fold_max]
  exact if_pos ⟨by show _ ≤ 8 + 8 * G.val + i.val; omega, by show 8 + 8 * G.val + i.val < _; omega⟩

end coarse

/-! ## The two experts -/

section fine
variable (v45 v78 : FVec Ideal S512x128 .f32) (v79 : FVec Ideal S512 .f32) (v64 : FVec Ideal S512x1 .f32)
  (h45 : ∀ c : Fin 128, v45 (ix2 r c) = (((c.val : ℕ) : ℝ) : EReal))
  (h78 : ∀ c : Fin 128, v78 (ix2 r c) = if 8 + 8 * G.val ≤ c.val ∧ c.val < 8 + 8 * G.val + 8 then ((L c.val : ℝ) : EReal) else ⊥)
  (h79 : v79 (ix1 r) = ((L (8 + 8 * G.val + i.val) : ℝ) : EReal))
  (h64 : v64 (ix2 r 0) = ((share L G : ℝ) : EReal))

include P h45 h78 h79 in
theorem first_eq : k0_pay14 v45 v78 v79 (ix2 r 0) = ((8 + 8 * G.val + i.val : ℝ) : EReal) := by
  pointwise [k0_pay14, k0_pay13]
  have e := (fine_first L G i j P).fold_min (((128 : ℕ) : ℝ) : EReal) le_rfl
  rw [if_pos (show 8 + 8 * G.val ≤ 8 + 8 * G.val + i.val ∧ 8 + 8 * G.val + i.val < 8 + 8 * G.val + 8 by omega)] at e
  rw [lit_pinf, lit_128, h79]
  simp only [h78, h45]
  refine Eq.trans ?_ (e.trans ?_)
  · refine Finset.fold_congr fun x _ => ?_
    norm_num
  · push_cast; rfl

/-- The numbers left when the first expert is struck out. -/
def rest (n : ℕ) : EReal := if n = 8 + 8 * G.val + i.val then ⊥ else ((L n : ℝ) : EReal)

include P h45 h78 h79 in
theorem rest_eq (c : Fin 128) : k0_pay15 v45 v78 v79 (ix2 r c) = if 8 + 8 * G.val ≤ c.val ∧ c.val < 8 + 8 * G.val + 8 then rest L G i c.val else ⊥ := by
  pointwise [k0_pay15]
  rw [first_eq L G i j P r v45 v78 v79 h45 h78 h79, h45, h78, ofBits_ninf]
  have e : (((c.val : ℝ) : EReal) = ((8 + 8 * (G.val : ℝ) + (i.val : ℝ) : ℝ) : EReal)) ↔ c.val = 8 + 8 * G.val + i.val := by
    rw [EReal.coe_eq_coe_iff]; exact_mod_cast Iff.rfl
  unfold rest
  simp only [e]
  by_cases h1 : c.val = 8 + 8 * G.val + i.val
  · simp only [h1, if_true, ite_self]
  · simp only [h1, if_false]

include P in
theorem rest_at : rest L G i (8 + 8 * G.val + j.val) = ((L (8 + 8 * G.val + j.val) : ℝ) : EReal) := by
  have := P.ne
  exact if_neg (by omega)

include P in
theorem rest_first : First (fun c : Fin 128 => if 8 + 8 * G.val ≤ c.val ∧ c.val < 8 + 8 * G.val + 8 then rest L G i c.val else ⊥)
    (⟨8 + 8 * G.val + j.val, by omega⟩ : Fin 128) := by
  refine First.window (u := rest L G i) (by omega) ?_ (by rw [rest_at L G i j P]; exact EReal.bot_lt_coe _)
  have e : (fun x : Fin 8 => rest L G i (8 + 8 * G.val + x.val)) = fun x : Fin 8 => if x = i then (⊥ : EReal) else ((L (8 + 8 * G.val + x.val) : ℝ) : EReal) :=
    funext fun x => if_congr ⟨fun hx => Fin.ext (by omega), fun hx => by rw [hx]⟩ rfl rfl
  rw [e]
  exact P.snd

include P h45 h78 h79 in
theorem second_max : k0_pay16 v45 v78 v79 (ix2 r 0) = ((L (8 + 8 * G.val + j.val) : ℝ) : EReal) := by
  pointwise [k0_pay16]
  simp only [rest_eq L G i j P r v45 v78 v79 h45 h78 h79, ofBits_ninf]
  rw [(rest_first L G i j P).fold_max, ← rest_at L G i j P]
  exact if_pos ⟨by show _ ≤ 8 + 8 * G.val + j.val; omega, by show 8 + 8 * G.val + j.val < _; omega⟩

include P h45 h78 h79 in
theorem odds_eq : k0_pay17 v45 v78 v79 (ix2 r 0) = ((odds L G i j : ℝ) : EReal) := by
  pointwise [k0_pay17, k0_pay13]
  rw [second_max L G i j P r v45 v78 v79 h45 h78 h79, h79, ← EReal.coe_sub, Ideal.exp_coe]
  rfl

include P h45 h78 h79 in
theorem second_eq : k0_pay21 v45 v78 v79 (ix2 r 0) = ((8 * G.val + j.val : ℝ) : EReal) := by
  pointwise [k0_pay21]
  have e := (rest_first L G i j P).fold_min (((128 : ℕ) : ℝ) : EReal) le_rfl
  rw [if_pos (show 8 + 8 * G.val ≤ 8 + 8 * G.val + j.val ∧ 8 + 8 * G.val + j.val < 8 + 8 * G.val + 8 by omega), rest_at L G i j P] at e
  rw [lit_pinf, lit_128, lit_eight, second_max L G i j P r v45 v78 v79 h45 h78 h79]
  simp only [rest_eq L G i j P r v45 v78 v79 h45 h78 h79, h45]
  rw [show (Finset.univ : Finset (Fin 128)).fold min ⊤ (fun x => if (if 8 + 8 * G.val ≤ x.val ∧ x.val < 8 + 8 * G.val + 8 then rest L G i x.val else ⊥)
      = ((L (8 + 8 * G.val + j.val) : ℝ) : EReal) then (((x.val : ℕ) : ℝ) : EReal) else ((128 : ℝ) : EReal)) = _ from
    (Finset.fold_congr fun x _ => by norm_num).trans e, ← EReal.coe_sub]
  congr 1
  push_cast
  ring

include P h45 h78 h79 h64 in
theorem route_eq (c : Fin 128) : k0_pay1 (k0_pay18 v45) (k0_pay19 v45 v78 v79) (k0_pay20 v45) (k0_pay21 v45 v78 v79) (k0_pay22 v45)
    (k0_pay23 v45 v64 v78 v79) (k0_pay24 v45 v64 v78 v79) (ix2 r c) = ((routeOf L G i j c.val : ℝ) : EReal) := by
  pointwise [k0_pay1, k0_pay18, k0_pay19, k0_pay20, k0_pay22, k0_pay23, k0_pay24]
  rw [first_eq L G i j P r v45 v78 v79 h45 h78 h79, second_eq L G i j P r v45 v78 v79 h45 h78 h79, odds_eq L G i j P r v45 v78 v79 h45 h78 h79, h45, h64,
    lit_eight, lit_two, lit_three, one_coe, ← EReal.coe_zero, ← EReal.coe_add, ← EReal.coe_mul, ← EReal.coe_sub,
    div_coe_pos _ _ (odds_pos L G i j), div_coe_pos _ _ (odds_pos L G i j)]
  simp only [EReal.coe_eq_coe_iff]
  unfold routeOf
  by_cases c0 : c.val = 0
  · simp only [c0, Nat.cast_zero, if_true]
    congr 1; ring
  · by_cases c1 : c.val = 1
    · simp [c1]
    · by_cases c2 : c.val = 2
      · simp [c2]
      · by_cases c3 : c.val = 3
        · simp [c3]
        · have e0 : (c.val : ℝ) ≠ 0 := by exact_mod_cast c0
          have e1 : (c.val : ℝ) ≠ 1 := by exact_mod_cast c1
          have e2 : (c.val : ℝ) ≠ 2 := by exact_mod_cast c2
          have e3 : (c.val : ℝ) ≠ 3 := by exact_mod_cast c3
          simp only [c0, c1, c2, c3, e0, e1, e2, e3, if_false]

end fine

end Cert.Proof.Route
-- ==== Proof.RouteRef.lean ====
/- The reference of the route at one element: the layer norm's row, and the route of a row whose numbers are reals. -/
module

public import proofs.«01_k».proof.Proof.RouteModel
public import proofs.«01_k».proof.Proof.Gen.Reference6Ideal.Read

@[expose] public section

set_option maxRecDepth 16384

noncomputable section

namespace Cert.Proof.RouteR

open Idealize.ShloMosaic Idealize.ShloMosaic.TcCoe Idealize.SL.Sem Cert.Proof.Ssd Cert.Proof.Route
open Cert.Reference6Ideal Cert.Reference6Ideal.Gen Cert.Reference6Ideal.Read
open scoped BigOperators

variable (x0 : (⟨S16384x1024, .bf16⟩ : BufTy).Contents (Elt Ideal)) (x1 : (⟨S1024x1024, .bf16⟩ : BufTy).Contents (Elt Ideal)) (x2 : (⟨S16384x1024, .f32⟩ : BufTy).Contents (Elt Ideal))
  (x3 x4 : (⟨S1x1024, .f32⟩ : BufTy).Contents (Elt Ideal)) (x5 : (⟨S1024x8, .f32⟩ : BufTy).Contents (Elt Ideal)) (x6 : (⟨S1024x64, .f32⟩ : BufTy).Contents (Elt Ideal))

theorem norm_eq (r : Fin 16384) (d : Fin 1024) : val_main_v25 (F := Ideal) x0 x1 x2 x3 x4 (ix2 r d)
    = norm (fun x => Ideal.ofBits .f32 1071072509#32 * x2 (ix2 r x) + ∑ k : Fin 1024, x0 (ix2 r k) * x1 (ix2 k x)) (fun x => x3 (ix2 0 x)) (fun x => x4 (ix2 0 x)) d := by
  pointwise [val_main_v25, val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4]
  rfl

theorem coarse_eq (r : Fin 16384) (g : Fin 8) : val_main_v27 (F := Ideal) x0 x1 x2 x3 x4 x5 (ix2 r g)
    = ∑ x : Fin 1024, val_main_v25 (F := Ideal) x0 x1 x2 x3 x4 (ix2 r x) * x5 (ix2 x g) := by
  pointwise [val_main_v27]

theorem fine_eq (r : Fin 16384) (g e : Fin 8) : val_main_v53 (F := Ideal) x0 x1 x2 x3 x4 x6 (ix3 r g e)
    = ∑ x : Fin 1024, val_main_v25 (F := Ideal) x0 x1 x2 x3 x4 (ix2 r x) * x6 (ix2 x (⟨g.val * 8 + e.val, by omega⟩ : Fin 64)) := by
  pointwise [val_main_v53, val_main_v52]

/-! ## The route of one row -/

theorem index_eq (g : Fin 8) : val_main_v26 (F := Ideal) (ix1 g) = (((g.val : ℕ) : ℝ) : EReal) := by
  pointwise [val_main_v26]
  exact word_coe _ (by omega)

theorem eight_at (y : S_.Idx) : (id (constant (F := Ideal) S_ .f32 1090519040#32) : S_.Idx → EReal) y = ((8 : ℝ) : EReal) := lit_eight
theorem ninf_at (y : S_.Idx) : (id (constant (F := Ideal) S_ .f32 4286578688#32) : S_.Idx → EReal) y = ⊥ := ofBits_ninf
theorem zero_at (y : S_.Idx) : (id (constant (F := Ideal) S_ .f32 0#32) : S_.Idx → EReal) y = 0 := Ideal.ofBits_zero_f32

theorem same_index (x y : Fin 8) : ((((x.val : ℕ) : ℝ) : EReal) = (((y.val : ℕ) : ℝ) : EReal)) ↔ x = y := by
  rw [EReal.coe_eq_coe_iff, Nat.cast_inj, Fin.val_inj]

theorem eight_le : ((((8 : ℕ) : ℕ) : ℝ) : EReal) ≤ ((8 : ℝ) : EReal) := by norm_num

theorem sum_only (G : Fin 8) (f : Fin 8 → EReal) (z : EReal) (hz : z = 0) :
    (∑ x : Fin 8, if (((x.val : ℕ) : ℝ) : EReal) = (((G.val : ℕ) : ℝ) : EReal) then f x else z) = f G := by
  simp only [hz]
  simp only [same_index, Finset.sum_ite_eq', Finset.mem_univ, if_true]

variable (L : ℕ → ℝ) (G i j : Fin 8) (P : Pick L G i j) (r : Fin 16384)
  (h1 : ∀ g : Fin 8, val_main_v27 (F := Ideal) x0 x1 x2 x3 x4 x5 (ix2 r g) = ((L g.val : ℝ) : EReal))
  (h2 : ∀ g e : Fin 8, val_main_v53 (F := Ideal) x0 x1 x2 x3 x4 x6 (ix3 r g e) = ((L (8 + 8 * g.val + e.val) : ℝ) : EReal))

include h1 P in
theorem group_eq : val_main_v44 (F := Ideal) x0 x1 x2 x3 x4 x5 (ix1 r) = (((G.val : ℕ) : ℝ) : EReal) := by
  pointwise [val_main_v44, val_main_v43, val_main_v42, val_main_v41, val_main_v40, val_main_v39, val_main_call0_v0, val_main_call0_v1, val_main_call0_v2, val_main_cst_8, val_main_cst_9, val_main_cst_10]
  simp only [h1, index_eq, lit_pinf, ofBits_ninf]
  rw [P.grp.fold_max]
  exact P.grp.fold_min _ (eight_le.trans (le_of_eq (eight_at ix0).symm))

include h1 P in
theorem share_eq : val_main_v51 (F := Ideal) x0 x1 x2 x3 x4 x5 (ix1 r) = ((share L G : ℝ) : EReal) := by
  pointwise [val_main_v51, val_main_v50, val_main_v49, val_main_v48, val_main_v47, val_main_v46, val_main_v45, val_main_call1_v0, val_main_call1_v1, val_main_cst_11, val_main_cst_12]
  simp only [index_eq, group_eq x0 x1 x2 x3 x4 x5 L G i j P r h1]
  refine (sum_only G (fun x => val_main_v38 (F := Ideal) x0 x1 x2 x3 x4 x5 (ix2 r x)) _ (zero_at ix0)).trans ?_
  pointwise [val_main_v38, val_main_v37, val_main_v36, val_main_v35, val_main_v34, val_main_v33, val_main_v32, val_main_v31, val_main_v30, val_main_v29, val_main_v28, val_main_cst_5, val_main_cst_6, val_main_cst_7]
  simp only [h1, ofBits_ninf]
  rw [P.grp.fold_max, max_eq_right bot_le]
  simp only [← EReal.coe_sub, Ideal.exp_coe, coe_sum]
  rw [div_coe_pos _ _ (sum_exp_pos L G), sub_self, Real.exp_zero]
  rfl

include h1 h2 P in
theorem group_row (e : Fin 8) : val_main_v61 (F := Ideal) x0 x1 x2 x3 x4 x5 x6 (ix2 r e) = ((L (8 + 8 * G.val + e.val) : ℝ) : EReal) := by
  pointwise [val_main_v61, val_main_v60, val_main_v59, val_main_v58, val_main_v57, val_main_v56, val_main_v55, val_main_v54, val_main_call2_v0, val_main_call2_v1, val_main_call2_v2, val_main_cst_13, val_main_cst_14]
  simp only [index_eq, group_eq x0 x1 x2 x3 x4 x5 L G i j P r h1, h2]
  exact sum_only G (fun x => ((L (8 + 8 * x.val + e.val) : ℝ) : EReal)) _ (zero_at ix0)

include h1 h2 P in
theorem first_eq : val_main_v67 (F := Ideal) x0 x1 x2 x3 x4 x5 x6 (ix1 r) = (((i.val : ℕ) : ℝ) : EReal) := by
  pointwise [val_main_v67, val_main_v66, val_main_v65, val_main_v64, val_main_v63, val_main_v62, val_main_call3_v0, val_main_call3_v1, val_main_call3_v2, val_main_cst_15, val_main_cst_16, val_main_cst_17]
  simp only [group_row x0 x1 x2 x3 x4 x5 x6 L G i j P r h1 h2, index_eq, lit_pinf, ofBits_ninf]
  rw [P.fst.fold_max]
  exact P.fst.fold_min _ (eight_le.trans (le_of_eq (eight_at ix0).symm))

include h1 h2 P in
theorem rest_eq (e : Fin 8) : val_main_v73 (F := Ideal) x0 x1 x2 x3 x4 x5 x6 (ix2 r e) = if e = i then (⊥ : EReal) else ((L (8 + 8 * G.val + e.val) : ℝ) : EReal) := by
  pointwise [val_main_v73, val_main_v72, val_main_v71, val_main_v70, val_main_v69, val_main_v68, val_main_call4_v0, val_main_call4_v1, val_main_cst_18]
  simp only [group_row x0 x1 x2 x3 x4 x5 x6 L G i j P r h1 h2, index_eq, first_eq x0 x1 x2 x3 x4 x5 x6 L G i j P r h1 h2, same_index]
  exact congrArg (fun z => if e = i then z else ((L (8 + 8 * G.val + e.val) : ℝ) : EReal)) (ninf_at ix0)

include h1 h2 P in
theorem second_eq : val_main_v79 (F := Ideal) x0 x1 x2 x3 x4 x5 x6 (ix1 r) = (((j.val : ℕ) : ℝ) : EReal) := by
  pointwise [val_main_v79, val_main_v78, val_main_v77, val_main_v76, val_main_v75, val_main_v74, val_main_call5_v0, val_main_call5_v1, val_main_call5_v2, val_main_cst_19, val_main_cst_20, val_main_cst_21]
  simp only [rest_eq x0 x1 x2 x3 x4 x5 x6 L G i j P r h1 h2, index_eq, lit_pinf, ofBits_ninf]
  rw [P.snd.fold_max]
  exact P.snd.fold_min _ (eight_le.trans (le_of_eq (eight_at ix0).symm))

include h1 h2 P in
theorem tops_eq (e : Fin 2) : val_main_v84 (F := Ideal) x0 x1 x2 x3 x4 x5 x6 (ix2 r e)
    = if e.val < 1 then ((L (8 + 8 * G.val + i.val) : ℝ) : EReal) else ((L (8 + 8 * G.val + j.val) : ℝ) : EReal) := by
  pointwise [val_main_v84, val_main_v83, val_main_v82, val_main_v81, val_main_v80, val_main_cst_22, val_main_cst_23]
  simp only [group_row x0 x1 x2 x3 x4 x5 x6 L G i j P r h1 h2, rest_eq x0 x1 x2 x3 x4 x5 x6 L G i j P r h1 h2, ofBits_ninf]
  rw [P.fst.fold_max, P.snd.fold_max, if_neg P.ne]
  rfl

include h1 h2 P in
theorem experts_eq (e : Fin 2) : val_main_v87 (F := Ideal) x0 x1 x2 x3 x4 x5 x6 (ix2 r e) = if e.val < 1 then (((i.val : ℕ) : ℝ) : EReal) else (((j.val : ℕ) : ℝ) : EReal) := by
  pointwise [val_main_v87, val_main_v86, val_main_v85]
  rw [first_eq x0 x1 x2 x3 x4 x5 x6 L G i j P r h1 h2, second_eq x0 x1 x2 x3 x4 x5 x6 L G i j P r h1 h2]
  rfl

include h1 h2 P in
theorem weights_eq (e : Fin 2) : val_main_v98 (F := Ideal) x0 x1 x2 x3 x4 x5 x6 (ix2 r e) = (((if e.val < 1 then 1 else odds L G i j) / (1 + odds L G i j) : ℝ) : EReal) := by
  pointwise [val_main_v98, val_main_v97, val_main_v96, val_main_v95, val_main_v94, val_main_v93, val_main_v92, val_main_v91, val_main_v90, val_main_v89, val_main_v88, val_main_cst_24, val_main_cst_25, val_main_cst_26]
  simp only [tops_eq x0 x1 x2 x3 x4 x5 x6 L G i j P r h1 h2, ofBits_ninf]
  have F : First (fun x : Fin 2 => if x.val < 1 then ((L (8 + 8 * G.val + i.val) : ℝ) : EReal) else ((L (8 + 8 * G.val + j.val) : ℝ) : EReal)) 0 := by
    refine ⟨fun x => ?_, fun x hx => absurd hx (Fin.not_lt_zero x)⟩
    fin_cases x
    · exact le_rfl
    · exact P.fst.1 j
  rw [F.fold_max, max_eq_right bot_le, Fin.sum_univ_two]
  have z : ((0 : Fin 2).val < 1) = True := by simp
  have o : ((1 : Fin 2).val < 1) = False := by simp
  simp only [z, o, if_true, if_false, ← EReal.coe_sub, Ideal.exp_coe, sub_self, Real.exp_zero]
  rw [← EReal.coe_add, show (1 : ℝ) + Real.exp (L (8 + 8 * G.val + j.val) - L (8 + 8 * G.val + i.val)) = 1 + odds L G i j from rfl]
  by_cases he : e.val < 1
  · simp only [he, if_true, ← EReal.coe_sub, sub_self, Ideal.exp_coe, Real.exp_zero]
    exact div_coe_pos _ _ (odds_pos L G i j)
  · simp only [he, if_false, ← EReal.coe_sub, Ideal.exp_coe]
    exact div_coe_pos _ _ (odds_pos L G i j)

include h1 h2 P in
theorem route_eq (c : Fin 128) : val_main_v108 (F := Ideal) x0 x1 x2 x3 x4 x5 x6 (ix2 r c) = ((routeOf L G i j c.val : ℝ) : EReal) := by
  pointwise [val_main_v108, val_main_v107, val_main_v106, val_main_v105, val_main_v104, val_main_v103, val_main_v102, val_main_v101, val_main_v100, val_main_v99, val_main_cst_27, val_main_cst_28]
  simp only [group_eq x0 x1 x2 x3 x4 x5 L G i j P r h1, share_eq x0 x1 x2 x3 x4 x5 L G i j P r h1, experts_eq x0 x1 x2 x3 x4 x5 x6 L G i j P r h1 h2, weights_eq x0 x1 x2 x3 x4 x5 x6 L G i j P r h1 h2, lit_eight]
  unfold routeOf
  have hc := c.isLt
  by_cases c0 : c.val = 0
  · simp [c0, mul_comm]
  · by_cases c1 : c.val = 1
    · simp [c1, mul_comm]
    · by_cases c2 : c.val = 2
      · simp [c2, ← EReal.coe_mul, div_eq_mul_inv]
      · by_cases c3 : c.val = 3
        · simp [c3, ← EReal.coe_mul, div_eq_mul_inv, mul_assoc]
        · simp only [c0, c1, c2, c3, if_false, show ¬ c.val < 2 by omega, show ¬ c.val - 2 < 2 by omega, dif_neg, not_false_iff, EReal.coe_zero]

end Cert.Proof.RouteR
-- ==== Proof.RouteKernel.lean ====
/- The route's kernel and its result arrays: each block it writes is the reference's, element by element, for real arguments. -/
module

public import proofs.«01_k».proof.Proof.RouteBody
public import proofs.«01_k».proof.Proof.RouteRef
public import proofs.«01_k».proof.Proof.Ssd
public import Idealize.ShloMosaic.Lib.Pipeline.Value
public import Idealize.ShloMosaic.Lib.StableHlo.ReadAt

@[expose] public section

set_option maxRecDepth 16384

noncomputable section

namespace Cert.Proof.Route

open Idealize.ShloMosaic Idealize.ShloMosaic.TcCoe Idealize.SL.Sem Cert.Proof.Ssd
open Cert.Kernel6Ideal Cert.Kernel6Ideal.Gen
open scoped BigOperators

variable (m : (ℓ : Loc nD τ sig) → Buf (Elt Ideal) ℓ)

/-! ## Each window's block -/

theorem rows_at : ∀ t : Fin cfg0.N, win0_0.index t (0 : Fin 2) = t.val ∧ win0_0.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem still_at : ∀ t : Fin cfg0.N, win0_1.index t (0 : Fin 2) = 0 ∧ win0_1.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem blk0 (cc : Dev nD) (t : Fin cfg0.N) (r : Fin 512) (l : Fin 1024) (R : Fin 16384) (hR : R.val = 512 * t.val + r.val) :
    (iblk m cc 0 t : Vec Ideal S512x1024 .bf16) (ix2 r l) = (m ((cc : Thread nD τ).loc main_arg0) : Vec Ideal S16384x1024 .bf16) (ix2 R l) := by
  obtain ⟨e0, e1, -⟩ := rows_at t
  unfold iblk
  rw [View.read_apply]
  show V m cc main_arg0 _ = _
  rw [V_main_arg0]
  congr 1
  funext a
  apply Fin.ext
  match a with
  | ⟨0, _⟩ => show win0_0.index t 0 * 512 + 1 * r.val = R.val; rw [e0]; omega
  | ⟨1, _⟩ => show win0_0.index t 1 * 1024 + 1 * l.val = l.val; rw [e1]; omega

theorem blk1 (cc : Dev nD) (t : Fin cfg0.N) (k l : Fin 1024) :
    (iblk m cc 1 t : Vec Ideal S1024x1024 .bf16) (ix2 k l) = (m ((cc : Thread nD τ).loc main_arg1) : Vec Ideal S1024x1024 .bf16) (ix2 k l) := by
  obtain ⟨e0, e1, -⟩ := still_at t
  unfold iblk
  rw [View.read_apply]
  show V m cc main_arg1 _ = _
  rw [V_main_arg1]
  congr 1
  funext a
  apply Fin.ext
  match a with
  | ⟨0, _⟩ => show win0_1.index t 0 * 1024 + 1 * k.val = k.val; rw [e0]; omega
  | ⟨1, _⟩ => show win0_1.index t 1 * 1024 + 1 * l.val = l.val; rw [e1]; omega

theorem blk2 (cc : Dev nD) (t : Fin cfg0.N) (r : Fin 512) (l : Fin 1024) (R : Fin 16384) (hR : R.val = 512 * t.val + r.val) :
    (iblk m cc 2 t : Vec Ideal S512x1024 .f32) (ix2 r l) = (m ((cc : Thread nD τ).loc main_arg2) : Vec Ideal S16384x1024 .f32) (ix2 R l) := by
  obtain ⟨-, -, e0, e1, -⟩ := rows_at t
  unfold iblk
  rw [View.read_apply]
  show V m cc main_arg2 _ = _
  rw [V_main_arg2]
  congr 1
  funext a
  apply Fin.ext
  match a with
  | ⟨0, _⟩ => show win0_2.index t 0 * 512 + 1 * r.val = R.val; rw [e0]; omega
  | ⟨1, _⟩ => show win0_2.index t 1 * 1024 + 1 * l.val = l.val; rw [e1]; omega

theorem blk3 (cc : Dev nD) (t : Fin cfg0.N) (l : Fin 1024) :
    (iblk m cc 3 t : Vec Ideal S1x1024 .f32) (ix2 0 l) = (m ((cc : Thread nD τ).loc main_arg3) : Vec Ideal S1x1024 .f32) (ix2 0 l) := by
  obtain ⟨-, -, e0, e1, -⟩ := still_at t
  unfold iblk
  rw [View.read_apply]
  show V m cc main_arg3 _ = _
  rw [V_main_arg3]
  congr 1
  funext a
  apply Fin.ext
  match a with
  | ⟨0, _⟩ => show win0_3.index t 0 * 1 + 1 * 0 = 0; rw [e0]
  | ⟨1, _⟩ => show win0_3.index t 1 * 1024 + 1 * l.val = l.val; rw [e1]; omega

theorem blk4 (cc : Dev nD) (t : Fin cfg0.N) (l : Fin 1024) :
    (iblk m cc 4 t : Vec Ideal S1x1024 .f32) (ix2 0 l) = (m ((cc : Thread nD τ).loc main_arg4) : Vec Ideal S1x1024 .f32) (ix2 0 l) := by
  obtain ⟨-, -, -, -, e0, e1, -⟩ := still_at t
  unfold iblk
  rw [View.read_apply]
  show V m cc main_arg4 _ = _
  rw [V_main_arg4]
  congr 1
  funext a
  apply Fin.ext
  match a with
  | ⟨0, _⟩ => show win0_4.index t 0 * 1 + 1 * 0 = 0; rw [e0]
  | ⟨1, _⟩ => show win0_4.index t 1 * 1024 + 1 * l.val = l.val; rw [e1]; omega

theorem blk5 (cc : Dev nD) (t : Fin cfg0.N) (d : Fin 1024) (l : Fin 256) :
    (iblk m cc 5 t : Vec Ideal S1024x256 .bf16) (ix2 d l) = (V m cc main_v6 : Vec Ideal S1024x256 .bf16) (ix2 d l) := by
  obtain ⟨-, -, -, -, -, -, e0, e1⟩ := still_at t
  unfold iblk
  rw [View.read_apply]
  show V m cc main_v6 _ = _
  congr 1
  funext a
  apply Fin.ext
  match a with
  | ⟨0, _⟩ => show win0_5.index t 0 * 1024 + 1 * d.val = d.val; rw [e0]; omega
  | ⟨1, _⟩ => show win0_5.index t 1 * 256 + 1 * l.val = l.val; rw [e1]; omega

/-! ## The two routing weights side by side -/

/-- The coarse columns, the fine columns, then zeros. -/
def wide (a5 : S1024x8.Idx → EReal) (a6 : S1024x64.Idx → EReal) (d : Fin 1024) (c : Fin 128) : EReal :=
  if h : c.val < 72 then if h1 : c.val < 8 then a5 (ix2 d ⟨c.val, h1⟩) else a6 (ix2 d ⟨c.val - 8, by omega⟩) else FloatOps.sitofp (F := Ideal) FTy.f32 0#32

theorem high_eq (cc : Dev nD) (d : Fin 1024) (c : Fin 128) : (V m cc main_v6 : Vec Ideal S1024x256 .bf16) (ix2 d ⟨c.val, by omega⟩)
    = wide (m ((cc : Thread nD τ).loc main_arg5)) (m ((cc : Thread nD τ).loc main_arg6)) d c := by
  unfold V
  after_reads_at
  rfl

theorem low_eq (cc : Dev nD) (d : Fin 1024) (c : Fin 128) : (V m cc main_v6 : Vec Ideal S1024x256 .bf16) (ix2 d ⟨128 + c.val, by omega⟩)
    = (wide (m ((cc : Thread nD τ).loc main_arg5)) (m ((cc : Thread nD τ).loc main_arg6)) d c
      - wide (m ((cc : Thread nD τ).loc main_arg5)) (m ((cc : Thread nD τ).loc main_arg6)) d c : EReal) := by
  unfold V
  after_reads_at
  rfl

/-- The same for matrices of reals. -/
def wideR (w5 w6 : ℕ → ℕ → ℝ) (d c : ℕ) : ℝ := if c < 8 then w5 d c else if c < 72 then w6 d (c - 8) else 0

theorem wide_real (a5 : S1024x8.Idx → EReal) (a6 : S1024x64.Idx → EReal) (w5 w6 : ℕ → ℕ → ℝ)
    (h5 : ∀ (d : Fin 1024) (c : Fin 8), a5 (ix2 d c) = ((w5 d.val c.val : ℝ) : EReal))
    (h6 : ∀ (d : Fin 1024) (c : Fin 64), a6 (ix2 d c) = ((w6 d.val c.val : ℝ) : EReal)) (d : Fin 1024) (c : Fin 128) :
    wide a5 a6 d c = ((wideR w5 w6 d.val c.val : ℝ) : EReal) := by
  unfold wide wideR
  by_cases h1 : c.val < 8
  · rw [dif_pos (by omega), dif_pos h1, if_pos h1]; exact h5 _ _
  · rw [if_neg h1]
    by_cases h : c.val < 72
    · rw [dif_pos h, dif_neg h1, if_pos h]; exact h6 _ _
    · rw [dif_neg h, if_neg h]
      exact (word_coe 0 (by norm_num)).trans (by norm_num)

/-! ## What the body leaves -/

section block
variable (x0 : Vec Ideal S512x1024 .bf16) (x1 : Vec Ideal S1024x1024 .bf16) (x2 : Vec Ideal S512x1024 .f32) (x3 x4 : Vec Ideal S1x1024 .f32) (x5 : Vec Ideal S1024x256 .bf16)

theorem corner : (![0, 0] : Fin 2 → Nat) = fun _ => 0 := by decide

theorem out6_eq : out0_6 x0 x1 x2 x3 x4 x5 = k0_pay2 x0 x1 x2 x3 x4 := by
  unfold out0_6
  rw [View.canon_unit_zero corner, View.ld_unit_zero corner, View.ld_unit_zero corner, View.ld_unit_zero corner, View.ld_unit_zero corner, View.ld_unit_zero corner]

/-- The row's numbers: the low halves vanish, so they are the products with the weights. -/
theorem logits_out (r : Fin 512) (x : Fin 1024 → ℝ) (w : ℕ → ℕ → ℝ) (hx : ∀ d, k0_pay2 x0 x1 x2 x3 x4 (ix2 r d) = ((x d : ℝ) : EReal))
    (hh : ∀ (d : Fin 1024) (c : Fin 128), (x5 (ix2 d ⟨c.val, by omega⟩) : EReal) = ((w d.val c.val : ℝ) : EReal))
    (hl : ∀ (d : Fin 1024) (c : Fin 128), (x5 (ix2 d ⟨128 + c.val, by omega⟩) : EReal) = 0) (v40 : Vec Ideal S1024x128 .bf16) (c : Fin 128) :
    k0_pay6 (k0_pay3 x0 x1 x2 x3 x4) (k0_pay4 x0 x1 x2 x3 x4) (k0_pay5 x5) (k0_pay25 x0 x1 x2 x3 x4 x5) v40 (ix2 r c)
      = ((∑ d : Fin 1024, x d * w d.val c.val : ℝ) : EReal) := by
  have e3 : ∀ d, k0_pay3 x0 x1 x2 x3 x4 (ix2 r d) = ((x d : ℝ) : EReal) := hx
  have e4 : ∀ d, k0_pay4 x0 x1 x2 x3 x4 (ix2 r d) = (0 : EReal) := fun d => by
    pointwise [k0_pay4]
    rw [e3, hx]
    exact coe_sub_self _
  have e5 : ∀ y, k0_pay5 x5 y = x5 y := fun y => by
    pointwise [k0_pay5]
  refine (logits_eq _ _ _ (k0_pay25 x0 x1 x2 x3 x4 x5) (fun y => Ideal.ofBits_zero_f32) v40 r c).trans ?_
  simp only [e3, e4, e5, hh, hl, mul_zero, zero_mul, Finset.sum_const_zero, add_zero, ← EReal.coe_mul, coe_sum]

theorem out7_eq (r : Fin 512) (L : ℕ → ℝ) (G i j : Fin 8) (P : Pick L G i j)
    (h : ∀ c : Fin 128, k0_pay6 (k0_pay3 x0 x1 x2 x3 x4) (k0_pay4 x0 x1 x2 x3 x4) (k0_pay5 x5) (k0_pay25 x0 x1 x2 x3 x4 x5) (View.ld x5 r0_4) (ix2 r c) = ((L c.val : ℝ) : EReal))
    (c : Fin 128) : out0_7 x0 x1 x2 x3 x4 x5 (ix2 r c) = ((routeOf L G i j c.val : ℝ) : EReal) := by
  unfold out0_7
  rw [View.canon_unit_zero corner]
  unfold k0_pay32 k0_pay31 k0_pay30 k0_pay29 k0_pay28 k0_pay27 k0_pay26
  rw [View.ld_unit_zero corner, View.ld_unit_zero corner, View.ld_unit_zero corner, View.ld_unit_zero corner, View.ld_unit_zero corner, View.ld_unit_zero corner]
  exact route_eq L G i j P r _ _ _ _ (lane_eq r) (fine_eq L G i j P r _ _ _ _ _ h) (top_eq L G i j P r _ _ _ _ _ h) (share_eq L G i j P r _ _ _ _ _ h) c

end block

/-! ## The rows of real arguments -/

section row
open Cert.Reference6Ideal.Read
variable (b0 : Vec Ideal S16384x1024 .bf16) (b1 : Vec Ideal S1024x1024 .bf16) (b2 : Vec Ideal S16384x1024 .f32) (b3 b4 : Vec Ideal S1x1024 .f32)
  (b5 : Vec Ideal S1024x8 .f32) (b6 : Vec Ideal S1024x64 .f32)

/-- Every array of the seven is real. -/
structure Real7 : Prop where
  r0 : ∀ i, (b0 i : EReal) = ((b0 i : EReal).toReal : EReal)
  r1 : ∀ i, (b1 i : EReal) = ((b1 i : EReal).toReal : EReal)
  r2 : ∀ i, (b2 i : EReal) = ((b2 i : EReal).toReal : EReal)
  r3 : ∀ i, (b3 i : EReal) = ((b3 i : EReal).toReal : EReal)
  r4 : ∀ i, (b4 i : EReal) = ((b4 i : EReal).toReal : EReal)
  r5 : ∀ i, (b5 i : EReal) = ((b5 i : EReal).toReal : EReal)
  r6 : ∀ i, (b6 i : EReal) = ((b6 i : EReal).toReal : EReal)

variable (H : Real7 b0 b1 b2 b3 b4 b5 b6) (R : Fin 16384)

include H in
theorem row_real : ∃ x : Fin 1024 → ℝ, ∀ d, val_main_v25 (F := Ideal) b0 b1 b2 b3 b4 (ix2 R d) = ((x d : ℝ) : EReal) := by
  obtain ⟨e, he⟩ := lit_alpha
  obtain ⟨x, hx⟩ := norm_real (fun x => e * mat b2 R.val x.val + ∑ k : Fin 1024, mat b0 R.val k.val * mat b1 k.val x.val) (fun x => mat b3 0 x.val) (fun x => mat b4 0 x.val)
  refine ⟨x, fun d => ?_⟩
  rw [RouteR.norm_eq, ← hx d]
  congr 1
  · funext x
    rw [he, mat_eq b2 H.r2]
    simp only [mat_eq b0 H.r0, mat_eq b1 H.r1, ← EReal.coe_mul, coe_sum, ← EReal.coe_add]
  · funext x
    exact mat_eq b3 H.r3 0 x
  · funext x
    exact mat_eq b4 H.r4 0 x

/-- The row's numbers. -/
def logit (x : Fin 1024 → ℝ) (c : ℕ) : ℝ := ∑ d : Fin 1024, x d * wideR (mat b5) (mat b6) d.val c

variable (x : Fin 1024 → ℝ) (hx : ∀ d, val_main_v25 (F := Ideal) b0 b1 b2 b3 b4 (ix2 R d) = ((x d : ℝ) : EReal))

include H hx in
theorem coarse_ref (g : Fin 8) : val_main_v27 (F := Ideal) b0 b1 b2 b3 b4 b5 (ix2 R g) = ((logit b5 b6 x g.val : ℝ) : EReal) := by
  rw [RouteR.coarse_eq]
  simp only [hx, mat_eq b5 H.r5, ← EReal.coe_mul, coe_sum]
  unfold logit wideR
  simp only [g.isLt, if_true]

include H hx in
theorem fine_ref (g e : Fin 8) : val_main_v53 (F := Ideal) b0 b1 b2 b3 b4 b6 (ix3 R g e) = ((logit b5 b6 x (8 + 8 * g.val + e.val) : ℝ) : EReal) := by
  rw [RouteR.fine_eq]
  simp only [hx, mat_eq b6 H.r6, ← EReal.coe_mul, coe_sum]
  unfold logit wideR
  simp only [show ¬ 8 + 8 * g.val + e.val < 8 by omega, show 8 + 8 * g.val + e.val < 72 by omega, show 8 + 8 * g.val + e.val - 8 = g.val * 8 + e.val by omega, if_true, if_false]

/-- Row `r` of the blocks is row `R` of the arrays, and the sixth block is the packed routing weights. -/
structure Row (x0 : Vec Ideal S512x1024 .bf16) (x1 : Vec Ideal S1024x1024 .bf16) (x2 : Vec Ideal S512x1024 .f32) (x3 x4 : Vec Ideal S1x1024 .f32)
    (x5 : Vec Ideal S1024x256 .bf16) (r : Fin 512) : Prop where
  e0 : ∀ k : Fin 1024, (x0 (ix2 r k) : EReal) = b0 (ix2 R k)
  e1 : ∀ k l : Fin 1024, (x1 (ix2 k l) : EReal) = b1 (ix2 k l)
  e2 : ∀ l : Fin 1024, (x2 (ix2 r l) : EReal) = b2 (ix2 R l)
  e3 : ∀ l : Fin 1024, (x3 (ix2 0 l) : EReal) = b3 (ix2 0 l)
  e4 : ∀ l : Fin 1024, (x4 (ix2 0 l) : EReal) = b4 (ix2 0 l)
  hi : ∀ (d : Fin 1024) (c : Fin 128), (x5 (ix2 d ⟨c.val, by omega⟩) : EReal) = wide b5 b6 d c
  lo : ∀ (d : Fin 1024) (c : Fin 128), (x5 (ix2 d ⟨128 + c.val, by omega⟩) : EReal) = wide b5 b6 d c - wide b5 b6 d c

variable {x0 : Vec Ideal S512x1024 .bf16} {x1 : Vec Ideal S1024x1024 .bf16} {x2 : Vec Ideal S512x1024 .f32} {x3 x4 : Vec Ideal S1x1024 .f32}
  {x5 : Vec Ideal S1024x256 .bf16} {r : Fin 512} (E : Row b0 b1 b2 b3 b4 b5 b6 R x0 x1 x2 x3 x4 x5 r)

include E in
theorem norm_same (d : Fin 1024) : k0_pay2 x0 x1 x2 x3 x4 (ix2 r d) = val_main_v25 (F := Ideal) b0 b1 b2 b3 b4 (ix2 R d) := by
  rw [pay2_eq, RouteR.norm_eq]
  simp only [E.e0, E.e1, E.e2, E.e3, E.e4]

include H E in
theorem route_same (c : Fin 128) : out0_7 x0 x1 x2 x3 x4 x5 (ix2 r c) = val_main_v108 (F := Ideal) b0 b1 b2 b3 b4 b5 b6 (ix2 R c) := by
  obtain ⟨x, hx⟩ := row_real _ _ _ _ _ _ _ H R
  obtain ⟨G, i, j, P⟩ := pick_exists (logit b5 b6 x)
  have hw := wide_real b5 b6 _ _ (mat_eq b5 H.r5) (mat_eq b6 H.r6)
  refine (out7_eq _ _ _ _ _ _ r _ G i j P (fun c => logits_out _ _ _ _ _ _ r x _ (fun d => (norm_same _ _ _ _ _ _ _ R E d).trans (hx d))
    (fun d c => (E.hi d c).trans (hw d c)) (fun d c => (E.lo d c).trans (by rw [hw]; exact coe_sub_self _)) _ c) c).trans ?_
  exact (RouteR.route_eq _ _ _ _ _ _ _ _ G i j P R (coarse_ref _ _ _ _ _ _ _ H R x hx) (fine_ref _ _ _ _ _ _ _ H R x hx) c).symm

end row

/-! ## The two result arrays -/

section result
variable (cc : Dev nD)

/-- The reference's two arrays of the kernel's arguments. -/
def ref6 : Vec Ideal S16384x1024 .f32 := Cert.Reference6Ideal.Read.val_main_v25 (F := Ideal) (m ((cc : Thread nD τ).loc main_arg0)) (m ((cc : Thread nD τ).loc main_arg1)) (m ((cc : Thread nD τ).loc main_arg2)) (m ((cc : Thread nD τ).loc main_arg3)) (m ((cc : Thread nD τ).loc main_arg4))
def ref7 : Vec Ideal S16384x128 .f32 := Cert.Reference6Ideal.Read.val_main_v108 (F := Ideal) (m ((cc : Thread nD τ).loc main_arg0)) (m ((cc : Thread nD τ).loc main_arg1)) (m ((cc : Thread nD τ).loc main_arg2)) (m ((cc : Thread nD τ).loc main_arg3)) (m ((cc : Thread nD τ).loc main_arg4)) (m ((cc : Thread nD τ).loc main_arg5)) (m ((cc : Thread nD τ).loc main_arg6))

theorem row_at (t : Fin cfg0.N) (r : Fin 512) (R : Fin 16384) (hR : R.val = 512 * t.val + r.val) :
    Row (m ((cc : Thread nD τ).loc main_arg0)) (m ((cc : Thread nD τ).loc main_arg1)) (m ((cc : Thread nD τ).loc main_arg2)) (m ((cc : Thread nD τ).loc main_arg3)) (m ((cc : Thread nD τ).loc main_arg4)) (m ((cc : Thread nD τ).loc main_arg5)) (m ((cc : Thread nD τ).loc main_arg6)) R
      (iblk m cc 0 t) (iblk m cc 1 t) (iblk m cc 2 t) (iblk m cc 3 t) (iblk m cc 4 t) (iblk m cc 5 t) r where
  e0 k := blk0 m cc t r k R hR
  e1 := blk1 m cc t
  e2 l := blk2 m cc t r l R hR
  e3 := blk3 m cc t
  e4 := blk4 m cc t
  hi d c := (blk5 m cc t d _).trans (high_eq m cc d c)
  lo d c := (blk5 m cc t d _).trans (low_eq m cc d c)

theorem final6 : (dats m 0 cc).arrAt 6 cfg0.N = ref6 m cc := by
  refine (dats m 0 cc).arrAt_eq_of_cover 6 _ (fun t _ => ?_) (fun i => ?_)
  · show (cfg0.win 6).cut (grid0.coords t) ((dats m 0 cc).after 6 t) = _
    rw [after0_6]
    funext y
    obtain ⟨-, -, -, -, e0, e1, -⟩ := rows_at t
    have hy0 : (y 0).val < 512 := (y 0).isLt
    have hy1 : (y 1).val < 1024 := (y 1).isLt
    have ht : t.val < 32 := lt_of_lt_of_eq t.isLt N_0
    show out0_6 (iblk m cc 0 t) (iblk m cc 1 t) (iblk m cc 2 t) (iblk m cc 3 t) (iblk m cc 4 t) (iblk m cc 5 t) ((cfg0.win 6).xinj (grid0.coords t) y) = _
    have ey : ((cfg0.win 6).xinj (grid0.coords t) y : S512x1024.Idx) = ix2 (⟨(y 0).val, hy0⟩ : Fin 512) (⟨(y 1).val, hy1⟩ : Fin 1024) := by
      funext a
      match a with
      | ⟨0, _⟩ => rfl
      | ⟨1, _⟩ => rfl
    rw [ey]
    refine Eq.trans ((congrFun (out6_eq _ _ _ _ _ _) _).trans (norm_same _ _ _ _ _ _ _ _ (row_at m cc t _ ⟨512 * t.val + (y 0).val, by omega⟩ rfl) _)) ?_
    show _ = ref6 m cc (((cfg0.win 6).blk t).view.emb y)
    refine congrArg (ref6 m cc) ?_
    funext a
    apply Fin.ext
    match a with
    | ⟨0, _⟩ => show 512 * t.val + (y 0).val = win0_6.index t (0 : Fin 2) * 512 + 1 * (y 0).val; rw [e0]; omega
    | ⟨1, _⟩ => show (y 1).val = win0_6.index t (1 : Fin 2) * 1024 + 1 * (y 1).val; rw [e1]; omega
  · have h0 : (i 0).val < 16384 := (i 0).isLt
    have h1 : (i 1).val < 1024 := (i 1).isLt
    obtain ⟨t, ht⟩ : ∃ t : Fin cfg0.N, t.val = (i 0).val / 512 := ⟨⟨(i 0).val / 512, by rw [show cfg0.N = 32 from N_0]; omega⟩, rfl⟩
    obtain ⟨-, -, -, -, e0, e1, -⟩ := rows_at t
    refine ⟨t, flush0_6 t, ?_⟩
    show i ∈ ((View.whole main_v7_0).slice (win0_6.rect t)).set
    rw [View.set_slice_whole, Rect.mem_set_unit]
    intro a
    match a with
    | ⟨0, _⟩ => show win0_6.index t (0 : Fin 2) * 512 ≤ (i 0).val ∧ (i 0).val < win0_6.index t (0 : Fin 2) * 512 + 512; rw [e0, ht]; omega
    | ⟨1, _⟩ => show win0_6.index t (1 : Fin 2) * 1024 ≤ (i 1).val ∧ (i 1).val < win0_6.index t (1 : Fin 2) * 1024 + 1024; rw [e1]; omega

theorem final7 (H : Real7 (m ((cc : Thread nD τ).loc main_arg0)) (m ((cc : Thread nD τ).loc main_arg1)) (m ((cc : Thread nD τ).loc main_arg2)) (m ((cc : Thread nD τ).loc main_arg3)) (m ((cc : Thread nD τ).loc main_arg4)) (m ((cc : Thread nD τ).loc main_arg5)) (m ((cc : Thread nD τ).loc main_arg6))) : (dats m 0 cc).arrAt 7 cfg0.N = ref7 m cc := by
  refine (dats m 0 cc).arrAt_eq_of_cover 7 _ (fun t _ => ?_) (fun i => ?_)
  · show (cfg0.win 7).cut (grid0.coords t) ((dats m 0 cc).after 7 t) = _
    rw [after0_7]
    funext y
    obtain ⟨-, -, -, -, -, -, e0, e1⟩ := rows_at t
    have hy0 : (y 0).val < 512 := (y 0).isLt
    have hy1 : (y 1).val < 128 := (y 1).isLt
    have ht : t.val < 32 := lt_of_lt_of_eq t.isLt N_0
    show out0_7 (iblk m cc 0 t) (iblk m cc 1 t) (iblk m cc 2 t) (iblk m cc 3 t) (iblk m cc 4 t) (iblk m cc 5 t) ((cfg0.win 7).xinj (grid0.coords t) y) = _
    have ey : ((cfg0.win 7).xinj (grid0.coords t) y : S512x128.Idx) = ix2 (⟨(y 0).val, hy0⟩ : Fin 512) (⟨(y 1).val, hy1⟩ : Fin 128) := by
      funext a
      match a with
      | ⟨0, _⟩ => rfl
      | ⟨1, _⟩ => rfl
    rw [ey]
    refine Eq.trans (route_same _ _ _ _ _ _ _ H _ (row_at m cc t _ ⟨512 * t.val + (y 0).val, by omega⟩ rfl) _) ?_
    show _ = ref7 m cc (((cfg0.win 7).blk t).view.emb y)
    refine congrArg (ref7 m cc) ?_
    funext a
    apply Fin.ext
    match a with
    | ⟨0, _⟩ => show 512 * t.val + (y 0).val = win0_7.index t (0 : Fin 2) * 512 + 1 * (y 0).val; rw [e0]; omega
    | ⟨1, _⟩ => show (y 1).val = win0_7.index t (1 : Fin 2) * 128 + 1 * (y 1).val; rw [e1]; omega
  · have h0 : (i 0).val < 16384 := (i 0).isLt
    have h1 : (i 1).val < 128 := (i 1).isLt
    obtain ⟨t, ht⟩ : ∃ t : Fin cfg0.N, t.val = (i 0).val / 512 := ⟨⟨(i 0).val / 512, by rw [show cfg0.N = 32 from N_0]; omega⟩, rfl⟩
    obtain ⟨-, -, -, -, -, -, e0, e1⟩ := rows_at t
    refine ⟨t, flush0_7 t, ?_⟩
    show i ∈ ((View.whole main_v7_1).slice (win0_7.rect t)).set
    rw [View.set_slice_whole, Rect.mem_set_unit]
    intro a
    match a with
    | ⟨0, _⟩ => show win0_7.index t (0 : Fin 2) * 512 ≤ (i 0).val ∧ (i 0).val < win0_7.index t (0 : Fin 2) * 512 + 512; rw [e0, ht]; omega
    | ⟨1, _⟩ => show win0_7.index t (1 : Fin 2) * 128 ≤ (i 1).val ∧ (i 1).val < win0_7.index t (1 : Fin 2) * 128 + 128; rw [e1]; omega

end result

end Cert.Proof.Route
-- ==== Proof.Combine.lean ====
/- The call `attn_combine` at one element: the three branches' outputs, weighted by the softmax of their log sums. -/
module

public import proofs.«01_k».proof.Defs
public import proofs.«01_k».proof.Proof.Ssd
public import proofs.«01_k».proof.Proof.RouteKernel
public import proofs.«01_k».proof.Proof.Gen.Kernel8Ideal.Frame
public import proofs.«01_k».proof.Proof.Gen.Reference8Ideal.Read
public import proofs.«01_k».proof.Proof.Gen.Pre_finite_greatest
public import Idealize.ShloMosaic.Lib.Pipeline.Value
public import Idealize.ShloMosaic.Lib.Pointwise

@[expose] public section

set_option maxRecDepth 16384

noncomputable section

namespace Cert.Proof.Combine

open Idealize.ShloMosaic Idealize.ShloMosaic.TcCoe Idealize.SL.Sem Cert.Proof.Ssd
open Cert.Proof.Route (corner)
open Cert.Kernel8Ideal Cert.Kernel8Ideal.Gen
open scoped BigOperators

/-! ## The weights of three numbers -/

/-- The greatest of the three. -/
def big (a b c : EReal) : EReal := max (max a b) c

/-- One number's part of the sum. -/
def part (a b c y : EReal) : EReal := Ideal.exp (y - big a b c)

/-- The sum. -/
def total (a b c : EReal) : EReal := part a b c a + part a b c b + part a b c c

/-- Where the greatest is real, every part is a real that is not negative, and the greatest's own is one. -/
theorem part_real (a b c y : EReal) (m : ℝ) (hm : big a b c = ((m : ℝ) : EReal)) (hy : y ≤ big a b c) :
    ∃ x : ℝ, 0 ≤ x ∧ (y = ((m : ℝ) : EReal) → x = 1) ∧ part a b c y = ((x : ℝ) : EReal) := by
  unfold part
  rw [hm] at hy ⊢
  induction y with
  | bot => exact ⟨0, le_rfl, fun h => absurd h (EReal.bot_ne_coe m), by rw [EReal.bot_sub, Ideal.exp_bot, EReal.coe_zero]⟩
  | top => exact absurd hy (not_le.mpr (EReal.coe_lt_top m))
  | coe x =>
    refine ⟨Real.exp (x - m), (Real.exp_pos _).le, fun h => ?_, by rw [← EReal.coe_sub, Ideal.exp_coe]⟩
    rw [EReal.coe_eq_coe_iff.mp h, sub_self, Real.exp_zero]

theorem le_big (a b c : EReal) : a ≤ big a b c ∧ b ≤ big a b c ∧ c ≤ big a b c :=
  ⟨(le_max_left a b).trans (le_max_left _ c), (le_max_right a b).trans (le_max_left _ c), le_max_right _ c⟩

theorem total_real (a b c : EReal) (m : ℝ) (hm : big a b c = ((m : ℝ) : EReal)) :
    ∃ t : ℝ, t ≠ 0 ∧ total a b c = ((t : ℝ) : EReal) := by
  obtain ⟨ha, hb, hc⟩ := le_big a b c
  obtain ⟨x, hx, x1, ex⟩ := part_real a b c a m hm ha
  obtain ⟨y, hy, y1, ey⟩ := part_real a b c b m hm hb
  obtain ⟨z, hz, z1, ez⟩ := part_real a b c c m hm hc
  refine ⟨x + y + z, ?_, by unfold total; rw [ex, ey, ez, ← EReal.coe_add, ← EReal.coe_add]⟩
  have h : a = ((m : ℝ) : EReal) ∨ b = ((m : ℝ) : EReal) ∨ c = ((m : ℝ) : EReal) := by
    rw [← hm]
    unfold big
    rcases max_choice (max a b) c with h | h <;> rcases max_choice a b with h' | h' <;> rw [h] <;> simp [h']
  rcases h with h | h | h
  · have := x1 h; linarith
  · have := y1 h; linarith
  · have := z1 h; linarith

/-- The kernel's weight, a part times the sum's reciprocal, is the reference's, a part over the sum. -/
theorem weight (a b c y : EReal) (m : ℝ) (hm : big a b c = ((m : ℝ) : EReal)) (hy : y ≤ big a b c) :
    ∃ w : ℝ, part a b c y * Ideal.div 1 (total a b c) = ((w : ℝ) : EReal) ∧ Ideal.div (part a b c y) (total a b c) = ((w : ℝ) : EReal) := by
  obtain ⟨x, -, -, ex⟩ := part_real a b c y m hm hy
  obtain ⟨t, ht, et⟩ := total_real a b c m hm
  exact ⟨x * (1 / t), by rw [ex, et, Ideal.div_coe ht, one_mul, ← EReal.coe_mul], by rw [ex, et, Ideal.div_coe ht, ← EReal.coe_mul]⟩

/-- The three outputs, each by its weight. -/
def mix (a b c o0 o1 o2 : EReal) : EReal :=
  Ideal.div (part a b c a) (total a b c) * o0 + Ideal.div (part a b c b) (total a b c) * o1 + Ideal.div (part a b c c) (total a b c) * o2

/-! ## The spreading matrix -/

/-- The lane that holds the log sum of column `c`'s head. -/
def lane (c : ℕ) : ℕ := c / 64 % 2 * 64 + c / 128 * 8

theorem lane_word : ∀ c : Fin 1024, IntOp.addi (IntOp.muli (IntOp.andi (IntOp.shrui .vector (BitVec.ofNat 32 c.val) 6#32) 1#32) 64#32)
    (IntOp.muli (IntOp.shrsi .vector (IntOp.shrui .vector (BitVec.ofNat 32 c.val) 6#32) 1#32) 8#32) = BitVec.ofNat 32 (lane c.val) := by
  decide +kernel

theorem lane_lt (c : Fin 1024) : lane c.val < 128 := by
  have := c.isLt
  unfold lane
  omega

/-- Column `c`'s lane. -/
def laneOf (c : Fin 1024) : Fin 128 := ⟨lane c.val, lane_lt c⟩

/-- The kernel's matrix has a one where the row, in any of the three parts, is the column's lane. -/
theorem pay7_eq (k : Fin 384) (c : Fin 1024) : k0_pay7 (F := Ideal) (ix2 k c) = if k.val % 128 = lane c.val then (1 : EReal) else 0 := by
  have hc := lane_lt c
  have hk := k.isLt
  have s (n : ℕ) (hn : n < 128) : Scalar.select (IntOp.cmpi CmpIPredicate.eq (BitVec.ofNat 32 n)
      (IntOp.addi (IntOp.muli (IntOp.andi (IntOp.shrui .vector (BitVec.ofNat 32 c.val) 6#32) 1#32) 64#32)
        (IntOp.muli (IntOp.shrsi .vector (IntOp.shrui .vector (BitVec.ofNat 32 c.val) 6#32) 1#32) 8#32))) (1 : EReal) 0
      = if n = lane c.val then 1 else 0 := by
    rw [lane_word c, sel_eq _ _ (by omega) (by omega)]
  pointwise [k0_pay7]
  by_cases h0 : k.val < 128
  · rw [dif_pos h0, s _ h0, Nat.mod_eq_of_lt h0]
  · by_cases h1 : k.val - 128 < 128
    · rw [dif_neg h0, dif_pos h1, s _ h1, show k.val % 128 = k.val - 128 by omega]
    · rw [dif_neg h0, dif_neg h1, s _ (by omega), show k.val % 128 = k.val - 128 - 128 by omega]

/-- A row whose first 128 lanes hold reals and whose others hold zero, spread over the columns. -/
theorem spread_sum (V : Fin 128 → ℝ) (c : Fin 1024) (f : Fin 384 → EReal)
    (h0 : ∀ x : Fin 128, f ⟨x.val, by omega⟩ = ((V x : ℝ) : EReal) * k0_pay7 (F := Ideal) (ix2 ⟨x.val, by omega⟩ c))
    (h1 : ∀ x : Fin 384, 128 ≤ x.val → f x = 0) : ∑ x, f x = ((V (laneOf c) : ℝ) : EReal) := by
  rw [sum_three f (fun x : Fin 128 => if x = laneOf c then ((V x : ℝ) : EReal) else 0) ?_ h1]
  · rw [Finset.sum_ite_eq' Finset.univ, if_pos (Finset.mem_univ _)]
  · intro x
    rw [h0, pay7_eq]
    simp only [Nat.mod_eq_of_lt x.isLt, Fin.ext_iff, laneOf]
    split_ifs <;> simp

section rows
variable (x3 x4 x5 : Vec Ideal S512x128 .f32) (r : Fin 512)

theorem pay3_eq (k : Fin 128) : k0_pay3 x3 x4 x5 (ix2 r k) = part (x3 (ix2 r k)) (x4 (ix2 r k)) (x5 (ix2 r k)) (x3 (ix2 r k)) := by
  pointwise [k0_pay3, k0_pay2]
  rfl

theorem pay4_eq (k : Fin 128) : k0_pay4 x3 x4 x5 (ix2 r k) = part (x3 (ix2 r k)) (x4 (ix2 r k)) (x5 (ix2 r k)) (x4 (ix2 r k)) := by
  pointwise [k0_pay4, k0_pay2]
  rfl

theorem pay5_eq (k : Fin 128) : k0_pay5 x3 x4 x5 (ix2 r k) = part (x3 (ix2 r k)) (x4 (ix2 r k)) (x5 (ix2 r k)) (x5 (ix2 r k)) := by
  pointwise [k0_pay5, k0_pay2]
  rfl

theorem pay6_eq (k : Fin 128) : k0_pay6 x3 x4 x5 (ix2 r k) = Ideal.div 1 (total (x3 (ix2 r k)) (x4 (ix2 r k)) (x5 (ix2 r k))) := by
  pointwise [k0_pay6]
  rw [pay3_eq, pay4_eq, pay5_eq]
  rfl

variable (hm : ∀ k : Fin 128, ∃ m : ℝ, big (x3 (ix2 r k)) (x4 (ix2 r k)) (x5 (ix2 r k)) = ((m : ℝ) : EReal))
include hm

theorem out_eq (x0 x1 x2 : Vec Ideal S512x1024 .bf16) (c : Fin 1024) :
    k0_pay1 (k0_pay4 x3 x4 x5) (k0_pay5 x3 x4 x5) (k0_pay6 x3 x4 x5) (k0_pay7 (F := Ideal)) (k0_pay8 (F := Ideal)) (k0_pay9 x3 x4 x5) x0 x1 x2 (ix2 r c)
      = mix (x3 (ix2 r (laneOf c))) (x4 (ix2 r (laneOf c))) (x5 (ix2 r (laneOf c))) (x0 (ix2 r c)) (x1 (ix2 r c)) (x2 (ix2 r c)) := by
  unfold mix
  have w (y : Fin 128 → EReal) (hy : ∀ k, y k ≤ big (x3 (ix2 r k)) (x4 (ix2 r k)) (x5 (ix2 r k))) : ∃ W : Fin 128 → ℝ, ∀ k,
      part (x3 (ix2 r k)) (x4 (ix2 r k)) (x5 (ix2 r k)) (y k) * Ideal.div 1 (total (x3 (ix2 r k)) (x4 (ix2 r k)) (x5 (ix2 r k))) = ((W k : ℝ) : EReal)
      ∧ Ideal.div (part (x3 (ix2 r k)) (x4 (ix2 r k)) (x5 (ix2 r k)) (y k)) (total (x3 (ix2 r k)) (x4 (ix2 r k)) (x5 (ix2 r k))) = ((W k : ℝ) : EReal) := by
    choose W hW using fun k => weight _ _ _ _ _ (hm k).choose_spec (hy k)
    exact ⟨W, hW⟩
  obtain ⟨W0, h0⟩ := w (fun k => x3 (ix2 r k)) fun k => (le_big _ _ _).1
  obtain ⟨W1, h1⟩ := w (fun k => x4 (ix2 r k)) fun k => (le_big _ _ _).2.1
  obtain ⟨W2, h2⟩ := w (fun k => x5 (ix2 r k)) fun k => (le_big _ _ _).2.2
  rw [(h0 _).2, (h1 _).2, (h2 _).2]
  pointwise [k0_pay1, k0_pay9, k0_pay8]
  simp only [pay3_eq, pay4_eq, pay5_eq, pay6_eq, (h0 _).1, (h1 _).1, (h2 _).1, coe_sub_self, sub_zero]
  rw [spread_sum W0 c, spread_sum W1 c, spread_sum W2 c]
  all_goals first
    | (intro x; rw [dif_pos x.isLt])
    | (intro x hx; rw [dif_neg (by omega)]; simp)

end rows

/-! ## The reference's element -/

open Cert.Reference8Ideal.Read in
theorem ref_eq (b0 b1 b2 : Vec Ideal S16384x1024 .bf16) (b3 b4 b5 : Vec Ideal S16384x128 .f32) (R : Fin 16384) (c : Fin 1024) :
    val_main_v43 (F := Ideal) b0 b1 b2 b3 b4 b5 (ix2 R c)
      = mix (b3 (ix2 R (laneOf c))) (b4 (ix2 R (laneOf c))) (b5 (ix2 R (laneOf c))) (b0 (ix2 R c)) (b1 (ix2 R c)) (b2 (ix2 R c)) := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

/-! ## The result array -/

section result
variable (m : (ℓ : Loc nD τ sig) → Buf (Elt Ideal) ℓ) (cc : Dev nD)

theorem rows_at : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem place (n : ℕ) (i : (⟨2, ![16384, n]⟩ : Shape).Idx) (R : Fin 16384) (l : Fin n) (h0 : (i 0).val = R.val) (h1 : (i 1).val = l.val) : i = ix2 R l := by
  funext a
  apply Fin.ext
  match a with
  | ⟨0, _⟩ => exact h0
  | ⟨1, _⟩ => exact h1

section blocks
variable (t : Fin cfg0.N) (r : Fin 512) (R : Fin 16384) (hR : R.val = 512 * t.val + r.val)
include hR

theorem blk0 (l : Fin 1024) : (iblk m cc 0 t : Vec Ideal S512x1024 .bf16) (ix2 r l) = (m ((cc : Thread nD τ).loc main_arg0) : Vec Ideal S16384x1024 .bf16) (ix2 R l) := by
  obtain ⟨e0, e1, -⟩ := rows_at t
  unfold iblk
  rw [View.read_apply]
  show V m cc main_arg0 _ = _
  rw [V_main_arg0]
  exact congrArg _ (place _ _ R l (by show win0_0.index t 0 * 512 + 1 * r.val = R.val; rw [e0]; omega) (by show win0_0.index t 1 * 1024 + 1 * l.val = l.val; rw [e1]; omega))

theorem blk1 (l : Fin 1024) : (iblk m cc 1 t : Vec Ideal S512x1024 .bf16) (ix2 r l) = (m ((cc : Thread nD τ).loc main_arg1) : Vec Ideal S16384x1024 .bf16) (ix2 R l) := by
  obtain ⟨-, -, e0, e1, -⟩ := rows_at t
  unfold iblk
  rw [View.read_apply]
  show V m cc main_arg1 _ = _
  rw [V_main_arg1]
  exact congrArg _ (place _ _ R l (by show win0_1.index t 0 * 512 + 1 * r.val = R.val; rw [e0]; omega) (by show win0_1.index t 1 * 1024 + 1 * l.val = l.val; rw [e1]; omega))

theorem blk2 (l : Fin 1024) : (iblk m cc 2 t : Vec Ideal S512x1024 .bf16) (ix2 r l) = (m ((cc : Thread nD τ).loc main_arg2) : Vec Ideal S16384x1024 .bf16) (ix2 R l) := by
  obtain ⟨-, -, -, -, e0, e1, -⟩ := rows_at t
  unfold iblk
  rw [View.read_apply]
  show V m cc main_arg2 _ = _
  rw [V_main_arg2]
  exact congrArg _ (place _ _ R l (by show win0_2.index t 0 * 512 + 1 * r.val = R.val; rw [e0]; omega) (by show win0_2.index t 1 * 1024 + 1 * l.val = l.val; rw [e1]; omega))

theorem blk3 (l : Fin 128) : (iblk m cc 3 t : Vec Ideal S512x128 .f32) (ix2 r l) = (m ((cc : Thread nD τ).loc main_arg3) : Vec Ideal S16384x128 .f32) (ix2 R l) := by
  obtain ⟨-, -, -, -, -, -, e0, e1, -⟩ := rows_at t
  unfold iblk
  rw [View.read_apply]
  show V m cc main_arg3 _ = _
  rw [V_main_arg3]
  exact congrArg _ (place _ _ R l (by show win0_3.index t 0 * 512 + 1 * r.val = R.val; rw [e0]; omega) (by show win0_3.index t 1 * 128 + 1 * l.val = l.val; rw [e1]; omega))

theorem blk4 (l : Fin 128) : (iblk m cc 4 t : Vec Ideal S512x128 .f32) (ix2 r l) = (m ((cc : Thread nD τ).loc main_arg4) : Vec Ideal S16384x128 .f32) (ix2 R l) := by
  obtain ⟨-, -, -, -, -, -, -, -, e0, e1, -⟩ := rows_at t
  unfold iblk
  rw [View.read_apply]
  show V m cc main_arg4 _ = _
  rw [V_main_arg4]
  exact congrArg _ (place _ _ R l (by show win0_4.index t 0 * 512 + 1 * r.val = R.val; rw [e0]; omega) (by show win0_4.index t 1 * 128 + 1 * l.val = l.val; rw [e1]; omega))

theorem blk5 (l : Fin 128) : (iblk m cc 5 t : Vec Ideal S512x128 .f32) (ix2 r l) = (m ((cc : Thread nD τ).loc main_arg5) : Vec Ideal S16384x128 .f32) (ix2 R l) := by
  obtain ⟨-, -, -, -, -, -, -, -, -, -, e0, e1, -⟩ := rows_at t
  unfold iblk
  rw [View.read_apply]
  show V m cc main_arg5 _ = _
  rw [V_main_arg5]
  exact congrArg _ (place _ _ R l (by show win0_5.index t 0 * 512 + 1 * r.val = R.val; rw [e0]; omega) (by show win0_5.index t 1 * 128 + 1 * l.val = l.val; rw [e1]; omega))

end blocks

/-- In every lane the greatest of the three log sums is real. -/
def Greatest (a b c : Vec Ideal S16384x128 .f32) : Prop := ∀ (R : Fin 16384) (k : Fin 128), ∃ x : ℝ, big (a (ix2 R k)) (b (ix2 R k)) (c (ix2 R k)) = ((x : ℝ) : EReal)

/-- The reference's array of the kernel's arguments. -/
def ref8 : Vec Ideal S16384x1024 .bf16 := Cert.Reference8Ideal.Read.val_main_v43 (F := Ideal) (m ((cc : Thread nD τ).loc main_arg0)) (m ((cc : Thread nD τ).loc main_arg1)) (m ((cc : Thread nD τ).loc main_arg2)) (m ((cc : Thread nD τ).loc main_arg3)) (m ((cc : Thread nD τ).loc main_arg4)) (m ((cc : Thread nD τ).loc main_arg5))

theorem elem (H : Greatest (m ((cc : Thread nD τ).loc main_arg3)) (m ((cc : Thread nD τ).loc main_arg4)) (m ((cc : Thread nD τ).loc main_arg5))) (t : Fin cfg0.N) (r : Fin 512) (R : Fin 16384) (hR : R.val = 512 * t.val + r.val) (c : Fin 1024) :
    out0_6 (iblk m cc 0 t) (iblk m cc 1 t) (iblk m cc 2 t) (iblk m cc 3 t) (iblk m cc 4 t) (iblk m cc 5 t) (ix2 r c) = ref8 m cc (ix2 R c) := by
  unfold out0_6 ref8
  rw [View.canon_unit_zero corner, View.ld_unit_zero corner, View.ld_unit_zero corner, View.ld_unit_zero corner, View.ld_unit_zero corner, View.ld_unit_zero corner, View.ld_unit_zero corner, ref_eq]
  refine (out_eq _ _ _ r (fun k => ?_) _ _ _ c).trans ?_
  · rw [blk3 m cc t r R hR, blk4 m cc t r R hR, blk5 m cc t r R hR]
    exact H R k
  · rw [blk0 m cc t r R hR, blk1 m cc t r R hR, blk2 m cc t r R hR, blk3 m cc t r R hR, blk4 m cc t r R hR, blk5 m cc t r R hR]

theorem final6 (H : Greatest (m ((cc : Thread nD τ).loc main_arg3)) (m ((cc : Thread nD τ).loc main_arg4)) (m ((cc : Thread nD τ).loc main_arg5))) : (dats m 0 cc).arrAt 6 cfg0.N = ref8 m cc := by
  refine (dats m 0 cc).arrAt_eq_of_cover 6 _ (fun t _ => ?_) (fun i => ?_)
  · show (cfg0.win 6).cut (grid0.coords t) ((dats m 0 cc).after 6 t) = _
    rw [after0_6]
    funext y
    obtain ⟨-, -, -, -, -, -, -, -, -, -, -, -, e0, e1⟩ := rows_at t
    have hy0 : (y 0).val < 512 := (y 0).isLt
    have hy1 : (y 1).val < 1024 := (y 1).isLt
    have ht : t.val < 32 := lt_of_lt_of_eq t.isLt N_0
    show out0_6 (iblk m cc 0 t) (iblk m cc 1 t) (iblk m cc 2 t) (iblk m cc 3 t) (iblk m cc 4 t) (iblk m cc 5 t) ((cfg0.win 6).xinj (grid0.coords t) y) = _
    have ey : ((cfg0.win 6).xinj (grid0.coords t) y : S512x1024.Idx) = ix2 (⟨(y 0).val, hy0⟩ : Fin 512) (⟨(y 1).val, hy1⟩ : Fin 1024) := by
      funext a
      match a with
      | ⟨0, _⟩ => rfl
      | ⟨1, _⟩ => rfl
    rw [ey]
    refine Eq.trans (elem m cc H t _ ⟨512 * t.val + (y 0).val, by omega⟩ rfl _) ?_
    show _ = ref8 m cc (((cfg0.win 6).blk t).view.emb y)
    refine congrArg (ref8 m cc) (place _ _ _ _ ?_ ?_).symm
    · show win0_6.index t (0 : Fin 2) * 512 + 1 * (y 0).val = 512 * t.val + (y 0).val
      rw [e0]; omega
    · show win0_6.index t (1 : Fin 2) * 1024 + 1 * (y 1).val = (y 1).val
      rw [e1]; omega
  · have h0 : (i 0).val < 16384 := (i 0).isLt
    have h1 : (i 1).val < 1024 := (i 1).isLt
    obtain ⟨t, ht⟩ : ∃ t : Fin cfg0.N, t.val = (i 0).val / 512 := ⟨⟨(i 0).val / 512, by rw [show cfg0.N = 32 from N_0]; omega⟩, rfl⟩
    obtain ⟨-, -, -, -, -, -, -, -, -, -, -, -, e0, e1⟩ := rows_at t
    refine ⟨t, flush0_6 t, ?_⟩
    show i ∈ ((View.whole main_v0).slice (win0_6.rect t)).set
    rw [View.set_slice_whole, Rect.mem_set_unit]
    intro a
    match a with
    | ⟨0, _⟩ => show win0_6.index t (0 : Fin 2) * 512 ≤ (i 0).val ∧ (i 0).val < win0_6.index t (0 : Fin 2) * 512 + 512; rw [e0, ht]; omega
    | ⟨1, _⟩ => show win0_6.index t (1 : Fin 2) * 1024 ≤ (i 1).val ∧ (i 1).val < win0_6.index t (1 : Fin 2) * 1024 + 1024; rw [e1]; omega

end result

/-! ## The precondition -/

instance : Cert.Pre_finite_greatest.Facts := Cert.Pre_finite_greatest.Gen.facts

theorem fn_greatest (o0 o1 o2 : FVec Ideal ⟨2, ![16384, 1024]⟩ .bf16) (l0 l1 l2 : FVec Ideal ⟨2, ![16384, 128]⟩ .f32)
    (h : Cert.Pre_finite_greatest.fn (F := Ideal) o0 o1 o2 l0 l1 l2 = fun _ => 1#1) : Greatest l0 l1 l2 := by
  have : Subsingleton Cert.Pre_finite_greatest.S_.Idx := ⟨fun _ _ => funext fun a => a.elim0⟩
  have e := congrFun h (fun a => a.elim0)
  unfold Cert.Pre_finite_greatest.fn at e
  have q := finite_of _ _ (fun _ => top_f32) _ _ _ _ e
  intro R k
  exact ⟨_, q (ix2 R k)⟩

/-! ## The run and the claim -/

/-- After the run the result array is the folded blocks, and every argument is as it was. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(h c).1 6, ?_⟩) (run_main m ρ)
  exact ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩

theorem same (m : (ℓ : Loc nD τ sig) → Buf (Elt Ideal) ℓ) (c : Dev nD) (x0 x1 x2 : Vec Ideal S16384x1024 .bf16) (x3 x4 x5 : Vec Ideal S16384x128 .f32)
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e4 : x4 = m ((c : Thread nD τ).loc main_arg4)) (e5 : x5 = m ((c : Thread nD τ).loc main_arg5)) :
    Cert.Reference8Ideal.Read.val_main_v43 (F := Ideal) x0 x1 x2 x3 x4 x5 = ref8 m c := by
  rw [e0, e1, e2, e3, e4, e5]
  rfl

theorem algebraic : Cert.algebraic_Kernel8Ideal_Reference8Ideal_pre_finite_greatest (hKernel8Ideal := Cert.Kernel8Ideal.Gen.facts)
    (hReference8Ideal := Cert.Reference8Ideal.Gen.facts) (hPre_finite_greatest := Cert.Pre_finite_greatest.Gen.facts) := by
  intro m g m' g' hpre hargs
  refine ⟨ref8 m, ?_, ?_⟩
  · refine (θ_run _ _ _).mono (fun r h c => ?_) (run m g)
    exact ⟨(h c).1.trans (final6 m c (fn_greatest _ _ _ _ _ _ (hpre c))), (h c).2⟩
  · refine (θ_run _ _ _).mono (fun r h c => ?_) (Cert.Reference8Ideal.Value.run (F := Ideal) m' g')
    obtain ⟨e0, e1, e2, e3, e4, e5⟩ := hargs c
    exact ⟨(h c).1.trans ((Cert.Reference8Ideal.Read.val_main_v43_eq m' c).trans (same m c _ _ _ _ _ _ e0 e1 e2 e3 e4 e5)), (h c).2⟩

end Cert.Proof.Combine

end
-- ==== Proof.Bias.lean ====
/- The call `attn_bias` at one element: the table's entry at the pair's bucket, or `-inf` outside the band. -/
module

public import proofs.«01_k».proof.Defs
public import proofs.«01_k».proof.Proof.Gen.Kernel9Ideal.Frame
public import proofs.«01_k».proof.Proof.Gen.Reference9Ideal.Read
public import Idealize.ShloMosaic.Lib.Pipeline.Value
public import Idealize.ShloMosaic.Lib.StableHlo.ReadAt
public import Idealize.ShloMosaic.Lib.Pointwise

@[expose] public section

set_option maxRecDepth 16384

noncomputable section

namespace Cert.Proof.Bias

open Idealize.ShloMosaic Idealize.ShloMosaic.TcCoe Idealize.SL.Sem
open Cert.Kernel9Ideal Cert.Kernel9Ideal.Gen
open scoped BigOperators

/-! ## The lookup -/

/-- A lookup by comparing with each number below `n` in turn, the largest first. -/
def pick (v : BitVec 32) (T : Fin 32 → EReal) : ℕ → EReal
  | 0 => 0
  | n + 1 => Scalar.select (IntOp.cmpi .eq v (BitVec.ofNat 32 n)) (T ⟨n % 32, Nat.mod_lt _ (by decide)⟩) (pick v T n)

theorem cmp_sel (v w : BitVec 32) (x y : EReal) : Scalar.select (IntOp.cmpi CmpIPredicate.eq v w) x y = if v = w then x else y := by
  by_cases e : v = w
  · rw [if_pos e, e]
    simp [Scalar.select, IntOp.cmpi]
  · have b : (v == w) = false := beq_eq_false_iff_ne.mpr e
    rw [if_neg e]
    simp [Scalar.select, IntOp.cmpi, b]

/-- Each number is another word, so the lookup is the sum that keeps the one entry whose number is equal. -/
theorem pick_range (v : BitVec 32) (T : Fin 32 → EReal) (n : ℕ) (hn : n ≤ 32) :
    pick v T n = ∑ k ∈ Finset.range n, Scalar.select (IntOp.cmpi .eq v (BitVec.ofNat 32 k)) (T ⟨k % 32, Nat.mod_lt _ (by decide)⟩) 0 := by
  induction n with
  | zero => rfl
  | succ n ih =>
    rw [Finset.sum_range_succ, pick, ih (by omega), cmp_sel, cmp_sel]
    by_cases e : v = BitVec.ofNat 32 n
    · rw [if_pos e, if_pos e, Finset.sum_eq_zero, zero_add]
      intro k hk
      rw [cmp_sel, if_neg]
      intro e'
      have q := congrArg BitVec.toNat (e.symm.trans e')
      have := Finset.mem_range.mp hk
      rw [BitVec.toNat_ofNat, BitVec.toNat_ofNat, Nat.mod_eq_of_lt (by omega), Nat.mod_eq_of_lt (by omega)] at q
      omega
    · rw [if_neg e, if_neg e, add_zero]

theorem pick_sum (v : BitVec 32) (T : Fin 32 → EReal) :
    pick v T 32 = ∑ x : Fin 32, Scalar.select (IntOp.cmpi .eq v (BitVec.ofNat 32 x.val)) (T x) 0 := by
  rw [pick_range v T 32 le_rfl, Finset.sum_range]
  exact Finset.sum_congr rfl fun x _ => by rw [show (⟨x.val % 32, Nat.mod_lt _ (by decide)⟩ : Fin 32) = x from Fin.ext (Nat.mod_eq_of_lt x.isLt)]

/-! ## The row and the column of a pair -/

theorem low (p : ℕ) (hp : p < 32768) : IntOp.andi (BitVec.ofNat 32 p) 255#32 = BitVec.ofNat 32 (p % 256) := by
  unfold IntOp.andi
  refine BitVec.eq_of_toNat_eq ?_
  rw [BitVec.toNat_and, BitVec.toNat_ofNat, BitVec.toNat_ofNat, BitVec.toNat_ofNat, Nat.mod_eq_of_lt (a := p) (by omega),
    Nat.mod_eq_of_lt (a := p % 256) (by omega)]
  exact Nat.and_two_pow_sub_one_eq_mod p 8

theorem high (p : ℕ) (hp : p < 32768) : IntOp.shrui .vector (BitVec.ofNat 32 p) 8#32 = BitVec.ofNat 32 (p / 256) := by
  unfold IntOp.shrui
  rw [if_pos (by decide)]
  refine BitVec.eq_of_toNat_eq ?_
  simp only [BitVec.ushiftRight_eq', BitVec.toNat_ushiftRight, BitVec.toNat_ofNat]
  rw [Nat.mod_eq_of_lt (a := p) (by omega), Nat.mod_eq_of_lt (a := p / 256) (by omega), Nat.shiftRight_eq_div_pow]

/-- Whether row `q` reaches column `k`: the distance, at least zero and at most 128. -/
def band (q k : ℕ) : BitVec 1 :=
  IntOp.andi (IntOp.cmpi CmpIPredicate.sge (IntOp.subi (IntOp.addi (BitVec.ofNat 32 q) 128#32) (BitVec.ofNat 32 k)) 0#32)
    (IntOp.cmpi CmpIPredicate.sle (IntOp.subi (IntOp.addi (BitVec.ofNat 32 q) 128#32) (BitVec.ofNat 32 k)) 128#32)

/-- One element: the table's entry for the bucket, or `-inf` outside the band. -/
def elem (q k : ℕ) (v : BitVec 32) (T : Fin 32 → EReal) : EReal := Scalar.select (band q k) (pick v T 32) (Ideal.ofBits .f32 4286578688#32)

theorem out_at (x0 : Vec Ideal S1x1x32768 .i32) (x1 : Vec Ideal S1x16x32 .f32) (h : Fin 16) (p : Fin 32768) :
    out0_2 x0 x1 (ix3 0 h p) = elem (p.val / 256) (p.val % 256) (x0 (ix3 0 0 p)) (fun b => x1 (ix3 0 h b)) := by
  have corner : (![0, 0, 0] : Fin 3 → Nat) = fun _ => 0 := by decide
  unfold out0_2
  rw [View.canon_unit_zero corner]
  unfold k0_pay17 k0_pay18
  rw [View.ld_unit_zero corner, View.ld_unit_zero corner]
  pointwise [k0_pay1, k0_pay2, k0_pay3, k0_pay4, k0_pay5, k0_pay6, k0_pay7, k0_pay8, k0_pay9, k0_pay10, k0_pay11, k0_pay12, k0_pay13, k0_pay14, k0_pay15, k0_pay16]
  rw [low _ p.isLt, high _ p.isLt]
  rfl

open Cert.Reference9Ideal.Read in
theorem ref_at (x0 : Vec Ideal S32x3x16 .f32) (g : Fin 3) (h : Fin 16) (q : Fin 128) (k : Fin 256) :
    val_main_v94 (F := Ideal) x0 (ix4 g h q k) = elem q.val k.val (val_main_v78 (F := Ideal) (ix3 g q k)) (fun b => x0 (ix3 b g h)) := by
  unfold elem
  have z : id (constant (F := Ideal) Cert.Reference9Ideal.S_ FTy.f32 0#32) ix0 = (0 : EReal) := Ideal.ofBits_zero_f32
  rw [pick_sum]
  pointwise [val_main_v94, val_main_call4_v2, val_main_call4_v1, val_main_call4_v0, val_main_cst_30, val_main_v93, val_main_v92, val_main_v91, val_main_c_29, val_main_v90, val_main_v89, val_main_c_28, val_main_v88, val_main_cst_27, val_main_v87, val_main_call3_v3, val_main_call3_v2, val_main_call3_v1, val_main_call3_v0, val_main_cst_26, val_main_v86, val_main_v85, val_main_v84, val_main_v83, val_main_v82, val_main_v81, val_main_v80, val_main_v79, val_main_v8, val_main_v7, val_main_v6, val_main_v5, val_main_v4, val_main_v3, val_main_v2, val_main_v1, val_main_v0, val_main_c]
  rw [z]
  rfl

/-! ## What the host hands to the kernel -/

section result
variable (m : (ℓ : Loc nD τ sig) → Buf (Elt Ideal) ℓ) (cc : Dev nD)

/-- The bucket of every pair is the reference's. -/
theorem idx_at (g : Fin 3) (p : Fin 32768) : (V m cc main_v79 : Vec Ideal S3x1x32768 .i32) (ix3 g 0 p)
    = Cert.Reference9Ideal.Read.val_main_v78 (F := Ideal) (ix3 g ⟨p.val / 256, by omega⟩ ⟨p.val % 256, by omega⟩) := by
  unfold V
  after_reads_at
  pointwise [Cert.Reference9Ideal.Read.val_main_v78]
  refine dite_congr rfl (fun h => ?_) fun h => dite_congr rfl (fun h => ?_) fun h => ?_
  all_goals
    after_reads_at
    rfl

/-- The table, with the bucket in the last place. -/
theorem tab_at (g : Fin 3) (h : Fin 16) (b : Fin 32) : (V m cc main_v80 : Vec Ideal S3x16x32 .f32) (ix3 g h b)
    = (m ((cc : Thread nD τ).loc main_arg0) : Vec Ideal S32x3x16 .f32) (ix3 b g h) := by
  unfold V
  after_reads_at

/-! ## The result array -/

theorem rows_at : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem place (a b c : ℕ) (i : (⟨3, ![a, b, c]⟩ : Shape).Idx) (x : Fin a) (y : Fin b) (z : Fin c)
    (h0 : (i 0).val = x.val) (h1 : (i 1).val = y.val) (h2 : (i 2).val = z.val) : i = ix3 x y z := by
  funext a
  apply Fin.ext
  match a with
  | ⟨0, _⟩ => exact h0
  | ⟨1, _⟩ => exact h1
  | ⟨2, _⟩ => exact h2

theorem blk0 (t : Fin cfg0.N) (g : Fin 3) (hg : g.val = t.val) (p : Fin 32768) :
    (iblk m cc 0 t : Vec Ideal S1x1x32768 .i32) (ix3 0 0 p) = (V m cc main_v79 : Vec Ideal S3x1x32768 .i32) (ix3 g 0 p) := by
  obtain ⟨e0, e1, e2, -⟩ := rows_at t
  unfold iblk
  rw [View.read_apply]
  show V m cc main_v79 _ = _
  exact congrArg _ (place _ _ _ _ g 0 p (by show win0_0.index t 0 * 1 + 1 * 0 = g.val; rw [e0]; omega)
    (by show win0_0.index t 1 * 1 + 1 * 0 = 0; rw [e1]) (by show win0_0.index t 2 * 32768 + 1 * p.val = p.val; rw [e2]; omega))

theorem blk1 (t : Fin cfg0.N) (g : Fin 3) (hg : g.val = t.val) (h : Fin 16) (b : Fin 32) :
    (iblk m cc 1 t : Vec Ideal S1x16x32 .f32) (ix3 0 h b) = (V m cc main_v80 : Vec Ideal S3x16x32 .f32) (ix3 g h b) := by
  obtain ⟨-, -, -, e0, e1, e2, -⟩ := rows_at t
  unfold iblk
  rw [View.read_apply]
  show V m cc main_v80 _ = _
  exact congrArg _ (place _ _ _ _ g h b (by show win0_1.index t 0 * 1 + 1 * 0 = g.val; rw [e0]; omega)
    (by show win0_1.index t 1 * 16 + 1 * h.val = h.val; rw [e1]; omega) (by show win0_1.index t 2 * 32 + 1 * b.val = b.val; rw [e2]; omega))

/-- The reference's array of the kernel's argument. -/
def ref9 : Vec Ideal S3x16x128x256 .f32 := Cert.Reference9Ideal.Read.val_main_v94 (F := Ideal) (m ((cc : Thread nD τ).loc main_arg0))

/-- The reference's array with the pairs in one row, as the kernel writes it. -/
def flat : Vec Ideal S3x16x32768 .f32 := fun i =>
  ref9 m cc (ix4 (⟨(i 0).val, (i 0).isLt⟩ : Fin 3) (⟨(i 1).val, (i 1).isLt⟩ : Fin 16)
    (⟨(i 2).val / 256, by have : (i 2).val < 32768 := (i 2).isLt; omega⟩ : Fin 128) (⟨(i 2).val % 256, by omega⟩ : Fin 256))

theorem point (t : Fin cfg0.N) (g : Fin 3) (hg : g.val = t.val) (h : Fin 16) (p : Fin 32768) :
    out0_2 (iblk m cc 0 t) (iblk m cc 1 t) (ix3 0 h p) = flat m cc (ix3 g h p) := by
  refine (out_at _ _ h p).trans ?_
  refine Eq.trans ?_ (ref_at (m ((cc : Thread nD τ).loc main_arg0)) g h ⟨p.val / 256, by omega⟩ ⟨p.val % 256, by omega⟩).symm
  rw [blk0 m cc t g hg p, idx_at]
  exact congrArg _ (funext fun b => (blk1 m cc t g hg h b).trans (tab_at m cc g h b))

theorem final2 : (dats m 0 cc).arrAt 2 cfg0.N = flat m cc := by
  refine (dats m 0 cc).arrAt_eq_of_cover 2 _ (fun t _ => ?_) (fun i => ?_)
  · show (cfg0.win 2).cut (grid0.coords t) ((dats m 0 cc).after 2 t) = _
    rw [after0_2]
    funext y
    obtain ⟨-, -, -, -, -, -, e0, e1, e2⟩ := rows_at t
    have hy0 : (y 0).val < 1 := (y 0).isLt
    have hy1 : (y 1).val < 16 := (y 1).isLt
    have hy2 : (y 2).val < 32768 := (y 2).isLt
    have ht : t.val < 3 := lt_of_lt_of_eq t.isLt N_0
    show out0_2 (iblk m cc 0 t) (iblk m cc 1 t) ((cfg0.win 2).xinj (grid0.coords t) y) = _
    have ey : ((cfg0.win 2).xinj (grid0.coords t) y : S1x16x32768.Idx) = ix3 (0 : Fin 1) (⟨(y 1).val, hy1⟩ : Fin 16) (⟨(y 2).val, hy2⟩ : Fin 32768) :=
      place _ _ _ _ _ _ _ (Nat.lt_one_iff.mp hy0) rfl rfl
    rw [ey]
    refine Eq.trans (point m cc t ⟨t.val, ht⟩ rfl _ _) ?_
    show _ = flat m cc (((cfg0.win 2).blk t).view.emb y)
    refine congrArg (flat m cc) (place _ _ _ _ _ _ _ ?_ ?_ ?_).symm
    · show win0_2.index t (0 : Fin 3) * 1 + 1 * (y 0).val = t.val
      rw [e0]; omega
    · show win0_2.index t (1 : Fin 3) * 16 + 1 * (y 1).val = (y 1).val
      rw [e1]; omega
    · show win0_2.index t (2 : Fin 3) * 32768 + 1 * (y 2).val = (y 2).val
      rw [e2]; omega
  · have h0 : (i 0).val < 3 := (i 0).isLt
    have h1 : (i 1).val < 16 := (i 1).isLt
    have h2 : (i 2).val < 32768 := (i 2).isLt
    obtain ⟨t, ht⟩ : ∃ t : Fin cfg0.N, t.val = (i 0).val := ⟨⟨(i 0).val, by rw [show cfg0.N = 3 from N_0]; omega⟩, rfl⟩
    obtain ⟨-, -, -, -, -, -, e0, e1, e2⟩ := rows_at t
    refine ⟨t, flush0_2 t, ?_⟩
    show i ∈ ((View.whole main_v81).slice (win0_2.rect t)).set
    rw [View.set_slice_whole, Rect.mem_set_unit]
    intro a
    match a with
    | ⟨0, _⟩ => show win0_2.index t (0 : Fin 3) * 1 ≤ (i 0).val ∧ (i 0).val < win0_2.index t (0 : Fin 3) * 1 + 1; rw [e0, ht]; omega
    | ⟨1, _⟩ => show win0_2.index t (1 : Fin 3) * 16 ≤ (i 1).val ∧ (i 1).val < win0_2.index t (1 : Fin 3) * 16 + 16; rw [e1]; omega
    | ⟨2, _⟩ => show win0_2.index t (2 : Fin 3) * 32768 ≤ (i 2).val ∧ (i 2).val < win0_2.index t (2 : Fin 3) * 32768 + 32768; rw [e2]; omega

/-- The host's last step splits the pairs' row into rows and columns again. -/
theorem tail : (Pipeline.afterTail₀ cfgs (dats m) 0 (V0 m) [hostOps1] cc main_v82 : Vec Ideal S3x16x128x256 .f32) = ref9 m cc := by
  funext i
  have ei : i = ix4 (⟨(i 0).val, (i 0).isLt⟩ : Fin 3) (⟨(i 1).val, (i 1).isLt⟩ : Fin 16) (⟨(i 2).val, (i 2).isLt⟩ : Fin 128) (⟨(i 3).val, (i 3).isLt⟩ : Fin 256) := by
    funext a
    match a with
    | ⟨0, _⟩ => rfl
    | ⟨1, _⟩ => rfl
    | ⟨2, _⟩ => rfl
    | ⟨3, _⟩ => rfl
  rw [ei]
  generalize (⟨(i 0).val, (i 0).isLt⟩ : Fin 3) = g
  generalize (⟨(i 1).val, (i 1).isLt⟩ : Fin 16) = h
  generalize (⟨(i 2).val, (i 2).isLt⟩ : Fin 128) = q
  generalize (⟨(i 3).val, (i 3).isLt⟩ : Fin 256) = k
  unfold Pipeline.afterTail₀
  after_reads_at
  have e := (Pipeline.withArrays_arr (cfgs 0).spec (by decide) cc (V0 m cc) (fun w => (dats m 0 cc).arrAt w (cfgs 0).N) 2).trans (final2 m cc)
  refine (congrFun e _).trans ?_
  show ref9 m cc _ = _
  refine congrArg (ref9 m cc) ?_
  funext a
  apply Fin.ext
  have hk : k.val < 256 := k.isLt
  match a with
  | ⟨0, _⟩ => rfl
  | ⟨1, _⟩ => rfl
  | ⟨2, _⟩ => show (q.val * 256 + k.val) / 256 = q.val; omega
  | ⟨3, _⟩ => show (q.val * 256 + k.val) % 256 = k.val; omega

end result

/-! ## The run and the claim -/

/-- After the run the result is the reference's array of the argument, and the argument is as it was. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v82) = ref9 m c
      ∧ r.2.mem ((c : Thread nD τ).loc main_arg0) = m ((c : Thread nD τ).loc main_arg0) := by
  refine (θ_run defs _ _).mono (fun r h c => ⟨?_, ?_⟩) (run_main m ρ)
  · exact ((h c).2 main_v82 (Pipeline.mem_restRefs_of main_v82 (by decide) (by decide))).trans (tail m c)
  · exact ((h c).2 main_arg0 (Pipeline.mem_restRefs_of main_arg0 (by decide) (by decide))).trans (W_main_arg0 m (dats m) c)

theorem same (m : (ℓ : Loc nD τ sig) → Buf (Elt Ideal) ℓ) (c : Dev nD) (x0 : Vec Ideal S32x3x16 .f32) (e0 : x0 = m ((c : Thread nD τ).loc main_arg0)) :
    Cert.Reference9Ideal.Read.val_main_v94 (F := Ideal) x0 = ref9 m c := by
  rw [e0]
  rfl

theorem algebraic : Cert.algebraic_Kernel9Ideal_Reference9Ideal (hKernel9Ideal := Cert.Kernel9Ideal.Gen.facts)
    (hReference9Ideal := Cert.Reference9Ideal.Gen.facts) := by
  intro m g m' g' _ hargs
  refine ⟨ref9 m, ?_, ?_⟩
  · exact (θ_run _ _ _).mono (fun r h c => h c) (run m g)
  · refine (θ_run _ _ _).mono (fun r h c => ?_) (Cert.Reference9Ideal.Value.run (F := Ideal) m' g')
    exact ⟨(h c).1.trans ((Cert.Reference9Ideal.Read.val_main_v94_eq m' c).trans (same m c _ (hargs c))), (h c).2⟩

end Cert.Proof.Bias

end
-- ==== Proof.Product5.lean ====
/- The block product at [16384, 1024] × [1024, 128]: the result array of `Kernel5Ideal`, element by element, is the sum
   over the shared axis, which is what `Reference5Ideal` computes. Each grid point writes one [2048, 128] block. -/
module

public import proofs.«01_k».proof.Defs
public import proofs.«01_k».proof.Proof.Gen.Kernel5Ideal.Value
public import proofs.«01_k».proof.Proof.Gen.Reference5Ideal.Read
public import Idealize.ShloMosaic.Lib.MatmulPlain

@[expose] public section

noncomputable section

namespace Cert.Proof.Product5

open Idealize.ShloMosaic Idealize.ShloMosaic.TcCoe Idealize.SL.Sem Idealize.ShloMosaic.ValueIdx
open Cert.Kernel5Ideal Cert.Kernel5Ideal.Gen

/-- The product of the two arrays, each element a sum over the shared axis. -/
def prod (x : Vec Ideal S16384x1024 .bf16) (w : Vec Ideal S1024x128 .bf16) : Vec Ideal S16384x128 .f32 :=
  fun i => ∑ k : Fin 1024, (x (ix2 (i 0) k) : EReal) * w (ix2 k (i 1))

theorem pay_apply (x : Vec Ideal S2048x1024 .bf16) (w : Vec Ideal S1024x128 .bf16) (y : S2048x128.Idx) :
    k0_pay1 x w y = (∑ k : Fin 1024, (x (ix2 (y 0) k) : EReal) * w (ix2 k (y 1)) : EReal) := by
  have h := Ideal.matmul_plain_apply (M := 2048) (K := 1024) (N := 128) (φ₁ := .bf16) (φ₂ := .bf16) none x w (constant S2048x128 .f32 0x00000000#32) (y 0) (y 1)
  have e : y = ix2 (y 0) (y 1) := by
    funext a
    match a with
    | ⟨0, _⟩ => rfl
    | ⟨1, _⟩ => rfl
  have z : constant (F := Ideal) S2048x128 .f32 0x00000000#32 (ix2 (y 0) (y 1)) = (0 : EReal) := Ideal.ofBits_zero_f32
  rw [z, zero_add] at h
  rw [← h]
  conv_lhs => rw [e]
  rfl

theorem index_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem onto : ∀ (a : Fin 8) (b : Fin 1), ∃ t : Fin cfg0.N, win0_2.index t (0 : Fin 2) = a.val ∧ win0_2.index t (1 : Fin 2) = b.val :=
  (by decide +kernel : ∀ (a : Fin 8) (b : Fin 1), ∃ t : Fin grid0.N, _)

variable (m : (ℓ : Loc nD τ sig) → Buf (Elt Ideal) ℓ) (ρ : Dev nD → PrngReg)

theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e0, e1, e2, e3⟩ := index_facts t
    have hy0 : (y 0).val < 2048 := (y 0).isLt
    have hy1 : (y 1).val < 128 := (y 1).isLt
    show out0_2 (iblk m c 0 t) (iblk m c 1 t) ((cfg0.win 2).xinj (grid0.coords t) y) = _
    unfold out0_2
    have hz : (![0, 0] : Fin 2 → Nat) = fun _ => 0 := by decide
    rw [View.canon_unit_zero hz, View.ld_unit_zero hz, View.ld_unit_zero hz]
    refine (pay_apply _ _ _).trans ?_
    show _ = prod (m ((c : Thread nD τ).loc main_arg0)) (m ((c : Thread nD τ).loc main_arg1)) (((cfg0.win 2).blk t).view.emb y)
    unfold prod
    refine Finset.sum_congr rfl fun k _ => ?_
    refine congrArg₂ (fun a b : EReal => a * b)
      (congrArg (m ((c : Thread nD τ).loc main_arg0)) ?_) (congrArg (m ((c : Thread nD τ).loc main_arg1)) ?_)
    · funext a
      apply Fin.ext
      match a with
      | ⟨0, _⟩ => show win0_0.index t (0 : Fin 2) * 2048 + 1 * (y 0).val = win0_2.index t (0 : Fin 2) * 2048 + 1 * (y 0).val; rw [e0]
      | ⟨1, _⟩ => show win0_0.index t (1 : Fin 2) * 1024 + 1 * k.val = k.val; rw [e1]; omega
    · funext a
      apply Fin.ext
      match a with
      | ⟨0, _⟩ => show win0_1.index t (0 : Fin 2) * 1024 + 1 * k.val = k.val; rw [e2]; omega
      | ⟨1, _⟩ => show win0_1.index t (1 : Fin 2) * 128 + 1 * (y 1).val = win0_2.index t (1 : Fin 2) * 128 + 1 * (y 1).val; rw [e3]
  · have h0 : (i 0).val < 16384 := (i 0).isLt
    have h1 : (i 1).val < 128 := (i 1).isLt
    obtain ⟨t, t0, t1⟩ := onto ⟨(i 0).val / 2048, by omega⟩ ⟨(i 1).val / 128, by omega⟩
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 2048 ≤ (i 0).val ∧ (i 0).val < win0_2.index t (0 : Fin 2) * 2048 + 2048; rw [t0]; dsimp only; omega
    | ⟨1, _⟩ => show win0_2.index t (1 : Fin 2) * 128 ≤ (i 1).val ∧ (i 1).val < win0_2.index t (1 : Fin 2) * 128 + 128; rw [t1]; dsimp only; omega

theorem ref_eq (x : Vec Ideal S16384x1024 .bf16) (w : Vec Ideal S1024x128 .bf16) :
    Cert.Reference5Ideal.Read.val_main_v2 (F := Ideal) x w = prod x w := by
  funext i
  rw [Cert.Reference5Ideal.Read.val_main_v2_apply]
  refine Finset.sum_congr rfl fun k _ => ?_
  refine congrArg₂ (fun a b : EReal => a * b) (congrArg x ?_) (congrArg w ?_)
  · funext a
    match a with
    | ⟨0, _⟩ => rfl
    | ⟨1, _⟩ => rfl
  · funext a
    match a with
    | ⟨0, _⟩ => rfl
    | ⟨1, _⟩ => rfl

theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => prod (m ((c.tc : Thread nD τ).loc main_arg0)) (m ((c.tc : Thread nD τ).loc main_arg1)), ?_, ?_⟩
  · refine (θ_run _ _ _).mono (fun r h c => ?_) (Value.run_blocks (F := Ideal) m g)
    obtain ⟨h0, h1, h2⟩ := h c
    exact ⟨h0.trans (final m c), h1, h2⟩
  · refine (θ_run _ _ _).mono (fun r h c => ?_) (Cert.Reference5Ideal.Value.run (F := Ideal) m' g')
    obtain ⟨h0, h1, h2⟩ := h c
    refine ⟨h0.trans ?_, h1, h2⟩
    rw [Cert.Reference5Ideal.Read.val_main_v2_eq, ref_eq, (hargs c).1, (hargs c).2]

end Cert.Proof.Product5

end
-- ==== Proof.Route.lean ====
/- The route's kernel and its reference have one pair of results, for finite arguments. -/
module

public import proofs.«01_k».proof.Defs
public import proofs.«01_k».proof.Proof.RouteKernel
public import proofs.«01_k».proof.Proof.Gen.Pre_finite_mix

@[expose] public section

set_option maxRecDepth 16384

noncomputable section

namespace Cert.Proof.Route

open Idealize.ShloMosaic Idealize.ShloMosaic.TcCoe Idealize.SL.Sem
open Cert.Proof.Ssd (andi_both finite_of top_bf16 top_f32)
open Cert.Kernel6Ideal Cert.Kernel6Ideal.Gen

/-! ## The precondition -/

instance : Cert.Pre_finite_mix.Facts := Cert.Pre_finite_mix.Gen.facts

theorem fn_real (a0 : FVec Ideal ⟨2, ![16384, 1024]⟩ .bf16) (a1 : FVec Ideal ⟨2, ![1024, 1024]⟩ .bf16) (a2 : FVec Ideal ⟨2, ![16384, 1024]⟩ .f32)
    (a3 a4 : FVec Ideal ⟨2, ![1, 1024]⟩ .f32) (a5 : FVec Ideal ⟨2, ![1024, 8]⟩ .f32) (a6 : FVec Ideal ⟨2, ![1024, 64]⟩ .f32)
    (h : Cert.Pre_finite_mix.fn (F := Ideal) a0 a1 a2 a3 a4 a5 a6 = fun _ => 1#1) : Real7 a0 a1 a2 a3 a4 a5 a6 := by
  have : Subsingleton Cert.Pre_finite_mix.S_.Idx := ⟨fun _ _ => funext fun a => a.elim0⟩
  have e := congrFun h (fun a => a.elim0)
  obtain ⟨e, h6⟩ := andi_both _ _ e
  obtain ⟨e, h5⟩ := andi_both _ _ e
  obtain ⟨e, h4⟩ := andi_both _ _ e
  obtain ⟨e, h3⟩ := andi_both _ _ e
  obtain ⟨e, h2⟩ := andi_both _ _ e
  obtain ⟨h0, h1⟩ := andi_both _ _ e
  exact ⟨finite_of _ _ (fun _ => top_bf16) _ _ _ _ h0, finite_of _ _ (fun _ => top_bf16) _ _ _ _ h1, finite_of _ _ (fun _ => top_f32) _ _ _ _ h2,
    finite_of _ _ (fun _ => top_f32) _ _ _ _ h3, finite_of _ _ (fun _ => top_f32) _ _ _ _ h4, finite_of _ _ (fun _ => top_f32) _ _ _ _ h5,
    finite_of _ _ (fun _ => top_f32) _ _ _ _ h6⟩

/-! ## The kernel's run -/

/-- After the run the two result arrays are the folded blocks, and every argument is as it was. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7_0) = (dats m 0 c).arrAt 6 cfg0.N
      ∧ r.2.mem ((c : Thread nD τ).loc main_v7_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ⟨(h c).1 6, (h c).1 7, ?_⟩) (run_main m ρ)
  exact ⟨((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c))), ((h c).1 4).trans (((dats m 0 c).arrAt_in 4 rfl _).trans ((A_eq m c 4).trans (V_main_arg4 m c))),
    ((h c).2 main_arg5 (Pipeline.mem_restRefs_of main_arg5 (by decide) (by decide))).trans (V_main_arg5 m c), ((h c).2 main_arg6 (Pipeline.mem_restRefs_of main_arg6 (by decide) (by decide))).trans (V_main_arg6 m c)⟩

/-! ## The two results -/

theorem same6 (m : (ℓ : Loc nD τ sig) → Buf (Elt Ideal) ℓ) (c : Dev nD) (x0 : Vec Ideal S16384x1024 .bf16) (x1 : Vec Ideal S1024x1024 .bf16) (x2 : Vec Ideal S16384x1024 .f32) (x3 x4 : Vec Ideal S1x1024 .f32)
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e4 : x4 = m ((c : Thread nD τ).loc main_arg4)) :
    Cert.Reference6Ideal.Read.val_main_v25 (F := Ideal) x0 x1 x2 x3 x4 = ref6 m c := by
  rw [e0, e1, e2, e3, e4]
  rfl

theorem same7 (m : (ℓ : Loc nD τ sig) → Buf (Elt Ideal) ℓ) (c : Dev nD) (x0 : Vec Ideal S16384x1024 .bf16) (x1 : Vec Ideal S1024x1024 .bf16) (x2 : Vec Ideal S16384x1024 .f32) (x3 x4 : Vec Ideal S1x1024 .f32) (x5 : Vec Ideal S1024x8 .f32) (x6 : Vec Ideal S1024x64 .f32)
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e4 : x4 = m ((c : Thread nD τ).loc main_arg4)) (e5 : x5 = m ((c : Thread nD τ).loc main_arg5)) (e6 : x6 = m ((c : Thread nD τ).loc main_arg6)) :
    Cert.Reference6Ideal.Read.val_main_v108 (F := Ideal) x0 x1 x2 x3 x4 x5 x6 = ref7 m c := by
  rw [e0, e1, e2, e3, e4, e5, e6]
  rfl

theorem algebraic : Cert.algebraic_Kernel6Ideal_Reference6Ideal_pre_finite_mix (hKernel6Ideal := Cert.Kernel6Ideal.Gen.facts)
    (hReference6Ideal := Cert.Reference6Ideal.Gen.facts) (hPre_finite_mix := Cert.Pre_finite_mix.Gen.facts) := by
  intro m g m' g' hpre hargs
  refine ⟨ref6 m, ref7 m, ?_, ?_⟩
  · refine (θ_run _ _ _).mono (fun r h c => ?_) (run m g)
    obtain ⟨h6, h7, hk⟩ := h c
    exact ⟨h6.trans (final6 m c), h7.trans (final7 m c (fn_real _ _ _ _ _ _ _ (hpre c))), hk⟩
  · refine (θ_run _ _ _).mono (fun r h c => ?_) (Cert.Reference6Ideal.Value.run (F := Ideal) m' g')
    obtain ⟨h6, h7, hk⟩ := h c
    obtain ⟨e0, e1, e2, e3, e4, e5, e6⟩ := hargs c
    exact ⟨h6.trans ((Cert.Reference6Ideal.Read.val_main_v25_eq _).trans (same6 m c _ _ _ _ _ e0 e1 e2 e3 e4)),
      h7.trans ((Cert.Reference6Ideal.Read.val_main_v108_eq _).trans (same7 m c _ _ _ _ _ _ _ e0 e1 e2 e3 e4 e5 e6)), hk⟩

end Cert.Proof.Route
-- ==== Proof.RouteWide.lean ====
/- The wider call of the route is the narrower one with the product moved into the residual: for real arguments each of the two
   programs at width 2048 gives what it gives at width 1024 of zero operands and the residual `moved`. -/
module

public import proofs.«01_k».proof.Proof.RouteKernel
public import proofs.«01_k».proof.Proof.Gen.Kernel7Ideal.Frame
public import proofs.«01_k».proof.Proof.Gen.Reference7Ideal.Read

@[expose] public section

set_option maxRecDepth 16384

noncomputable section

namespace Cert.Proof.RouteWide

open Idealize.ShloMosaic Idealize.ShloMosaic.TcCoe Idealize.SL.Sem Cert.Proof.Ssd
open Cert.Proof.Route (norm lit_alpha Real7 corner)
open Cert.Reference7Ideal (S16384x2048 S2048x1024 S16384x1024 S1x1024 S1024x8 S1024x64)
open scoped BigOperators

/-! ## The moved product -/

/-- DeepNorm's factor, as the literal it is. -/
def alpha : ℝ := (Ideal.ofBits .f32 1071072509#32).toReal

theorem alpha_eq : Ideal.ofBits .f32 1071072509#32 = ((alpha : ℝ) : EReal) := by
  obtain ⟨e, he⟩ := lit_alpha
  unfold alpha
  rw [he, EReal.toReal_coe]

theorem alpha_ne : alpha ≠ 0 := by
  unfold alpha
  rw [show Ideal.ofBits .f32 1071072509#32 = _ by simp [Ideal.ofBits, Ideal.ieee, -EReal.coe_mul]; rfl, EReal.toReal_coe]
  norm_num

variable (b0 : Vec Ideal S16384x2048 .bf16) (b1 : Vec Ideal S2048x1024 .bf16) (b2 : Vec Ideal S16384x1024 .f32)

/-- The residual with the product in it. -/
def moved : Vec Ideal S16384x1024 .f32 := fun i =>
  ((mat b2 (i 0).val (i 1).val + (∑ k : Fin 2048, mat b0 (i 0).val k.val * mat b1 k.val (i 1).val) / alpha : ℝ) : EReal)

variable (h0 : ∀ i, (b0 i : EReal) = ((b0 i : EReal).toReal : EReal)) (h1 : ∀ i, (b1 i : EReal) = ((b1 i : EReal).toReal : EReal))
  (h2 : ∀ i, (b2 i : EReal) = ((b2 i : EReal).toReal : EReal))

include h0 h1 h2 in
theorem moved_row (R : Fin 16384) (x : Fin 1024) :
    (Ideal.ofBits .f32 1071072509#32 * b2 (ix2 R x) + ∑ k : Fin 2048, (b0 (ix2 R k) : EReal) * b1 (ix2 k x) : EReal)
      = Ideal.ofBits .f32 1071072509#32 * moved b0 b1 b2 (ix2 R x) + ∑ k : Fin 1024, (0 : EReal) * 0 := by
  rw [alpha_eq, mat_eq b2 h2]
  simp only [mat_eq b0 h0, mat_eq b1 h1, ← EReal.coe_mul, coe_sum, ← EReal.coe_add, mul_zero, Finset.sum_const_zero, add_zero]
  show _ = ((alpha : ℝ) : EReal) * ((mat b2 R.val x.val + (∑ k : Fin 2048, mat b0 R.val k.val * mat b1 k.val x.val) / alpha : ℝ) : EReal)
  rw [← EReal.coe_mul, mul_add, mul_div_cancel₀ _ alpha_ne]

/-! ## The reference -/

section ref
open Cert.Reference7Ideal.Read
variable (b3 b4 : Vec Ideal S1x1024 .f32) (b5 : Vec Ideal S1024x8 .f32) (b6 : Vec Ideal S1024x64 .f32)

theorem norm_eq (r : Fin 16384) (d : Fin 1024) : val_main_v25 (F := Ideal) b0 b1 b2 b3 b4 (ix2 r d)
    = norm (fun x => Ideal.ofBits .f32 1071072509#32 * b2 (ix2 r x) + ∑ k : Fin 2048, b0 (ix2 r k) * b1 (ix2 k x)) (fun x => b3 (ix2 0 x)) (fun x => b4 (ix2 0 x)) d := by
  pointwise [val_main_v25, val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4]
  rfl

include h0 h1 h2 in
theorem norm_moved : val_main_v25 (F := Ideal) b0 b1 b2 b3 b4
    = Cert.Reference6Ideal.Read.val_main_v25 (F := Ideal) (fun _ => (0 : EReal)) (fun _ => (0 : EReal)) (moved b0 b1 b2) b3 b4 := by
  have at_ix (r : Fin 16384) (d : Fin 1024) : val_main_v25 (F := Ideal) b0 b1 b2 b3 b4 (ix2 r d)
      = Cert.Reference6Ideal.Read.val_main_v25 (F := Ideal) (fun _ => (0 : EReal)) (fun _ => (0 : EReal)) (moved b0 b1 b2) b3 b4 (ix2 r d) := by
    rw [norm_eq, Cert.Proof.RouteR.norm_eq]
    simp only [moved_row b0 b1 b2 h0 h1 h2]
  funext i
  exact (congrArg _ (ix2_eta i)).symm.trans ((at_ix (i 0) (i 1)).trans (congrArg _ (ix2_eta i)))

/-- What follows the norm is one and the same. -/
theorem after_norm (z0 : Vec Ideal S16384x1024 .bf16) (z1 : Vec Ideal Cert.Reference6Ideal.S1024x1024 .bf16) (z2 : Vec Ideal S16384x1024 .f32)
    (e : val_main_v25 (F := Ideal) b0 b1 b2 b3 b4 = Cert.Reference6Ideal.Read.val_main_v25 (F := Ideal) z0 z1 z2 b3 b4) :
    val_main_v108 (F := Ideal) b0 b1 b2 b3 b4 b5 b6 = Cert.Reference6Ideal.Read.val_main_v108 (F := Ideal) z0 z1 z2 b3 b4 b5 b6 := by
  have e27 : val_main_v27 (F := Ideal) b0 b1 b2 b3 b4 b5 = Cert.Reference6Ideal.Read.val_main_v27 (F := Ideal) z0 z1 z2 b3 b4 b5 := by
    unfold val_main_v27 Cert.Reference6Ideal.Read.val_main_v27
    rw [e]
    rfl
  have e53 : val_main_v53 (F := Ideal) b0 b1 b2 b3 b4 b6 = Cert.Reference6Ideal.Read.val_main_v53 (F := Ideal) z0 z1 z2 b3 b4 b6 := by
    unfold val_main_v53 val_main_v52 Cert.Reference6Ideal.Read.val_main_v53 Cert.Reference6Ideal.Read.val_main_v52
    rw [e]
    rfl
  have e38 : val_main_v38 (F := Ideal) b0 b1 b2 b3 b4 b5 = Cert.Reference6Ideal.Read.val_main_v38 (F := Ideal) z0 z1 z2 b3 b4 b5 := by
    simp only [val_main_v38, val_main_v37, val_main_v36, val_main_v35, val_main_v34, val_main_v33, val_main_v32, val_main_v31, val_main_v30, val_main_v29, val_main_v28, Cert.Reference6Ideal.Read.val_main_v38, Cert.Reference6Ideal.Read.val_main_v37, Cert.Reference6Ideal.Read.val_main_v36, Cert.Reference6Ideal.Read.val_main_v35, Cert.Reference6Ideal.Read.val_main_v34, Cert.Reference6Ideal.Read.val_main_v33, Cert.Reference6Ideal.Read.val_main_v32, Cert.Reference6Ideal.Read.val_main_v31, Cert.Reference6Ideal.Read.val_main_v30, Cert.Reference6Ideal.Read.val_main_v29, Cert.Reference6Ideal.Read.val_main_v28, e27]
    rfl
  have e44 : val_main_v44 (F := Ideal) b0 b1 b2 b3 b4 b5 = Cert.Reference6Ideal.Read.val_main_v44 (F := Ideal) z0 z1 z2 b3 b4 b5 := by
    simp only [val_main_v44, val_main_v43, val_main_v42, val_main_v41, val_main_v40, val_main_v39, val_main_call0_v2, val_main_call0_v1, val_main_call0_v0, Cert.Reference6Ideal.Read.val_main_v44, Cert.Reference6Ideal.Read.val_main_v43, Cert.Reference6Ideal.Read.val_main_v42, Cert.Reference6Ideal.Read.val_main_v41, Cert.Reference6Ideal.Read.val_main_v40, Cert.Reference6Ideal.Read.val_main_v39, Cert.Reference6Ideal.Read.val_main_call0_v2, Cert.Reference6Ideal.Read.val_main_call0_v1, Cert.Reference6Ideal.Read.val_main_call0_v0, e27]
    rfl
  have e51 : val_main_v51 (F := Ideal) b0 b1 b2 b3 b4 b5 = Cert.Reference6Ideal.Read.val_main_v51 (F := Ideal) z0 z1 z2 b3 b4 b5 := by
    simp only [val_main_v51, val_main_v50, val_main_v49, val_main_v48, val_main_v47, val_main_v46, val_main_v45, val_main_call1_v1, val_main_call1_v0, Cert.Reference6Ideal.Read.val_main_v51, Cert.Reference6Ideal.Read.val_main_v50, Cert.Reference6Ideal.Read.val_main_v49, Cert.Reference6Ideal.Read.val_main_v48, Cert.Reference6Ideal.Read.val_main_v47, Cert.Reference6Ideal.Read.val_main_v46, Cert.Reference6Ideal.Read.val_main_v45, Cert.Reference6Ideal.Read.val_main_call1_v1, Cert.Reference6Ideal.Read.val_main_call1_v0, e38, e44]
    rfl
  have e61 : val_main_v61 (F := Ideal) b0 b1 b2 b3 b4 b5 b6 = Cert.Reference6Ideal.Read.val_main_v61 (F := Ideal) z0 z1 z2 b3 b4 b5 b6 := by
    simp only [val_main_v61, val_main_v60, val_main_v59, val_main_v58, val_main_v57, val_main_v56, val_main_v55, val_main_v54, val_main_call2_v2, val_main_call2_v1, val_main_call2_v0, Cert.Reference6Ideal.Read.val_main_v61, Cert.Reference6Ideal.Read.val_main_v60, Cert.Reference6Ideal.Read.val_main_v59, Cert.Reference6Ideal.Read.val_main_v58, Cert.Reference6Ideal.Read.val_main_v57, Cert.Reference6Ideal.Read.val_main_v56, Cert.Reference6Ideal.Read.val_main_v55, Cert.Reference6Ideal.Read.val_main_v54, Cert.Reference6Ideal.Read.val_main_call2_v2, Cert.Reference6Ideal.Read.val_main_call2_v1, Cert.Reference6Ideal.Read.val_main_call2_v0, e44, e53]
    rfl
  have e67 : val_main_v67 (F := Ideal) b0 b1 b2 b3 b4 b5 b6 = Cert.Reference6Ideal.Read.val_main_v67 (F := Ideal) z0 z1 z2 b3 b4 b5 b6 := by
    simp only [val_main_v67, val_main_v66, val_main_v65, val_main_v64, val_main_v63, val_main_v62, val_main_call3_v2, val_main_call3_v1, val_main_call3_v0, Cert.Reference6Ideal.Read.val_main_v67, Cert.Reference6Ideal.Read.val_main_v66, Cert.Reference6Ideal.Read.val_main_v65, Cert.Reference6Ideal.Read.val_main_v64, Cert.Reference6Ideal.Read.val_main_v63, Cert.Reference6Ideal.Read.val_main_v62, Cert.Reference6Ideal.Read.val_main_call3_v2, Cert.Reference6Ideal.Read.val_main_call3_v1, Cert.Reference6Ideal.Read.val_main_call3_v0, e61]
    rfl
  have e73 : val_main_v73 (F := Ideal) b0 b1 b2 b3 b4 b5 b6 = Cert.Reference6Ideal.Read.val_main_v73 (F := Ideal) z0 z1 z2 b3 b4 b5 b6 := by
    simp only [val_main_v73, val_main_v72, val_main_v71, val_main_v70, val_main_v69, val_main_v68, val_main_call4_v1, val_main_call4_v0, Cert.Reference6Ideal.Read.val_main_v73, Cert.Reference6Ideal.Read.val_main_v72, Cert.Reference6Ideal.Read.val_main_v71, Cert.Reference6Ideal.Read.val_main_v70, Cert.Reference6Ideal.Read.val_main_v69, Cert.Reference6Ideal.Read.val_main_v68, Cert.Reference6Ideal.Read.val_main_call4_v1, Cert.Reference6Ideal.Read.val_main_call4_v0, e61, e67]
    rfl
  have e79 : val_main_v79 (F := Ideal) b0 b1 b2 b3 b4 b5 b6 = Cert.Reference6Ideal.Read.val_main_v79 (F := Ideal) z0 z1 z2 b3 b4 b5 b6 := by
    simp only [val_main_v79, val_main_v78, val_main_v77, val_main_v76, val_main_v75, val_main_v74, val_main_call5_v2, val_main_call5_v1, val_main_call5_v0, Cert.Reference6Ideal.Read.val_main_v79, Cert.Reference6Ideal.Read.val_main_v78, Cert.Reference6Ideal.Read.val_main_v77, Cert.Reference6Ideal.Read.val_main_v76, Cert.Reference6Ideal.Read.val_main_v75, Cert.Reference6Ideal.Read.val_main_v74, Cert.Reference6Ideal.Read.val_main_call5_v2, Cert.Reference6Ideal.Read.val_main_call5_v1, Cert.Reference6Ideal.Read.val_main_call5_v0, e73]
    rfl
  have e82 : val_main_v82 (F := Ideal) b0 b1 b2 b3 b4 b5 b6 = Cert.Reference6Ideal.Read.val_main_v82 (F := Ideal) z0 z1 z2 b3 b4 b5 b6 := by
    simp only [val_main_v82, val_main_v80, Cert.Reference6Ideal.Read.val_main_v82, Cert.Reference6Ideal.Read.val_main_v80, e61]
    rfl
  have e83 : val_main_v83 (F := Ideal) b0 b1 b2 b3 b4 b5 b6 = Cert.Reference6Ideal.Read.val_main_v83 (F := Ideal) z0 z1 z2 b3 b4 b5 b6 := by
    simp only [val_main_v83, val_main_v81, Cert.Reference6Ideal.Read.val_main_v83, Cert.Reference6Ideal.Read.val_main_v81, e73]
    rfl
  have e84 : val_main_v84 (F := Ideal) b0 b1 b2 b3 b4 b5 b6 = Cert.Reference6Ideal.Read.val_main_v84 (F := Ideal) z0 z1 z2 b3 b4 b5 b6 :=
    congrArg₂ (fun p q => concatenate Cert.Reference7Ideal.S16384x2 1 [⟨Cert.Reference7Ideal.S16384x1, p⟩, ⟨Cert.Reference7Ideal.S16384x1, q⟩] Cert.Reference7Ideal.Gen.facts.concatenates_S16384x1_S16384x1_S16384x2_d1) e82 e83
  have e85 : val_main_v85 (F := Ideal) b0 b1 b2 b3 b4 b5 b6 = Cert.Reference6Ideal.Read.val_main_v85 (F := Ideal) z0 z1 z2 b3 b4 b5 b6 := by
    simp only [val_main_v85, Cert.Reference6Ideal.Read.val_main_v85, e67]
  have e86 : val_main_v86 (F := Ideal) b0 b1 b2 b3 b4 b5 b6 = Cert.Reference6Ideal.Read.val_main_v86 (F := Ideal) z0 z1 z2 b3 b4 b5 b6 := by
    simp only [val_main_v86, Cert.Reference6Ideal.Read.val_main_v86, e79]
  have e87 : val_main_v87 (F := Ideal) b0 b1 b2 b3 b4 b5 b6 = Cert.Reference6Ideal.Read.val_main_v87 (F := Ideal) z0 z1 z2 b3 b4 b5 b6 :=
    congrArg₂ (fun p q => concatenate Cert.Reference7Ideal.S16384x2 1 [⟨Cert.Reference7Ideal.S16384x1, p⟩, ⟨Cert.Reference7Ideal.S16384x1, q⟩] Cert.Reference7Ideal.Gen.facts.concatenates_S16384x1_S16384x1_S16384x2_d1) e85 e86
  have e98 : val_main_v98 (F := Ideal) b0 b1 b2 b3 b4 b5 b6 = Cert.Reference6Ideal.Read.val_main_v98 (F := Ideal) z0 z1 z2 b3 b4 b5 b6 := by
    simp only [val_main_v98, val_main_v97, val_main_v96, val_main_v95, val_main_v94, val_main_v93, val_main_v92, val_main_v91, val_main_v90, val_main_v89, val_main_v88, Cert.Reference6Ideal.Read.val_main_v98, Cert.Reference6Ideal.Read.val_main_v97, Cert.Reference6Ideal.Read.val_main_v96, Cert.Reference6Ideal.Read.val_main_v95, Cert.Reference6Ideal.Read.val_main_v94, Cert.Reference6Ideal.Read.val_main_v93, Cert.Reference6Ideal.Read.val_main_v92, Cert.Reference6Ideal.Read.val_main_v91, Cert.Reference6Ideal.Read.val_main_v90, Cert.Reference6Ideal.Read.val_main_v89, Cert.Reference6Ideal.Read.val_main_v88, e84]
    rfl
  have e103 : val_main_v103 (F := Ideal) b0 b1 b2 b3 b4 b5 b6 = Cert.Reference6Ideal.Read.val_main_v103 (F := Ideal) z0 z1 z2 b3 b4 b5 b6 := by
    simp only [val_main_v103, val_main_v102, val_main_v101, val_main_v100, val_main_v99, Cert.Reference6Ideal.Read.val_main_v103, Cert.Reference6Ideal.Read.val_main_v102, Cert.Reference6Ideal.Read.val_main_v101, Cert.Reference6Ideal.Read.val_main_v100, Cert.Reference6Ideal.Read.val_main_v99, e44, e87]
    rfl
  have e106 : val_main_v106 (F := Ideal) b0 b1 b2 b3 b4 b5 b6 = Cert.Reference6Ideal.Read.val_main_v106 (F := Ideal) z0 z1 z2 b3 b4 b5 b6 := by
    simp only [val_main_v106, val_main_v105, val_main_v104, Cert.Reference6Ideal.Read.val_main_v106, Cert.Reference6Ideal.Read.val_main_v105, Cert.Reference6Ideal.Read.val_main_v104, e51, e98]
  exact congrArg₂ (fun p q => concatenate Cert.Reference7Ideal.S16384x128 1 [⟨Cert.Reference7Ideal.S16384x2, p⟩, ⟨Cert.Reference7Ideal.S16384x2, q⟩, ⟨Cert.Reference7Ideal.S16384x124, val_main_v107 (F := Ideal)⟩]
    Cert.Reference7Ideal.Gen.facts.concatenates_S16384x2_S16384x2_S16384x124_S16384x128_d1) e103 e106

include h0 h1 h2 in
theorem route_moved : val_main_v108 (F := Ideal) b0 b1 b2 b3 b4 b5 b6
    = Cert.Reference6Ideal.Read.val_main_v108 (F := Ideal) (fun _ => (0 : EReal)) (fun _ => (0 : EReal)) (moved b0 b1 b2) b3 b4 b5 b6 :=
  after_norm b0 b1 b2 b3 b4 b5 b6 _ _ _ (norm_moved b0 b1 b2 h0 h1 h2 b3 b4)

end ref

/-! ## The kernel's body -/

section body
open Cert.Kernel7Ideal (S512x2048 S512x1024 S1024x256)
open Cert.Kernel7Ideal.Gen
variable (x0 : Vec Ideal S512x2048 .bf16) (x1 : Vec Ideal S2048x1024 .bf16) (x2 : Vec Ideal S512x1024 .f32) (x3 x4 : Vec Ideal S1x1024 .f32) (x5 : Vec Ideal S1024x256 .bf16)
  (z0 : Vec Ideal S512x1024 .bf16) (z1 : Vec Ideal Cert.Kernel6Ideal.S1024x1024 .bf16) (z2 : Vec Ideal S512x1024 .f32)

theorem pay2_eq (r : Fin 512) (d : Fin 1024) : k0_pay2 x0 x1 x2 x3 x4 (ix2 r d)
      = norm (fun x => Ideal.ofBits .f32 1071072509#32 * x2 (ix2 r x) + ∑ k : Fin 2048, x0 (ix2 r k) * x1 (ix2 k x)) (fun x => x3 (ix2 0 x)) (fun x => x4 (ix2 0 x)) d := by
  pointwise [k0_pay2]
  rfl

theorem out6_eq (e : k0_pay2 x0 x1 x2 x3 x4 = Cert.Kernel6Ideal.Gen.k0_pay2 z0 z1 z2 x3 x4) :
    out0_6 x0 x1 x2 x3 x4 x5 = Cert.Kernel6Ideal.Gen.out0_6 z0 z1 z2 x3 x4 x5 := by
  rw [Cert.Proof.Route.out6_eq]
  unfold out0_6
  rw [View.canon_unit_zero corner, View.ld_unit_zero corner, View.ld_unit_zero corner, View.ld_unit_zero corner, View.ld_unit_zero corner, View.ld_unit_zero corner]
  exact e

/-- What follows the norm is one and the same. -/
theorem out7_eq (e : k0_pay2 x0 x1 x2 x3 x4 = Cert.Kernel6Ideal.Gen.k0_pay2 z0 z1 z2 x3 x4) :
    out0_7 x0 x1 x2 x3 x4 x5 = Cert.Kernel6Ideal.Gen.out0_7 z0 z1 z2 x3 x4 x5 := by
  have e3 : k0_pay3 x0 x1 x2 x3 x4 = Cert.Kernel6Ideal.Gen.k0_pay3 z0 z1 z2 x3 x4 := by
    unfold k0_pay3 Cert.Kernel6Ideal.Gen.k0_pay3
    rw [e]
  have e4 : k0_pay4 x0 x1 x2 x3 x4 = Cert.Kernel6Ideal.Gen.k0_pay4 z0 z1 z2 x3 x4 := by
    unfold k0_pay4 Cert.Kernel6Ideal.Gen.k0_pay4
    rw [e, e3]
  have e26 : k0_pay26 x0 x1 x2 x3 x4 x5 = Cert.Kernel6Ideal.Gen.k0_pay26 z0 z1 z2 x3 x4 x5 := by
    unfold k0_pay26 Cert.Kernel6Ideal.Gen.k0_pay26
    rw [View.ld_unit_zero corner, View.ld_unit_zero corner, View.ld_unit_zero corner, View.ld_unit_zero corner, View.ld_unit_zero corner, View.ld_unit_zero corner, View.ld_unit_zero corner, View.ld_unit_zero corner]
    exact e3
  have e27 : k0_pay27 x0 x1 x2 x3 x4 x5 = Cert.Kernel6Ideal.Gen.k0_pay27 z0 z1 z2 x3 x4 x5 := by
    unfold k0_pay27 Cert.Kernel6Ideal.Gen.k0_pay27
    rw [View.ld_unit_zero corner, View.ld_unit_zero corner, View.ld_unit_zero corner, View.ld_unit_zero corner, View.ld_unit_zero corner, View.ld_unit_zero corner, View.ld_unit_zero corner, View.ld_unit_zero corner]
    exact e4
  have e30 : k0_pay30 x0 x1 x2 x3 x4 x5 = Cert.Kernel6Ideal.Gen.k0_pay30 z0 z1 z2 x3 x4 x5 := by
    unfold k0_pay30 Cert.Kernel6Ideal.Gen.k0_pay30
    rw [e26, e27]
    rfl
  have e31 : k0_pay31 x0 x1 x2 x3 x4 x5 = Cert.Kernel6Ideal.Gen.k0_pay31 z0 z1 z2 x3 x4 x5 := by
    unfold k0_pay31 Cert.Kernel6Ideal.Gen.k0_pay31
    rw [e26, e27]
    rfl
  have e32 : k0_pay32 x0 x1 x2 x3 x4 x5 = Cert.Kernel6Ideal.Gen.k0_pay32 z0 z1 z2 x3 x4 x5 := by
    unfold k0_pay32 Cert.Kernel6Ideal.Gen.k0_pay32
    rw [e26, e27]
    rfl
  unfold out0_7 Cert.Kernel6Ideal.Gen.out0_7
  rw [View.canon_unit_zero corner, View.canon_unit_zero corner, e30, e31, e32]
  rfl

end body

end Cert.Proof.RouteWide

end
-- ==== Proof.RouteWideKernel.lean ====
/- The wider call's result arrays: each block it writes is the reference's, element by element, for real arguments. -/
module

public import proofs.«01_k».proof.Defs
public import proofs.«01_k».proof.Proof.RouteWide
public import proofs.«01_k».proof.Proof.Gen.Pre_finite_wide_mix
public import Idealize.ShloMosaic.Lib.Pipeline.Value
public import Idealize.ShloMosaic.Lib.StableHlo.ReadAt

@[expose] public section

set_option maxRecDepth 16384

noncomputable section

namespace Cert.Proof.RouteWide

open Idealize.ShloMosaic Idealize.ShloMosaic.TcCoe Idealize.SL.Sem
open Cert.Proof.Ssd (andi_both finite_of top_bf16 top_f32)
open Cert.Proof.Route (wide)
open Cert.Kernel7Ideal Cert.Kernel7Ideal.Gen

variable (m : (ℓ : Loc nD τ sig) → Buf (Elt Ideal) ℓ)

/-! ## Each window's block -/

theorem rows_at : ∀ t : Fin cfg0.N, win0_0.index t (0 : Fin 2) = t.val ∧ win0_0.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem still_at : ∀ t : Fin cfg0.N, win0_1.index t (0 : Fin 2) = 0 ∧ win0_1.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem blk0 (cc : Dev nD) (t : Fin cfg0.N) (r : Fin 512) (l : Fin 2048) (R : Fin 16384) (hR : R.val = 512 * t.val + r.val) :
    (iblk m cc 0 t : Vec Ideal S512x2048 .bf16) (ix2 r l) = (m ((cc : Thread nD τ).loc main_arg0) : Vec Ideal S16384x2048 .bf16) (ix2 R l) := by
  obtain ⟨e0, e1, -⟩ := rows_at t
  unfold iblk
  rw [View.read_apply]
  show V m cc main_arg0 _ = _
  rw [V_main_arg0]
  congr 1
  funext a
  apply Fin.ext
  match a with
  | ⟨0, _⟩ => show win0_0.index t 0 * 512 + 1 * r.val = R.val; rw [e0]; omega
  | ⟨1, _⟩ => show win0_0.index t 1 * 2048 + 1 * l.val = l.val; rw [e1]; omega

theorem blk1 (cc : Dev nD) (t : Fin cfg0.N) (k : Fin 2048) (l : Fin 1024) :
    (iblk m cc 1 t : Vec Ideal S2048x1024 .bf16) (ix2 k l) = (m ((cc : Thread nD τ).loc main_arg1) : Vec Ideal S2048x1024 .bf16) (ix2 k l) := by
  obtain ⟨e0, e1, -⟩ := still_at t
  unfold iblk
  rw [View.read_apply]
  show V m cc main_arg1 _ = _
  rw [V_main_arg1]
  congr 1
  funext a
  apply Fin.ext
  match a with
  | ⟨0, _⟩ => show win0_1.index t 0 * 2048 + 1 * k.val = k.val; rw [e0]; omega
  | ⟨1, _⟩ => show win0_1.index t 1 * 1024 + 1 * l.val = l.val; rw [e1]; omega

theorem blk2 (cc : Dev nD) (t : Fin cfg0.N) (r : Fin 512) (l : Fin 1024) (R : Fin 16384) (hR : R.val = 512 * t.val + r.val) :
    (iblk m cc 2 t : Vec Ideal S512x1024 .f32) (ix2 r l) = (m ((cc : Thread nD τ).loc main_arg2) : Vec Ideal S16384x1024 .f32) (ix2 R l) := by
  obtain ⟨-, -, e0, e1, -⟩ := rows_at t
  unfold iblk
  rw [View.read_apply]
  show V m cc main_arg2 _ = _
  rw [V_main_arg2]
  congr 1
  funext a
  apply Fin.ext
  match a with
  | ⟨0, _⟩ => show win0_2.index t 0 * 512 + 1 * r.val = R.val; rw [e0]; omega
  | ⟨1, _⟩ => show win0_2.index t 1 * 1024 + 1 * l.val = l.val; rw [e1]; omega

theorem blk3 (cc : Dev nD) (t : Fin cfg0.N) (l : Fin 1024) :
    (iblk m cc 3 t : Vec Ideal S1x1024 .f32) (ix2 0 l) = (m ((cc : Thread nD τ).loc main_arg3) : Vec Ideal S1x1024 .f32) (ix2 0 l) := by
  obtain ⟨-, -, e0, e1, -⟩ := still_at t
  unfold iblk
  rw [View.read_apply]
  show V m cc main_arg3 _ = _
  rw [V_main_arg3]
  congr 1
  funext a
  apply Fin.ext
  match a with
  | ⟨0, _⟩ => show win0_3.index t 0 * 1 + 1 * 0 = 0; rw [e0]
  | ⟨1, _⟩ => show win0_3.index t 1 * 1024 + 1 * l.val = l.val; rw [e1]; omega

theorem blk4 (cc : Dev nD) (t : Fin cfg0.N) (l : Fin 1024) :
    (iblk m cc 4 t : Vec Ideal S1x1024 .f32) (ix2 0 l) = (m ((cc : Thread nD τ).loc main_arg4) : Vec Ideal S1x1024 .f32) (ix2 0 l) := by
  obtain ⟨-, -, -, -, e0, e1, -⟩ := still_at t
  unfold iblk
  rw [View.read_apply]
  show V m cc main_arg4 _ = _
  rw [V_main_arg4]
  congr 1
  funext a
  apply Fin.ext
  match a with
  | ⟨0, _⟩ => show win0_4.index t 0 * 1 + 1 * 0 = 0; rw [e0]
  | ⟨1, _⟩ => show win0_4.index t 1 * 1024 + 1 * l.val = l.val; rw [e1]; omega

theorem blk5 (cc : Dev nD) (t : Fin cfg0.N) (d : Fin 1024) (l : Fin 256) :
    (iblk m cc 5 t : Vec Ideal S1024x256 .bf16) (ix2 d l) = (V m cc main_v6 : Vec Ideal S1024x256 .bf16) (ix2 d l) := by
  obtain ⟨-, -, -, -, -, -, e0, e1⟩ := still_at t
  unfold iblk
  rw [View.read_apply]
  show V m cc main_v6 _ = _
  congr 1
  funext a
  apply Fin.ext
  match a with
  | ⟨0, _⟩ => show win0_5.index t 0 * 1024 + 1 * d.val = d.val; rw [e0]; omega
  | ⟨1, _⟩ => show win0_5.index t 1 * 256 + 1 * l.val = l.val; rw [e1]; omega

theorem high_eq (cc : Dev nD) (d : Fin 1024) (c : Fin 128) : (V m cc main_v6 : Vec Ideal S1024x256 .bf16) (ix2 d ⟨c.val, by omega⟩)
    = wide (m ((cc : Thread nD τ).loc main_arg5)) (m ((cc : Thread nD τ).loc main_arg6)) d c := by
  unfold V
  after_reads_at
  rfl

theorem low_eq (cc : Dev nD) (d : Fin 1024) (c : Fin 128) : (V m cc main_v6 : Vec Ideal S1024x256 .bf16) (ix2 d ⟨128 + c.val, by omega⟩)
    = (wide (m ((cc : Thread nD τ).loc main_arg5)) (m ((cc : Thread nD τ).loc main_arg6)) d c
      - wide (m ((cc : Thread nD τ).loc main_arg5)) (m ((cc : Thread nD τ).loc main_arg6)) d c : EReal) := by
  unfold V
  after_reads_at
  rfl

/-- Every array of the seven is real. -/
structure Real7 (b0 : Vec Ideal S16384x2048 .bf16) (b1 : Vec Ideal S2048x1024 .bf16) (b2 : Vec Ideal S16384x1024 .f32) (b3 b4 : Vec Ideal S1x1024 .f32)
    (b5 : Vec Ideal S1024x8 .f32) (b6 : Vec Ideal S1024x64 .f32) : Prop where
  r0 : ∀ i, (b0 i : EReal) = ((b0 i : EReal).toReal : EReal)
  r1 : ∀ i, (b1 i : EReal) = ((b1 i : EReal).toReal : EReal)
  r2 : ∀ i, (b2 i : EReal) = ((b2 i : EReal).toReal : EReal)
  r3 : ∀ i, (b3 i : EReal) = ((b3 i : EReal).toReal : EReal)
  r4 : ∀ i, (b4 i : EReal) = ((b4 i : EReal).toReal : EReal)
  r5 : ∀ i, (b5 i : EReal) = ((b5 i : EReal).toReal : EReal)
  r6 : ∀ i, (b6 i : EReal) = ((b6 i : EReal).toReal : EReal)

/-! ## The two result arrays -/

section result
variable (cc : Dev nD)

/-- The reference's two arrays of the kernel's arguments. -/
def ref6 : Vec Ideal S16384x1024 .f32 := Cert.Reference7Ideal.Read.val_main_v25 (F := Ideal) (m ((cc : Thread nD τ).loc main_arg0)) (m ((cc : Thread nD τ).loc main_arg1)) (m ((cc : Thread nD τ).loc main_arg2)) (m ((cc : Thread nD τ).loc main_arg3)) (m ((cc : Thread nD τ).loc main_arg4))
def ref7 : Vec Ideal S16384x128 .f32 := Cert.Reference7Ideal.Read.val_main_v108 (F := Ideal) (m ((cc : Thread nD τ).loc main_arg0)) (m ((cc : Thread nD τ).loc main_arg1)) (m ((cc : Thread nD τ).loc main_arg2)) (m ((cc : Thread nD τ).loc main_arg3)) (m ((cc : Thread nD τ).loc main_arg4)) (m ((cc : Thread nD τ).loc main_arg5)) (m ((cc : Thread nD τ).loc main_arg6))

/-- The norm's block at a step is the narrower kernel's, of zero operands and the step's rows of `moved`. -/
def part (b0 : Vec Ideal S16384x2048 .bf16) (b1 : Vec Ideal S2048x1024 .bf16) (b2 : Vec Ideal S16384x1024 .f32) (t : ℕ) : Vec Ideal S512x1024 .f32 := fun y =>
  moved b0 b1 b2 (ix2 (⟨(512 * t + (y 0).val) % 16384, Nat.mod_lt _ (by norm_num)⟩ : Fin 16384) (⟨(y 1).val, (y 1).isLt⟩ : Fin 1024))

theorem part_at (b0 : Vec Ideal S16384x2048 .bf16) (b1 : Vec Ideal S2048x1024 .bf16) (b2 : Vec Ideal S16384x1024 .f32) (t : ℕ) (r : Fin 512) (x : Fin 1024)
    (R : Fin 16384) (hR : R.val = 512 * t + r.val) : part b0 b1 b2 t (ix2 r x) = moved b0 b1 b2 (ix2 R x) := by
  have e : (⟨(512 * t + r.val) % 16384, Nat.mod_lt _ (by norm_num)⟩ : Fin 16384) = R := Fin.ext (by show _ % _ = _; omega)
  show moved b0 b1 b2 (ix2 (⟨(512 * t + r.val) % 16384, _⟩ : Fin 16384) x) = _
  rw [e]

variable (H : Real7 (m ((cc : Thread nD τ).loc main_arg0)) (m ((cc : Thread nD τ).loc main_arg1)) (m ((cc : Thread nD τ).loc main_arg2)) (m ((cc : Thread nD τ).loc main_arg3)) (m ((cc : Thread nD τ).loc main_arg4)) (m ((cc : Thread nD τ).loc main_arg5)) (m ((cc : Thread nD τ).loc main_arg6)))

include H in
theorem norm_part (t : Fin cfg0.N) : k0_pay2 (iblk m cc 0 t) (iblk m cc 1 t) (iblk m cc 2 t) (iblk m cc 3 t) (iblk m cc 4 t)
    = Cert.Kernel6Ideal.Gen.k0_pay2 (F := Ideal) (fun _ => (0 : EReal)) (fun _ => (0 : EReal)) (part (m ((cc : Thread nD τ).loc main_arg0)) (m ((cc : Thread nD τ).loc main_arg1)) (m ((cc : Thread nD τ).loc main_arg2)) t.val) (iblk m cc 3 t) (iblk m cc 4 t) := by
  have ht : t.val < 32 := lt_of_lt_of_eq t.isLt N_0
  have at_ix (r : Fin 512) (d : Fin 1024) : k0_pay2 (iblk m cc 0 t) (iblk m cc 1 t) (iblk m cc 2 t) (iblk m cc 3 t) (iblk m cc 4 t) (ix2 r d)
      = Cert.Kernel6Ideal.Gen.k0_pay2 (F := Ideal) (fun _ => (0 : EReal)) (fun _ => (0 : EReal)) (part (m ((cc : Thread nD τ).loc main_arg0)) (m ((cc : Thread nD τ).loc main_arg1)) (m ((cc : Thread nD τ).loc main_arg2)) t.val) (iblk m cc 3 t) (iblk m cc 4 t) (ix2 r d) := by
    rw [pay2_eq, Cert.Proof.Route.pay2_eq]
    congr 1
    funext x
    have hR : (⟨512 * t.val + r.val, by omega⟩ : Fin 16384).val = 512 * t.val + r.val := rfl
    rw [part_at _ _ _ _ _ _ _ hR, ← moved_row _ _ _ H.r0 H.r1 H.r2, blk2 m cc t r x _ hR]
    simp only [blk0 m cc t r _ _ hR, blk1 m cc t]
  funext y
  exact (congrArg _ (ix2_eta y)).symm.trans ((at_ix (y 0) (y 1)).trans (congrArg _ (ix2_eta y)))

include H in
theorem moved_real : Cert.Proof.Route.Real7 (fun _ => (0 : EReal)) (fun _ => (0 : EReal)) (moved (m ((cc : Thread nD τ).loc main_arg0)) (m ((cc : Thread nD τ).loc main_arg1)) (m ((cc : Thread nD τ).loc main_arg2))) (m ((cc : Thread nD τ).loc main_arg3)) (m ((cc : Thread nD τ).loc main_arg4)) (m ((cc : Thread nD τ).loc main_arg5)) (m ((cc : Thread nD τ).loc main_arg6)) :=
  ⟨fun _ => rfl, fun _ => rfl, fun _ => rfl, H.r3, H.r4, H.r5, H.r6⟩

theorem row_at (t : Fin cfg0.N) (r : Fin 512) (R : Fin 16384) (hR : R.val = 512 * t.val + r.val) :
    Cert.Proof.Route.Row (fun _ => (0 : EReal)) (fun _ => (0 : EReal)) (moved (m ((cc : Thread nD τ).loc main_arg0)) (m ((cc : Thread nD τ).loc main_arg1)) (m ((cc : Thread nD τ).loc main_arg2))) (m ((cc : Thread nD τ).loc main_arg3)) (m ((cc : Thread nD τ).loc main_arg4)) (m ((cc : Thread nD τ).loc main_arg5)) (m ((cc : Thread nD τ).loc main_arg6)) R
      (fun _ => (0 : EReal)) (fun _ => (0 : EReal)) (part (m ((cc : Thread nD τ).loc main_arg0)) (m ((cc : Thread nD τ).loc main_arg1)) (m ((cc : Thread nD τ).loc main_arg2)) t.val) (iblk m cc 3 t) (iblk m cc 4 t) (iblk m cc 5 t) r where
  e0 _ := rfl
  e1 _ _ := rfl
  e2 l := part_at _ _ _ _ r l R hR
  e3 := blk3 m cc t
  e4 := blk4 m cc t
  hi d c := (blk5 m cc t d _).trans (high_eq m cc d c)
  lo d c := (blk5 m cc t d _).trans (low_eq m cc d c)

include H in
/-- Row `r` of a step's first result block is the reference's row. -/
theorem norm_row (t : Fin cfg0.N) (r : Fin 512) (R : Fin 16384) (hR : R.val = 512 * t.val + r.val) (d : Fin 1024) :
    out0_6 (iblk m cc 0 t) (iblk m cc 1 t) (iblk m cc 2 t) (iblk m cc 3 t) (iblk m cc 4 t) (iblk m cc 5 t) (ix2 r d) = ref6 m cc (ix2 R d) := by
  refine (congrFun ((out6_eq _ _ _ _ _ _ _ _ _ (norm_part m cc H t)).trans (Cert.Proof.Route.out6_eq _ _ _ _ _ _)) _).trans ?_
  exact (Cert.Proof.Route.norm_same _ _ _ _ _ _ _ R (row_at m cc t r R hR) d).trans (congrFun (norm_moved _ _ _ H.r0 H.r1 H.r2 _ _) _).symm

include H in
/-- Row `r` of a step's second result block is the reference's row. -/
theorem route_row (t : Fin cfg0.N) (r : Fin 512) (R : Fin 16384) (hR : R.val = 512 * t.val + r.val) (c : Fin 128) :
    out0_7 (iblk m cc 0 t) (iblk m cc 1 t) (iblk m cc 2 t) (iblk m cc 3 t) (iblk m cc 4 t) (iblk m cc 5 t) (ix2 r c) = ref7 m cc (ix2 R c) := by
  refine (congrFun (out7_eq _ _ _ _ _ _ _ _ _ (norm_part m cc H t)) _).trans ?_
  exact (Cert.Proof.Route.route_same _ _ _ _ _ _ _ (moved_real m cc H) R (row_at m cc t r R hR) c).trans
    (congrFun (route_moved _ _ _ H.r0 H.r1 H.r2 _ _ _ _) _).symm

include H in
theorem final6 : (dats m 0 cc).arrAt 6 cfg0.N = ref6 m cc := by
  refine (dats m 0 cc).arrAt_eq_of_cover 6 _ (fun t _ => ?_) (fun i => ?_)
  · show (cfg0.win 6).cut (grid0.coords t) ((dats m 0 cc).after 6 t) = _
    rw [after0_6]
    funext y
    obtain ⟨-, -, -, -, e0, e1, -⟩ := rows_at t
    have hy0 : (y 0).val < 512 := (y 0).isLt
    have hy1 : (y 1).val < 1024 := (y 1).isLt
    have ht : t.val < 32 := lt_of_lt_of_eq t.isLt N_0
    show out0_6 (iblk m cc 0 t) (iblk m cc 1 t) (iblk m cc 2 t) (iblk m cc 3 t) (iblk m cc 4 t) (iblk m cc 5 t) ((cfg0.win 6).xinj (grid0.coords t) y) = _
    have ey : ((cfg0.win 6).xinj (grid0.coords t) y : S512x1024.Idx) = ix2 (⟨(y 0).val, hy0⟩ : Fin 512) (⟨(y 1).val, hy1⟩ : Fin 1024) := by
      funext a
      match a with
      | ⟨0, _⟩ => rfl
      | ⟨1, _⟩ => rfl
    rw [ey]
    refine Eq.trans (norm_row m cc H t _ ⟨512 * t.val + (y 0).val, by omega⟩ rfl _) ?_
    show _ = ref6 m cc (((cfg0.win 6).blk t).view.emb y)
    refine congrArg (ref6 m cc) ?_
    funext a
    apply Fin.ext
    match a with
    | ⟨0, _⟩ => show 512 * t.val + (y 0).val = win0_6.index t (0 : Fin 2) * 512 + 1 * (y 0).val; rw [e0]; omega
    | ⟨1, _⟩ => show (y 1).val = win0_6.index t (1 : Fin 2) * 1024 + 1 * (y 1).val; rw [e1]; omega
  · have h0 : (i 0).val < 16384 := (i 0).isLt
    have h1 : (i 1).val < 1024 := (i 1).isLt
    obtain ⟨t, ht⟩ : ∃ t : Fin cfg0.N, t.val = (i 0).val / 512 := ⟨⟨(i 0).val / 512, by rw [show cfg0.N = 32 from N_0]; omega⟩, rfl⟩
    obtain ⟨-, -, -, -, e0, e1, -⟩ := rows_at t
    refine ⟨t, flush0_6 t, ?_⟩
    show i ∈ ((View.whole main_v7_0).slice (win0_6.rect t)).set
    rw [View.set_slice_whole, Rect.mem_set_unit]
    intro a
    match a with
    | ⟨0, _⟩ => show win0_6.index t (0 : Fin 2) * 512 ≤ (i 0).val ∧ (i 0).val < win0_6.index t (0 : Fin 2) * 512 + 512; rw [e0, ht]; omega
    | ⟨1, _⟩ => show win0_6.index t (1 : Fin 2) * 1024 ≤ (i 1).val ∧ (i 1).val < win0_6.index t (1 : Fin 2) * 1024 + 1024; rw [e1]; omega

include H in
theorem final7 : (dats m 0 cc).arrAt 7 cfg0.N = ref7 m cc := by
  refine (dats m 0 cc).arrAt_eq_of_cover 7 _ (fun t _ => ?_) (fun i => ?_)
  · show (cfg0.win 7).cut (grid0.coords t) ((dats m 0 cc).after 7 t) = _
    rw [after0_7]
    funext y
    obtain ⟨-, -, -, -, -, -, e0, e1⟩ := rows_at t
    have hy0 : (y 0).val < 512 := (y 0).isLt
    have hy1 : (y 1).val < 128 := (y 1).isLt
    have ht : t.val < 32 := lt_of_lt_of_eq t.isLt N_0
    show out0_7 (iblk m cc 0 t) (iblk m cc 1 t) (iblk m cc 2 t) (iblk m cc 3 t) (iblk m cc 4 t) (iblk m cc 5 t) ((cfg0.win 7).xinj (grid0.coords t) y) = _
    have ey : ((cfg0.win 7).xinj (grid0.coords t) y : S512x128.Idx) = ix2 (⟨(y 0).val, hy0⟩ : Fin 512) (⟨(y 1).val, hy1⟩ : Fin 128) := by
      funext a
      match a with
      | ⟨0, _⟩ => rfl
      | ⟨1, _⟩ => rfl
    rw [ey]
    refine Eq.trans (route_row m cc H t _ ⟨512 * t.val + (y 0).val, by omega⟩ rfl _) ?_
    show _ = ref7 m cc (((cfg0.win 7).blk t).view.emb y)
    refine congrArg (ref7 m cc) ?_
    funext a
    apply Fin.ext
    match a with
    | ⟨0, _⟩ => show 512 * t.val + (y 0).val = win0_7.index t (0 : Fin 2) * 512 + 1 * (y 0).val; rw [e0]; omega
    | ⟨1, _⟩ => show (y 1).val = win0_7.index t (1 : Fin 2) * 128 + 1 * (y 1).val; rw [e1]; omega
  · have h0 : (i 0).val < 16384 := (i 0).isLt
    have h1 : (i 1).val < 128 := (i 1).isLt
    obtain ⟨t, ht⟩ : ∃ t : Fin cfg0.N, t.val = (i 0).val / 512 := ⟨⟨(i 0).val / 512, by rw [show cfg0.N = 32 from N_0]; omega⟩, rfl⟩
    obtain ⟨-, -, -, -, -, -, e0, e1⟩ := rows_at t
    refine ⟨t, flush0_7 t, ?_⟩
    show i ∈ ((View.whole main_v7_1).slice (win0_7.rect t)).set
    rw [View.set_slice_whole, Rect.mem_set_unit]
    intro a
    match a with
    | ⟨0, _⟩ => show win0_7.index t (0 : Fin 2) * 512 ≤ (i 0).val ∧ (i 0).val < win0_7.index t (0 : Fin 2) * 512 + 512; rw [e0, ht]; omega
    | ⟨1, _⟩ => show win0_7.index t (1 : Fin 2) * 128 ≤ (i 1).val ∧ (i 1).val < win0_7.index t (1 : Fin 2) * 128 + 128; rw [e1]; omega

end result

/-! ## The precondition -/

instance : Cert.Pre_finite_wide_mix.Facts := Cert.Pre_finite_wide_mix.Gen.facts

theorem fn_real (a0 : FVec Ideal ⟨2, ![16384, 2048]⟩ .bf16) (a1 : FVec Ideal ⟨2, ![2048, 1024]⟩ .bf16) (a2 : FVec Ideal ⟨2, ![16384, 1024]⟩ .f32)
    (a3 a4 : FVec Ideal ⟨2, ![1, 1024]⟩ .f32) (a5 : FVec Ideal ⟨2, ![1024, 8]⟩ .f32) (a6 : FVec Ideal ⟨2, ![1024, 64]⟩ .f32)
    (h : Cert.Pre_finite_wide_mix.fn (F := Ideal) a0 a1 a2 a3 a4 a5 a6 = fun _ => 1#1) : Real7 a0 a1 a2 a3 a4 a5 a6 := by
  have : Subsingleton Cert.Pre_finite_wide_mix.S_.Idx := ⟨fun _ _ => funext fun a => a.elim0⟩
  have e := congrFun h (fun a => a.elim0)
  obtain ⟨e, h6⟩ := andi_both _ _ e
  obtain ⟨e, h5⟩ := andi_both _ _ e
  obtain ⟨e, h4⟩ := andi_both _ _ e
  obtain ⟨e, h3⟩ := andi_both _ _ e
  obtain ⟨e, h2⟩ := andi_both _ _ e
  obtain ⟨h0, h1⟩ := andi_both _ _ e
  exact ⟨finite_of _ _ (fun _ => top_bf16) _ _ _ _ h0, finite_of _ _ (fun _ => top_bf16) _ _ _ _ h1, finite_of _ _ (fun _ => top_f32) _ _ _ _ h2,
    finite_of _ _ (fun _ => top_f32) _ _ _ _ h3, finite_of _ _ (fun _ => top_f32) _ _ _ _ h4, finite_of _ _ (fun _ => top_f32) _ _ _ _ h5,
    finite_of _ _ (fun _ => top_f32) _ _ _ _ h6⟩

/-! ## The kernel's run -/

/-- After the run the two result arrays are the folded blocks, and every argument is as it was. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7_0) = (dats m 0 c).arrAt 6 cfg0.N
      ∧ r.2.mem ((c : Thread nD τ).loc main_v7_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ⟨(h c).1 6, (h c).1 7, ?_⟩) (run_main m ρ)
  exact ⟨((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c))), ((h c).1 4).trans (((dats m 0 c).arrAt_in 4 rfl _).trans ((A_eq m c 4).trans (V_main_arg4 m c))),
    ((h c).2 main_arg5 (Pipeline.mem_restRefs_of main_arg5 (by decide) (by decide))).trans (V_main_arg5 m c), ((h c).2 main_arg6 (Pipeline.mem_restRefs_of main_arg6 (by decide) (by decide))).trans (V_main_arg6 m c)⟩

/-! ## The two results -/

theorem same6 (m : (ℓ : Loc nD τ sig) → Buf (Elt Ideal) ℓ) (c : Dev nD) (x0 : Vec Ideal S16384x2048 .bf16) (x1 : Vec Ideal S2048x1024 .bf16) (x2 : Vec Ideal S16384x1024 .f32) (x3 x4 : Vec Ideal S1x1024 .f32)
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e4 : x4 = m ((c : Thread nD τ).loc main_arg4)) :
    Cert.Reference7Ideal.Read.val_main_v25 (F := Ideal) x0 x1 x2 x3 x4 = ref6 m c := by
  rw [e0, e1, e2, e3, e4]
  rfl

theorem same7 (m : (ℓ : Loc nD τ sig) → Buf (Elt Ideal) ℓ) (c : Dev nD) (x0 : Vec Ideal S16384x2048 .bf16) (x1 : Vec Ideal S2048x1024 .bf16) (x2 : Vec Ideal S16384x1024 .f32) (x3 x4 : Vec Ideal S1x1024 .f32) (x5 : Vec Ideal S1024x8 .f32) (x6 : Vec Ideal S1024x64 .f32)
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e4 : x4 = m ((c : Thread nD τ).loc main_arg4)) (e5 : x5 = m ((c : Thread nD τ).loc main_arg5)) (e6 : x6 = m ((c : Thread nD τ).loc main_arg6)) :
    Cert.Reference7Ideal.Read.val_main_v108 (F := Ideal) x0 x1 x2 x3 x4 x5 x6 = ref7 m c := by
  rw [e0, e1, e2, e3, e4, e5, e6]
  rfl

theorem algebraic : Cert.algebraic_Kernel7Ideal_Reference7Ideal_pre_finite_wide_mix (hKernel7Ideal := Cert.Kernel7Ideal.Gen.facts)
    (hReference7Ideal := Cert.Reference7Ideal.Gen.facts) (hPre_finite_wide_mix := Cert.Pre_finite_wide_mix.Gen.facts) := by
  intro m g m' g' hpre hargs
  refine ⟨ref6 m, ref7 m, ?_, ?_⟩
  · refine (θ_run _ _ _).mono (fun r h c => ?_) (run m g)
    obtain ⟨h6, h7, hk⟩ := h c
    have H := fn_real _ _ _ _ _ _ _ (hpre c)
    exact ⟨h6.trans (final6 m c H), h7.trans (final7 m c H), hk⟩
  · refine (θ_run _ _ _).mono (fun r h c => ?_) (Cert.Reference7Ideal.Value.run (F := Ideal) m' g')
    obtain ⟨h6, h7, hk⟩ := h c
    obtain ⟨e0, e1, e2, e3, e4, e5, e6⟩ := hargs c
    exact ⟨h6.trans ((Cert.Reference7Ideal.Read.val_main_v25_eq _).trans (same6 m c _ _ _ _ _ e0 e1 e2 e3 e4)),
      h7.trans ((Cert.Reference7Ideal.Read.val_main_v108_eq _).trans (same7 m c _ _ _ _ _ _ _ e0 e1 e2 e3 e4 e5 e6)), hk⟩

end Cert.Proof.RouteWide
-- ==== Proof.lean ====
module

public import proofs.«01_k».proof.Proof.Gen.Pre_finite_args
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Ssd
public import proofs.«01_k».proof.Proof.Product2
public import proofs.«01_k».proof.Proof.Product3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Product4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_mix
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_wide_mix
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite_greatest
public import proofs.«01_k».proof.Proof.Combine
public import proofs.«01_k».proof.Proof.Bias
public import proofs.«01_k».proof.Proof.Product5
public import proofs.«01_k».proof.Proof.Route
public import proofs.«01_k».proof.Proof.RouteWideKernel
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The references' frames: each run leaves its arguments as they were, and no reference declares a semaphore. -/
theorem frame_ref : Cert.quiescent_ReferenceIdeal (hReferenceIdeal := Cert.ReferenceIdeal.Gen.facts) := fun m ρ _ =>
  (θ_run _ _ _).mono (fun _ h => ⟨fun c => (h c).2, funext fun s => nomatch s⟩) (Cert.ReferenceIdeal.Value.run m ρ)

theorem frame_ref_pre : Cert.quiescent_ReferenceIdeal_pre_finite_args (hReferenceIdeal := Cert.ReferenceIdeal.Gen.facts)
    (hPre_finite_args := Cert.Pre_finite_args.Gen.facts) := fun m ρ _ =>
  (θ_run _ _ _).mono (fun _ h => ⟨fun c => (h c).2, funext fun s => nomatch s⟩) (Cert.ReferenceIdeal.Value.run m ρ)

theorem frame_ref2 : Cert.quiescent_Reference2Ideal (hReference2Ideal := Cert.Reference2Ideal.Gen.facts) := fun m ρ _ =>
  (θ_run _ _ _).mono (fun _ h => ⟨fun c => (h c).2, funext fun s => nomatch s⟩) (Cert.Reference2Ideal.Value.run m ρ)

theorem frame_ref3 : Cert.quiescent_Reference3Ideal (hReference3Ideal := Cert.Reference3Ideal.Gen.facts) := fun m ρ _ =>
  (θ_run _ _ _).mono (fun _ h => ⟨fun c => (h c).2, funext fun s => nomatch s⟩) (Cert.Reference3Ideal.Value.run m ρ)

theorem frame_ref4 : Cert.quiescent_Reference4Ideal (hReference4Ideal := Cert.Reference4Ideal.Gen.facts) := fun m ρ _ =>
  (θ_run _ _ _).mono (fun _ h => ⟨fun c => (h c).2, funext fun s => nomatch s⟩) (Cert.Reference4Ideal.Value.run m ρ)

theorem frame_ref5 : Cert.quiescent_Reference5Ideal (hReference5Ideal := Cert.Reference5Ideal.Gen.facts) := fun m ρ _ =>
  (θ_run _ _ _).mono (fun _ h => ⟨fun c => (h c).2, funext fun s => nomatch s⟩) (Cert.Reference5Ideal.Value.run m ρ)

theorem frame_ref6 : Cert.quiescent_Reference6Ideal (hReference6Ideal := Cert.Reference6Ideal.Gen.facts) := fun m ρ _ =>
  (θ_run _ _ _).mono (fun _ h => ⟨fun c => (h c).2.2, funext fun s => nomatch s⟩) (Cert.Reference6Ideal.Value.run m ρ)

theorem frame_ref6_pre : Cert.quiescent_Reference6Ideal_pre_finite_mix (hReference6Ideal := Cert.Reference6Ideal.Gen.facts)
    (hPre_finite_mix := Cert.Pre_finite_mix.Gen.facts) := fun m ρ _ =>
  (θ_run _ _ _).mono (fun _ h => ⟨fun c => (h c).2.2, funext fun s => nomatch s⟩) (Cert.Reference6Ideal.Value.run m ρ)

theorem frame_ref7 : Cert.quiescent_Reference7Ideal (hReference7Ideal := Cert.Reference7Ideal.Gen.facts) := fun m ρ _ =>
  (θ_run _ _ _).mono (fun _ h => ⟨fun c => (h c).2.2, funext fun s => nomatch s⟩) (Cert.Reference7Ideal.Value.run m ρ)

theorem frame_ref7_pre : Cert.quiescent_Reference7Ideal_pre_finite_wide_mix (hReference7Ideal := Cert.Reference7Ideal.Gen.facts)
    (hPre_finite_wide_mix := Cert.Pre_finite_wide_mix.Gen.facts) := fun m ρ _ =>
  (θ_run _ _ _).mono (fun _ h => ⟨fun c => (h c).2.2, funext fun s => nomatch s⟩) (Cert.Reference7Ideal.Value.run m ρ)

theorem frame_ref8 : Cert.quiescent_Reference8Ideal (hReference8Ideal := Cert.Reference8Ideal.Gen.facts) := fun m ρ _ =>
  (θ_run _ _ _).mono (fun _ h => ⟨fun c => (h c).2, funext fun s => nomatch s⟩) (Cert.Reference8Ideal.Value.run m ρ)

theorem frame_ref8_pre : Cert.quiescent_Reference8Ideal_pre_finite_greatest (hReference8Ideal := Cert.Reference8Ideal.Gen.facts)
    (hPre_finite_greatest := Cert.Pre_finite_greatest.Gen.facts) := fun m ρ _ =>
  (θ_run _ _ _).mono (fun _ h => ⟨fun c => (h c).2, funext fun s => nomatch s⟩) (Cert.Reference8Ideal.Value.run m ρ)

theorem frame_ref9 : Cert.quiescent_Reference9Ideal (hReference9Ideal := Cert.Reference9Ideal.Gen.facts) := fun m ρ _ =>
  (θ_run _ _ _).mono (fun _ h => ⟨fun c => (h c).2, funext fun s => nomatch s⟩) (Cert.Reference9Ideal.Value.run m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite_args.Gen.facts, Cert.Pre_finite_mix.Gen.facts, Cert.Pre_finite_wide_mix.Gen.facts,
    Cert.Pre_finite_greatest.Gen.facts,
    fun m ρ _ => Cert.Kernel.Gen.frame m ρ,
    fun m ρ _ => Cert.KernelIdeal.Gen.frame m ρ,
    fun m ρ _ => Cert.KernelIdeal.Gen.frame m ρ,
    frame_ref,
    frame_ref_pre,
    fun m ρ _ => Cert.Kernel2.Gen.frame m ρ,
    fun m ρ _ => Cert.Kernel2Ideal.Gen.frame m ρ,
    frame_ref2,
    fun m ρ _ => Cert.Kernel3.Gen.frame m ρ,
    fun m ρ _ => Cert.Kernel3Ideal.Gen.frame m ρ,
    frame_ref3,
    fun m ρ _ => Cert.Kernel4.Gen.frame m ρ,
    fun m ρ _ => Cert.Kernel4Ideal.Gen.frame m ρ,
    frame_ref4,
    fun m ρ _ => Cert.Kernel5.Gen.frame m ρ,
    fun m ρ _ => Cert.Kernel5Ideal.Gen.frame m ρ,
    frame_ref5,
    fun m ρ _ => Cert.Kernel6.Gen.frame m ρ,
    fun m ρ _ => Cert.Kernel6Ideal.Gen.frame m ρ,
    fun m ρ _ => Cert.Kernel6Ideal.Gen.frame m ρ,
    frame_ref6,
    frame_ref6_pre,
    fun m ρ _ => Cert.Kernel7.Gen.frame m ρ,
    fun m ρ _ => Cert.Kernel7Ideal.Gen.frame m ρ,
    fun m ρ _ => Cert.Kernel7Ideal.Gen.frame m ρ,
    frame_ref7,
    frame_ref7_pre,
    fun m ρ _ => Cert.Kernel8.Gen.frame m ρ,
    fun m ρ _ => Cert.Kernel8Ideal.Gen.frame m ρ,
    fun m ρ _ => Cert.Kernel8Ideal.Gen.frame m ρ,
    frame_ref8,
    frame_ref8_pre,
    fun m ρ _ => Cert.Kernel9.Gen.frame m ρ,
    fun m ρ _ => Cert.Kernel9Ideal.Gen.frame m ρ,
    frame_ref9,
    trivial, Ssd.algebraic, trivial, Product2.algebraic, trivial, Product3.algebraic,
    trivial, Product4.algebraic, trivial, Product5.algebraic, trivial, Route.algebraic,
    trivial, RouteWide.algebraic, trivial, Combine.algebraic, trivial, Bias.algebraic⟩

end Cert.Proof

end
